-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4)
      ∧ r.2.mem ((c.tc : Thread Cert.KernelUp.nD Cert.KernelUp.τ).loc Cert.KernelUp.main_arg5) = m ((c.tc : Thread Cert.KernelUp.nD Cert.KernelUp.τ).loc Cert.KernelUp.main_arg5)
      ∧ r.2.mem ((c.tc : Thread Cert.KernelUp.nD Cert.KernelUp.τ).loc Cert.KernelUp.main_arg6) = m ((c.tc : Thread Cert.KernelUp.nD Cert.KernelUp.τ).loc Cert.KernelUp.main_arg6))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
      ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
      ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4)
      ∧ r.2.mem ((c.tc : Thread Cert.ReferenceUpIdeal.nD Cert.ReferenceUpIdeal.τ).loc Cert.ReferenceUpIdeal.main_arg5) = m ((c.tc : Thread Cert.ReferenceUpIdeal.nD Cert.ReferenceUpIdeal.τ).loc Cert.ReferenceUpIdeal.main_arg5)
      ∧ r.2.mem ((c.tc : Thread Cert.ReferenceUpIdeal.nD Cert.ReferenceUpIdeal.τ).loc Cert.ReferenceUpIdeal.main_arg6) = m ((c.tc : Thread Cert.ReferenceUpIdeal.nD Cert.ReferenceUpIdeal.τ).loc Cert.ReferenceUpIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v1) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v23) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v19) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)
      ∧ m' ((c.tc : Thread Cert.ReferenceUpIdeal.nD Cert.ReferenceUpIdeal.τ).loc Cert.ReferenceUpIdeal.main_arg5) = m ((c.tc : Thread Cert.KernelUpIdeal.nD Cert.KernelUpIdeal.τ).loc Cert.KernelUpIdeal.main_arg5)
      ∧ m' ((c.tc : Thread Cert.ReferenceUpIdeal.nD Cert.ReferenceUpIdeal.τ).loc Cert.ReferenceUpIdeal.main_arg6) = m ((c.tc : Thread Cert.KernelUpIdeal.nD Cert.KernelUpIdeal.τ).loc Cert.KernelUpIdeal.main_arg6)) →
    ∃ (v0 : (c : Dev Cert.KernelUpIdeal.nD) → Buf (Elt Ideal) ((c.tc : Thread Cert.KernelUpIdeal.nD Cert.KernelUpIdeal.τ).loc Cert.KernelUpIdeal.main_v2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
          ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
          ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v65) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4)
          ∧ r.2.mem ((c.tc : Thread Cert.ReferenceUpIdeal.nD Cert.ReferenceUpIdeal.τ).loc Cert.ReferenceUpIdeal.main_arg5) = m' ((c.tc : Thread Cert.ReferenceUpIdeal.nD Cert.ReferenceUpIdeal.τ).loc Cert.ReferenceUpIdeal.main_arg5)
          ∧ r.2.mem ((c.tc : Thread Cert.ReferenceUpIdeal.nD Cert.ReferenceUpIdeal.τ).loc Cert.ReferenceUpIdeal.main_arg6) = m' ((c.tc : Thread Cert.ReferenceUpIdeal.nD Cert.ReferenceUpIdeal.τ).loc Cert.ReferenceUpIdeal.main_arg6))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelDown : Cert.KernelDown.Facts) (hKernelDownIdeal : Cert.KernelDownIdeal.Facts) (hReferenceDownIdeal : Cert.ReferenceDownIdeal.Facts) (hKernelUp : Cert.KernelUp.Facts) (hKernelUpIdeal : Cert.KernelUpIdeal.Facts) (hReferenceUpIdeal : Cert.ReferenceUpIdeal.Facts),
    quiescent_Kernel (hKernel := hKernel)
    ∧ quiescent_KernelIdeal (hKernelIdeal := hKernelIdeal)
    ∧ quiescent_ReferenceIdeal (hReferenceIdeal := hReferenceIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ preserves_Kernel_KernelIdeal
    ∧ algebraic_KernelIdeal_ReferenceIdeal (hKernelIdeal := hKernelIdeal) (hReferenceIdeal := hReferenceIdeal)
    ∧ preserves_KernelIn_KernelInIdeal
    ∧ algebraic_KernelInIdeal_ReferenceInIdeal (hKernelInIdeal := hKernelInIdeal) (hReferenceInIdeal := hReferenceInIdeal)
    ∧ preserves_KernelDown_KernelDownIdeal
    ∧ algebraic_KernelDownIdeal_ReferenceDownIdeal (hKernelDownIdeal := hKernelDownIdeal) (hReferenceDownIdeal := hReferenceDownIdeal)
    ∧ preserves_KernelUp_KernelUpIdeal
    ∧ algebraic_KernelUpIdeal_ReferenceUpIdeal (hKernelUpIdeal := hKernelUpIdeal) (hReferenceUpIdeal := hReferenceUpIdeal)
-- ==== Kernel.lean ====
abbrev S8x8x128x4096 : Shape := ⟨4, ![8, 8, 128, 4096]⟩
abbrev S8x8x4096x128 : Shape := ⟨4, ![8, 8, 4096, 128]⟩
abbrev S8x8x8x64x512 : Shape := ⟨5, ![8, 8, 8, 64, 512]⟩
abbrev S32768x512 : Shape := ⟨2, ![32768, 512]⟩
abbrev S1x8x128x512 : Shape := ⟨4, ![1, 8, 128, 512]⟩
abbrev S1x8x4096x128 : Shape := ⟨4, ![1, 8, 4096, 128]⟩
abbrev S1x8x8x64x512 : Shape := ⟨5, ![1, 8, 8, 64, 512]⟩
abbrev S512x512 : Shape := ⟨2, ![512, 512]⟩
abbrev S2x64x512 : Shape := ⟨3, ![2, 64, 512]⟩
abbrev S2x512x512 : Shape := ⟨3, ![2, 512, 512]⟩
abbrev S1x512 : Shape := ⟨2, ![1, 512]⟩
abbrev S1x1x512x128 : Shape := ⟨4, ![1, 1, 512, 128]⟩
abbrev S512x128 : Shape := ⟨2, ![512, 128]⟩
abbrev S1x1x128x512 : Shape := ⟨4, ![1, 1, 128, 512]⟩
abbrev S128x512 : Shape := ⟨2, ![128, 512]⟩
abbrev S1x512x512 : Shape := ⟨3, ![1, 512, 512]⟩
abbrev S1x1x1x64x512 : Shape := ⟨5, ![1, 1, 1, 64, 512]⟩
abbrev S64x512 : Shape := ⟨2, ![64, 512]⟩
abbrev S512 : Shape := ⟨1, ![512]⟩
abbrev S1x64x512 : Shape := ⟨3, ![1, 64, 512]⟩

abbrev nBuf : Space → Nat
  | .hbm => 4
  | .vmem => 10
  | .smem => 0
  | _ => 0

abbrev bufTy : (tb : Table) → Fin (tcTables nBuf tb) → BufTy
  | .hbm, ⟨0, _⟩ => ⟨S8x8x128x4096, .bf16⟩
  | .hbm, ⟨1, _⟩ => ⟨S8x8x4096x128, .bf16⟩
  | .hbm, ⟨2, _⟩ => ⟨S8x8x8x64x512, .bf16⟩
  | .hbm, ⟨3, _⟩ => ⟨S32768x512, .f32⟩
  | .local _ .vmem, ⟨0, _⟩ => ⟨S1x8x128x512, .bf16⟩
  | .local _ .vmem, ⟨1, _⟩ => ⟨S1x8x128x512, .bf16⟩
  | .local _ .vmem, ⟨2, _⟩ => ⟨S1x8x4096x128, .bf16⟩
  | .local _ .vmem, ⟨3, _⟩ => ⟨S1x8x4096x128, .bf16⟩
  | .local _ .vmem, ⟨4, _⟩ => ⟨S1x8x8x64x512, .bf16⟩
  | .local _ .vmem, ⟨5, _⟩ => ⟨S1x8x8x64x512, .bf16⟩
  | .local _ .vmem, ⟨6, _⟩ => ⟨S512x512, .f32⟩
  | .local _ .vmem, ⟨7, _⟩ => ⟨S512x512, .f32⟩
  | .local _ .vmem, ⟨8, _⟩ => ⟨S2x64x512, .f32⟩
  | .local _ .vmem, ⟨9, _⟩ => ⟨S2x512x512, .f32⟩
  | _, _ => ⟨S8x8x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

def k0_mult1 : BitVec 32 :=
  let c0_i32 : BitVec 32 := 0#32
  c0_i32
@[reducible] def k0_t1_loop (i : grid0.Coords) : Scf.Loop 32 :=
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_23 : BitVec 32 := 1#32
  ⟨c0_i32_21, v41, c1_i32_23⟩
def k0_mult2 (i : grid0.Coords) (k0_t1 : Fin (k0_t1_loop i).trips) : BitVec 32 :=
  let c0_i32_346 : BitVec 32 := 0#32
  let c2_i32_345 : BitVec 32 := 2#32
  let c0_i32_21 : BitVec 32 := 0#32
  let c1_i32_23 : BitVec 32 := 1#32
  let arg9 : BitVec 32 := Scf.iv c0_i32_21 c1_i32_23 k0_t1
  let v536 : BitVec 32 := Scalar.muli c2_i32_345 arg9
  let v537 : BitVec 32 := Scalar.addi c0_i32_346 v536
  let c512_i32_347 : BitVec 32 := 512#32
  let v538 : BitVec 32 := Scalar.muli v537 c512_i32_347
  v538
def k0_off1 (i : grid0.Coords) (k0_t1 : Fin (k0_t1_loop i).trips) : Fin 4 → Nat :=
  let c0_348 : Index := 0#32
  let c1_349 : Index := 1#32
  let c0_i32_346 : BitVec 32 := 0#32
  let c2_i32_345 : BitVec 32 := 2#32
  let c0_i32_21 : BitVec 32 := 0#32
  let c1_i32_23 : BitVec 32 := 1#32
  let arg9 : BitVec 32 := Scf.iv c0_i32_21 c1_i32_23 k0_t1
  let v536 : BitVec 32 := Scalar.muli c2_i32_345 arg9
  let v537 : BitVec 32 := Scalar.addi c0_i32_346 v536
  let c512_i32_347 : BitVec 32 := 512#32
  let v538 : BitVec 32 := Scalar.muli v537 c512_i32_347
  let v539 : BitVec 32 := v538
  let v540 : Index := Scalar.indexCast v539
  let c0_350 : Index := 0#32
  ![0, 1, v540.toNat, 0]
def k0_off2 (i : grid0.Coords) (k0_t1 : Fin (k0_t1_loop i).trips) : Fin 5 → Nat :=
  let c0_362 : Index := 0#32
  let c0_363 : Index := 0#32
  let c0_i32_346 : BitVec 32 := 0#32
  let c2_i32_345 : BitVec 32 := 2#32
  let c0_i32_21 : BitVec 32 := 0#32
  let c1_i32_23 : BitVec 32 := 1#32
  let arg9 : BitVec 32 := Scf.iv c0_i32_21 c1_i32_23 k0_t1
  let v536 : BitVec 32 := Scalar.muli c2_i32_345 arg9
  let v537 : BitVec 32 := Scalar.addi c0_i32_346 v536
  let v551 : Index := Scalar.indexCast v537
  let c0_364 : Index := 0#32
  let c0_365 : Index := 0#32
  ![0, 0, v551.toNat, 0, 0]
def k0_mult3 (i : grid0.Coords) (k0_t1 : Fin (k0_t1_loop i).trips) : BitVec 32 :=
  let c0_i32_346 : BitVec 32 := 0#32
  let c2_i32_345 : BitVec 32 := 2#32
  let c0_i32_21 : BitVec 32 := 0#32
  let c1_i32_23 : BitVec 32 := 1#32
  let arg9 : BitVec 32 := Scf.iv c0_i32_21 c1_i32_23 k0_t1
  let v536 : BitVec 32 := Scalar.muli c2_i32_345 arg9
  let v537 : BitVec 32 := Scalar.addi c0_i32_346 v536
  let c1_i32_375 : BitVec 32 := 1#32
  let v576 : BitVec 32 := Scalar.addi v537 c1_i32_375
  let arg2 : BitVec 32 := BitVec.ofNat 32 (i 2).val
  let v577 : BitVec 32 := Scalar.minsi v576 arg2
  let c512_i32_376 : BitVec 32 := 512#32
  let v578 : BitVec 32 := Scalar.muli v577 c512_i32_376
  v578
def k0_off3 (i : grid0.Coords) (k0_t1 : Fin (k0_t1_loop i).trips) : Fin 4 → Nat :=
  let c0_377 : Index := 0#32
  let c0_378 : Index := 0#32
  let c0_i32_346 : BitVec 32 := 0#32
  let c2_i32_345 : BitVec 32 := 2#32
  let c0_i32_21 : BitVec 32 := 0#32
  let c1_i32_23 : BitVec 32 := 1#32
  let arg9 : BitVec 32 := Scf.iv c0_i32_21 c1_i32_23 k0_t1
  let v536 : BitVec 32 := Scalar.muli c2_i32_345 arg9
  let v537 : BitVec 32 := Scalar.addi c0_i32_346 v536
  let c1_i32_375 : BitVec 32 := 1#32
  let v576 : BitVec 32 := Scalar.addi v537 c1_i32_375
  let arg2 : BitVec 32 := BitVec.ofNat 32 (i 2).val
  let v577 : BitVec 32 := Scalar.minsi v576 arg2
  let c512_i32_376 : BitVec 32 := 512#32
  let v578 : BitVec 32 := Scalar.muli v577 c512_i32_376
  let v579 : BitVec 32 := v578
  let v580 : Index := Scalar.indexCast v579
  let c0_379 : Index := 0#32
  ![0, 0, v580.toNat, 0]
def k0_off4 (i : grid0.Coords) (k0_t1 : Fin (k0_t1_loop i).trips) : Fin 5 → Nat :=
  let c0_391 : Index := 0#32
  let c1_392 : Index := 1#32
  let c0_i32_346 : BitVec 32 := 0#32
  let c2_i32_345 : BitVec 32 := 2#32
  let c0_i32_21 : BitVec 32 := 0#32
  let c1_i32_23 : BitVec 32 := 1#32
  let arg9 : BitVec 32 := Scf.iv c0_i32_21 c1_i32_23 k0_t1
  let v536 : BitVec 32 := Scalar.muli c2_i32_345 arg9
  let v537 : BitVec 32 := Scalar.addi c0_i32_346 v536
  let v591 : Index := Scalar.indexCast v537
  let c0_393 : Index := 0#32
  let c0_394 : Index := 0#32
  ![0, 1, v591.toNat, 0, 0]
def k0_mult4 (i : grid0.Coords) (k0_t1 : Fin (k0_t1_loop i).trips) : BitVec 32 :=
  let c0_i32_343 : BitVec 32 := 0#32
  let c2_i32_342 : BitVec 32 := 2#32
  let c0_i32_21 : BitVec 32 := 0#32
  let c1_i32_23 : BitVec 32 := 1#32
  let arg9 : BitVec 32 := Scf.iv c0_i32_21 c1_i32_23 k0_t1
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  v616
def k0_off5 (i : grid0.Coords) (k0_t1 : Fin (k0_t1_loop i).trips) : Fin 4 → Nat :=
  let c0_405 : Index := 0#32
  let c1_406 : Index := 1#32
  let c0_i32_343 : BitVec 32 := 0#32
  let c2_i32_342 : BitVec 32 := 2#32
  let c0_i32_21 : BitVec 32 := 0#32
  let c1_i32_23 : BitVec 32 := 1#32
  let arg9 : BitVec 32 := Scf.iv c0_i32_21 c1_i32_23 k0_t1
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  let v617 : BitVec 32 := v616
  let v618 : Index := Scalar.indexCast v617
  let c0_407 : Index := 0#32
  ![0, 1, v618.toNat, 0]
def k0_off6 (i : grid0.Coords) (k0_t1 : Fin (k0_t1_loop i).trips) : Fin 5 → Nat :=
  let c0_419 : Index := 0#32
  let c0_420 : Index := 0#32
  let c0_i32_343 : BitVec 32 := 0#32
  let c2_i32_342 : BitVec 32 := 2#32
  let c0_i32_21 : BitVec 32 := 0#32
  let c1_i32_23 : BitVec 32 := 1#32
  let arg9 : BitVec 32 := Scf.iv c0_i32_21 c1_i32_23 k0_t1
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v629 : Index := Scalar.indexCast v535
  let c0_421 : Index := 0#32
  let c0_422 : Index := 0#32
  ![0, 0, v629.toNat, 0, 0]
def k0_mult5 (i : grid0.Coords) (k0_t1 : Fin (k0_t1_loop i).trips) : BitVec 32 :=
  let c0_i32_343 : BitVec 32 := 0#32
  let c2_i32_342 : BitVec 32 := 2#32
  let c0_i32_21 : BitVec 32 := 0#32
  let c1_i32_23 : BitVec 32 := 1#32
  let arg9 : BitVec 32 := Scf.iv c0_i32_21 c1_i32_23 k0_t1
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let arg2 : BitVec 32 := BitVec.ofNat 32 (i 2).val
  let v655 : BitVec 32 := Scalar.minsi v654 arg2
  let c512_i32_433 : BitVec 32 := 512#32
  let v656 : BitVec 32 := Scalar.muli v655 c512_i32_433
  v656
def k0_off7 (i : grid0.Coords) (k0_t1 : Fin (k0_t1_loop i).trips) : Fin 4 → Nat :=
  let c0_434 : Index := 0#32
  let c0_435 : Index := 0#32
  let c0_i32_343 : BitVec 32 := 0#32
  let c2_i32_342 : BitVec 32 := 2#32
  let c0_i32_21 : BitVec 32 := 0#32
  let c1_i32_23 : BitVec 32 := 1#32
  let arg9 : BitVec 32 := Scf.iv c0_i32_21 c1_i32_23 k0_t1
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let arg2 : BitVec 32 := BitVec.ofNat 32 (i 2).val
  let v655 : BitVec 32 := Scalar.minsi v654 arg2
  let c512_i32_433 : BitVec 32 := 512#32
  let v656 : BitVec 32 := Scalar.muli v655 c512_i32_433
  let v657 : BitVec 32 := v656
  let v658 : Index := Scalar.indexCast v657
  let c0_436 : Index := 0#32
  ![0, 0, v658.toNat, 0]
def k0_off8 (i : grid0.Coords) (k0_t1 : Fin (k0_t1_loop i).trips) : Fin 5 → Nat :=
  let c0_448 : Index := 0#32
  let c1_449 : Index := 1#32
  let c0_i32_343 : BitVec 32 := 0#32
  let c2_i32_342 : BitVec 32 := 2#32
  let c0_i32_21 : BitVec 32 := 0#32
  let c1_i32_23 : BitVec 32 := 1#32
  let arg9 : BitVec 32 := Scf.iv c0_i32_21 c1_i32_23 k0_t1
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v669 : Index := Scalar.indexCast v535
  let c0_450 : Index := 0#32
  let c0_451 : Index := 0#32
  ![0, 1, v669.toNat, 0, 0]
@[reducible] def k0_t2_loop (i : grid0.Coords) : Scf.Loop 32 :=
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let v38 : BitVec 32 := Scalar.addi c0_i32_21 v37
  let c1_i32_24 : BitVec 32 := 1#32
  ⟨v41, v38, c1_i32_24⟩
def k0_mult6 (i : grid0.Coords) (k0_t2 : Fin (k0_t2_loop i).trips) : BitVec 32 :=
  let c0_i32_346 : BitVec 32 := 0#32
  let c2_i32_345 : BitVec 32 := 2#32
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg9 : BitVec 32 := Scf.iv v41 c1_i32_24 k0_t2
  let v536 : BitVec 32 := Scalar.muli c2_i32_345 arg9
  let v537 : BitVec 32 := Scalar.addi c0_i32_346 v536
  let c512_i32_347 : BitVec 32 := 512#32
  let v538 : BitVec 32 := Scalar.muli v537 c512_i32_347
  v538
def k0_off9 (i : grid0.Coords) (k0_t2 : Fin (k0_t2_loop i).trips) : Fin 4 → Nat :=
  let c0_348 : Index := 0#32
  let c1_349 : Index := 1#32
  let c0_i32_346 : BitVec 32 := 0#32
  let c2_i32_345 : BitVec 32 := 2#32
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg9 : BitVec 32 := Scf.iv v41 c1_i32_24 k0_t2
  let v536 : BitVec 32 := Scalar.muli c2_i32_345 arg9
  let v537 : BitVec 32 := Scalar.addi c0_i32_346 v536
  let c512_i32_347 : BitVec 32 := 512#32
  let v538 : BitVec 32 := Scalar.muli v537 c512_i32_347
  let v539 : BitVec 32 := v538
  let v540 : Index := Scalar.indexCast v539
  let c0_350 : Index := 0#32
  ![0, 1, v540.toNat, 0]
def k0_off10 (i : grid0.Coords) (k0_t2 : Fin (k0_t2_loop i).trips) : Fin 5 → Nat :=
  let c0_362 : Index := 0#32
  let c0_363 : Index := 0#32
  let c0_i32_346 : BitVec 32 := 0#32
  let c2_i32_345 : BitVec 32 := 2#32
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg9 : BitVec 32 := Scf.iv v41 c1_i32_24 k0_t2
  let v536 : BitVec 32 := Scalar.muli c2_i32_345 arg9
  let v537 : BitVec 32 := Scalar.addi c0_i32_346 v536
  let v551 : Index := Scalar.indexCast v537
  let c0_364 : Index := 0#32
  let c0_365 : Index := 0#32
  ![0, 0, v551.toNat, 0, 0]
def k0_mult7 (i : grid0.Coords) (k0_t2 : Fin (k0_t2_loop i).trips) : BitVec 32 :=
  let c0_i32_346 : BitVec 32 := 0#32
  let c2_i32_345 : BitVec 32 := 2#32
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg9 : BitVec 32 := Scf.iv v41 c1_i32_24 k0_t2
  let v536 : BitVec 32 := Scalar.muli c2_i32_345 arg9
  let v537 : BitVec 32 := Scalar.addi c0_i32_346 v536
  let c1_i32_375 : BitVec 32 := 1#32
  let v576 : BitVec 32 := Scalar.addi v537 c1_i32_375
  let v577 : BitVec 32 := Scalar.minsi v576 arg2
  let c512_i32_376 : BitVec 32 := 512#32
  let v578 : BitVec 32 := Scalar.muli v577 c512_i32_376
  v578
def k0_off11 (i : grid0.Coords) (k0_t2 : Fin (k0_t2_loop i).trips) : Fin 4 → Nat :=
  let c0_377 : Index := 0#32
  let c0_378 : Index := 0#32
  let c0_i32_346 : BitVec 32 := 0#32
  let c2_i32_345 : BitVec 32 := 2#32
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg9 : BitVec 32 := Scf.iv v41 c1_i32_24 k0_t2
  let v536 : BitVec 32 := Scalar.muli c2_i32_345 arg9
  let v537 : BitVec 32 := Scalar.addi c0_i32_346 v536
  let c1_i32_375 : BitVec 32 := 1#32
  let v576 : BitVec 32 := Scalar.addi v537 c1_i32_375
  let v577 : BitVec 32 := Scalar.minsi v576 arg2
  let c512_i32_376 : BitVec 32 := 512#32
  let v578 : BitVec 32 := Scalar.muli v577 c512_i32_376
  let v579 : BitVec 32 := v578
  let v580 : Index := Scalar.indexCast v579
  let c0_379 : Index := 0#32
  ![0, 0, v580.toNat, 0]
def k0_off12 (i : grid0.Coords) (k0_t2 : Fin (k0_t2_loop i).trips) : Fin 5 → Nat :=
  let c0_391 : Index := 0#32
  let c1_392 : Index := 1#32
  let c0_i32_346 : BitVec 32 := 0#32
  let c2_i32_345 : BitVec 32 := 2#32
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg9 : BitVec 32 := Scf.iv v41 c1_i32_24 k0_t2
  let v536 : BitVec 32 := Scalar.muli c2_i32_345 arg9
  let v537 : BitVec 32 := Scalar.addi c0_i32_346 v536
  let v591 : Index := Scalar.indexCast v537
  let c0_393 : Index := 0#32
  let c0_394 : Index := 0#32
  ![0, 1, v591.toNat, 0, 0]
def k0_mult8 (i : grid0.Coords) (k0_t2 : Fin (k0_t2_loop i).trips) : BitVec 32 :=
  let c0_i32_343 : BitVec 32 := 0#32
  let c2_i32_342 : BitVec 32 := 2#32
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg9 : BitVec 32 := Scf.iv v41 c1_i32_24 k0_t2
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  v616
def k0_off13 (i : grid0.Coords) (k0_t2 : Fin (k0_t2_loop i).trips) : Fin 4 → Nat :=
  let c0_405 : Index := 0#32
  let c1_406 : Index := 1#32
  let c0_i32_343 : BitVec 32 := 0#32
  let c2_i32_342 : BitVec 32 := 2#32
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg9 : BitVec 32 := Scf.iv v41 c1_i32_24 k0_t2
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  let v617 : BitVec 32 := v616
  let v618 : Index := Scalar.indexCast v617
  let c0_407 : Index := 0#32
  ![0, 1, v618.toNat, 0]
def k0_off14 (i : grid0.Coords) (k0_t2 : Fin (k0_t2_loop i).trips) : Fin 5 → Nat :=
  let c0_419 : Index := 0#32
  let c0_420 : Index := 0#32
  let c0_i32_343 : BitVec 32 := 0#32
  let c2_i32_342 : BitVec 32 := 2#32
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg9 : BitVec 32 := Scf.iv v41 c1_i32_24 k0_t2
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v629 : Index := Scalar.indexCast v535
  let c0_421 : Index := 0#32
  let c0_422 : Index := 0#32
  ![0, 0, v629.toNat, 0, 0]
def k0_mult9 (i : grid0.Coords) (k0_t2 : Fin (k0_t2_loop i).trips) : BitVec 32 :=
  let c0_i32_343 : BitVec 32 := 0#32
  let c2_i32_342 : BitVec 32 := 2#32
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg9 : BitVec 32 := Scf.iv v41 c1_i32_24 k0_t2
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let v655 : BitVec 32 := Scalar.minsi v654 arg2
  let c512_i32_433 : BitVec 32 := 512#32
  let v656 : BitVec 32 := Scalar.muli v655 c512_i32_433
  v656
def k0_off15 (i : grid0.Coords) (k0_t2 : Fin (k0_t2_loop i).trips) : Fin 4 → Nat :=
  let c0_434 : Index := 0#32
  let c0_435 : Index := 0#32
  let c0_i32_343 : BitVec 32 := 0#32
  let c2_i32_342 : BitVec 32 := 2#32
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg9 : BitVec 32 := Scf.iv v41 c1_i32_24 k0_t2
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let v655 : BitVec 32 := Scalar.minsi v654 arg2
  let c512_i32_433 : BitVec 32 := 512#32
  let v656 : BitVec 32 := Scalar.muli v655 c512_i32_433
  let v657 : BitVec 32 := v656
  let v658 : Index := Scalar.indexCast v657
  let c0_436 : Index := 0#32
  ![0, 0, v658.toNat, 0]
def k0_off16 (i : grid0.Coords) (k0_t2 : Fin (k0_t2_loop i).trips) : Fin 5 → Nat :=
  let c0_448 : Index := 0#32
  let c1_449 : Index := 1#32
  let c0_i32_343 : BitVec 32 := 0#32
  let c2_i32_342 : BitVec 32 := 2#32
  let c0_i32_21 : BitVec 32 := 0#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg9 : BitVec 32 := Scf.iv v41 c1_i32_24 k0_t2
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v669 : Index := Scalar.indexCast v535
  let c0_450 : Index := 0#32
  let c0_451 : Index := 0#32
  ![0, 1, v669.toNat, 0, 0]
@[reducible] def k0_t3_loop (i : grid0.Coords) : Scf.Loop 32 :=
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let v46 : BitVec 32 := Scalar.subi arg2 v45
  let c1_i32_27 : BitVec 32 := 1#32
  let v48 : BitVec 32 := Scalar.divsi v46 c1_i32_27
  let v49 : BitVec 32 := Scalar.muli v48 c1_i32_27
  let v50 : BitVec 32 := Scalar.addi v45 v49
  let c1_i32_28 : BitVec 32 := 1#32
  ⟨v45, v50, c1_i32_28⟩
def k0_mult10 (i : grid0.Coords) (k0_t3 : Fin (k0_t3_loop i).trips) : BitVec 32 :=
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let c1_i32_28 : BitVec 32 := 1#32
  let arg9 : BitVec 32 := Scf.iv v45 c1_i32_28 k0_t3
  let c512_i32_342 : BitVec 32 := 512#32
  let v533 : BitVec 32 := Scalar.muli arg9 c512_i32_342
  v533
def k0_off17 (i : grid0.Coords) (k0_t3 : Fin (k0_t3_loop i).trips) : Fin 4 → Nat :=
  let c0_343 : Index := 0#32
  let c1_344 : Index := 1#32
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let c1_i32_28 : BitVec 32 := 1#32
  let arg9 : BitVec 32 := Scf.iv v45 c1_i32_28 k0_t3
  let c512_i32_342 : BitVec 32 := 512#32
  let v533 : BitVec 32 := Scalar.muli arg9 c512_i32_342
  let v534 : BitVec 32 := v533
  let v535 : Index := Scalar.indexCast v534
  let c0_345 : Index := 0#32
  ![0, 1, v535.toNat, 0]
def k0_off18 (i : grid0.Coords) (k0_t3 : Fin (k0_t3_loop i).trips) : Fin 5 → Nat :=
  let c0_357 : Index := 0#32
  let c0_358 : Index := 0#32
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let c1_i32_28 : BitVec 32 := 1#32
  let arg9 : BitVec 32 := Scf.iv v45 c1_i32_28 k0_t3
  let v546 : Index := Scalar.indexCast arg9
  let c0_359 : Index := 0#32
  let c0_360 : Index := 0#32
  ![0, 0, v546.toNat, 0, 0]
def k0_mult11 (i : grid0.Coords) (k0_t3 : Fin (k0_t3_loop i).trips) : BitVec 32 :=
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let c1_i32_28 : BitVec 32 := 1#32
  let arg9 : BitVec 32 := Scf.iv v45 c1_i32_28 k0_t3
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  v573
def k0_off19 (i : grid0.Coords) (k0_t3 : Fin (k0_t3_loop i).trips) : Fin 4 → Nat :=
  let c0_372 : Index := 0#32
  let c0_373 : Index := 0#32
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let c1_i32_28 : BitVec 32 := 1#32
  let arg9 : BitVec 32 := Scf.iv v45 c1_i32_28 k0_t3
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  let v574 : BitVec 32 := v573
  let v575 : Index := Scalar.indexCast v574
  let c0_374 : Index := 0#32
  ![0, 0, v575.toNat, 0]
def k0_off20 (i : grid0.Coords) (k0_t3 : Fin (k0_t3_loop i).trips) : Fin 5 → Nat :=
  let c0_386 : Index := 0#32
  let c1_387 : Index := 1#32
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let c1_i32_28 : BitVec 32 := 1#32
  let arg9 : BitVec 32 := Scf.iv v45 c1_i32_28 k0_t3
  let v586 : Index := Scalar.indexCast arg9
  let c0_388 : Index := 0#32
  let c0_389 : Index := 0#32
  ![0, 1, v586.toNat, 0, 0]
@[reducible] def k0_t4_loop (i : grid0.Coords) : Scf.Loop 32 :=
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let v46 : BitVec 32 := Scalar.subi arg2 v45
  let c1_i32_27 : BitVec 32 := 1#32
  let v48 : BitVec 32 := Scalar.divsi v46 c1_i32_27
  let v49 : BitVec 32 := Scalar.muli v48 c1_i32_27
  let v50 : BitVec 32 := Scalar.addi v45 v49
  let v47 : BitVec 32 := Scalar.addi v45 v46
  let c1_i32_29 : BitVec 32 := 1#32
  ⟨v50, v47, c1_i32_29⟩
def k0_mult12 (i : grid0.Coords) (k0_t4 : Fin (k0_t4_loop i).trips) : BitVec 32 :=
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let v46 : BitVec 32 := Scalar.subi arg2 v45
  let c1_i32_27 : BitVec 32 := 1#32
  let v48 : BitVec 32 := Scalar.divsi v46 c1_i32_27
  let v49 : BitVec 32 := Scalar.muli v48 c1_i32_27
  let v50 : BitVec 32 := Scalar.addi v45 v49
  let c1_i32_29 : BitVec 32 := 1#32
  let arg9 : BitVec 32 := Scf.iv v50 c1_i32_29 k0_t4
  let c512_i32_342 : BitVec 32 := 512#32
  let v533 : BitVec 32 := Scalar.muli arg9 c512_i32_342
  v533
def k0_off21 (i : grid0.Coords) (k0_t4 : Fin (k0_t4_loop i).trips) : Fin 4 → Nat :=
  let c0_343 : Index := 0#32
  let c1_344 : Index := 1#32
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let v46 : BitVec 32 := Scalar.subi arg2 v45
  let c1_i32_27 : BitVec 32 := 1#32
  let v48 : BitVec 32 := Scalar.divsi v46 c1_i32_27
  let v49 : BitVec 32 := Scalar.muli v48 c1_i32_27
  let v50 : BitVec 32 := Scalar.addi v45 v49
  let c1_i32_29 : BitVec 32 := 1#32
  let arg9 : BitVec 32 := Scf.iv v50 c1_i32_29 k0_t4
  let c512_i32_342 : BitVec 32 := 512#32
  let v533 : BitVec 32 := Scalar.muli arg9 c512_i32_342
  let v534 : BitVec 32 := v533
  let v535 : Index := Scalar.indexCast v534
  let c0_345 : Index := 0#32
  ![0, 1, v535.toNat, 0]
def k0_off22 (i : grid0.Coords) (k0_t4 : Fin (k0_t4_loop i).trips) : Fin 5 → Nat :=
  let c0_357 : Index := 0#32
  let c0_358 : Index := 0#32
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let v46 : BitVec 32 := Scalar.subi arg2 v45
  let c1_i32_27 : BitVec 32 := 1#32
  let v48 : BitVec 32 := Scalar.divsi v46 c1_i32_27
  let v49 : BitVec 32 := Scalar.muli v48 c1_i32_27
  let v50 : BitVec 32 := Scalar.addi v45 v49
  let c1_i32_29 : BitVec 32 := 1#32
  let arg9 : BitVec 32 := Scf.iv v50 c1_i32_29 k0_t4
  let v546 : Index := Scalar.indexCast arg9
  let c0_359 : Index := 0#32
  let c0_360 : Index := 0#32
  ![0, 0, v546.toNat, 0, 0]
def k0_mult13 (i : grid0.Coords) (k0_t4 : Fin (k0_t4_loop i).trips) : BitVec 32 :=
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let v46 : BitVec 32 := Scalar.subi arg2 v45
  let c1_i32_27 : BitVec 32 := 1#32
  let v48 : BitVec 32 := Scalar.divsi v46 c1_i32_27
  let v49 : BitVec 32 := Scalar.muli v48 c1_i32_27
  let v50 : BitVec 32 := Scalar.addi v45 v49
  let c1_i32_29 : BitVec 32 := 1#32
  let arg9 : BitVec 32 := Scf.iv v50 c1_i32_29 k0_t4
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  v573
def k0_off23 (i : grid0.Coords) (k0_t4 : Fin (k0_t4_loop i).trips) : Fin 4 → Nat :=
  let c0_372 : Index := 0#32
  let c0_373 : Index := 0#32
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let v46 : BitVec 32 := Scalar.subi arg2 v45
  let c1_i32_27 : BitVec 32 := 1#32
  let v48 : BitVec 32 := Scalar.divsi v46 c1_i32_27
  let v49 : BitVec 32 := Scalar.muli v48 c1_i32_27
  let v50 : BitVec 32 := Scalar.addi v45 v49
  let c1_i32_29 : BitVec 32 := 1#32
  let arg9 : BitVec 32 := Scf.iv v50 c1_i32_29 k0_t4
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  let v574 : BitVec 32 := v573
  let v575 : Index := Scalar.indexCast v574
  let c0_374 : Index := 0#32
  ![0, 0, v575.toNat, 0]
def k0_off24 (i : grid0.Coords) (k0_t4 : Fin (k0_t4_loop i).trips) : Fin 5 → Nat :=
  let c0_386 : Index := 0#32
  let c1_387 : Index := 1#32
  let c0_i32_26 : BitVec 32 := 0#32
  let c2_i32_25 : BitVec 32 := 2#32
  let arg2 : BitVec 32 := BitVec.ofNat 32 (i 2).val
  let c0_i32_15 : BitVec 32 := 0#32
  let v19 : BitVec 32 := Scalar.subi arg2 c0_i32_15
  let c0_i32_16 : BitVec 32 := 0#32
  let v21 : BitVec 1 := Scalar.cmpi .sgt v19 c0_i32_16
  let v22 : BitVec 32 := Scalar.extui v21
  let c0_i32_17 : BitVec 32 := 0#32
  let v23 : BitVec 1 := Scalar.cmpi .slt v19 c0_i32_17
  let v24 : BitVec 32 := Scalar.extui v23
  let v25 : BitVec 32 := Scalar.subi v22 v24
  let c2_i32 : BitVec 32 := 2#32
  let c0_i32_18 : BitVec 32 := 0#32
  let v26 : BitVec 1 := Scalar.cmpi .sgt c2_i32 c0_i32_18
  let v27 : BitVec 32 := Scalar.extui v26
  let c0_i32_19 : BitVec 32 := 0#32
  let v28 : BitVec 1 := Scalar.cmpi .slt c2_i32 c0_i32_19
  let v29 : BitVec 32 := Scalar.extui v28
  let v30 : BitVec 32 := Scalar.subi v27 v29
  let v31 : BitVec 1 := Scalar.cmpi .ne v25 v30
  let v32 : BitVec 32 := Scalar.remsi v19 c2_i32
  let c0_i32_20 : BitVec 32 := 0#32
  let v33 : BitVec 1 := Scalar.cmpi .ne v32 c0_i32_20
  let v34 : BitVec 1 := Scalar.andi v31 v33
  let v20 : BitVec 32 := Scalar.divsi v19 c2_i32
  let c1_i32 : BitVec 32 := 1#32
  let v35 : BitVec 32 := Scalar.subi v20 c1_i32
  let v36 : BitVec 32 := Scalar.select v34 v35 v20
  let v44 : BitVec 32 := Scalar.muli c2_i32_25 v36
  let v45 : BitVec 32 := Scalar.addi c0_i32_26 v44
  let v46 : BitVec 32 := Scalar.subi arg2 v45
  let c1_i32_27 : BitVec 32 := 1#32
  let v48 : BitVec 32 := Scalar.divsi v46 c1_i32_27
  let v49 : BitVec 32 := Scalar.muli v48 c1_i32_27
  let v50 : BitVec 32 := Scalar.addi v45 v49
  let c1_i32_29 : BitVec 32 := 1#32
  let arg9 : BitVec 32 := Scf.iv v50 c1_i32_29 k0_t4
  let v586 : Index := Scalar.indexCast arg9
  let c0_388 : Index := 0#32
  let c0_389 : Index := 0#32
  ![0, 1, v586.toNat, 0, 0]
def k0_mult14 (i : grid0.Coords) : BitVec 32 :=
  let arg2 : BitVec 32 := BitVec.ofNat 32 (i 2).val
  let c512_i32 : BitVec 32 := 512#32
  let v53 : BitVec 32 := Scalar.muli arg2 c512_i32
  v53
def k0_off25 (i : grid0.Coords) : Fin 4 → Nat :=
  let c0_30 : Index := 0#32
  let c1 : Index := 1#32
  let arg2 : BitVec 32 := BitVec.ofNat 32 (i 2).val
  let c512_i32 : BitVec 32 := 512#32
  let v53 : BitVec 32 := Scalar.muli arg2 c512_i32
  let v54 : BitVec 32 := v53
  let v55 : Index := Scalar.indexCast v54
  let c0_31 : Index := 0#32
  ![0, 1, v55.toNat, 0]
def k0_off26 (i : grid0.Coords) : Fin 5 → Nat :=
  let c0_44 : Index := 0#32
  let c0_45 : Index := 0#32
  let arg2 : BitVec 32 := BitVec.ofNat 32 (i 2).val
  let v68 : Index := Scalar.indexCast arg2
  let c0_46 : Index := 0#32
  let c0_47 : Index := 0#32
  ![0, 0, v68.toNat, 0, 0]
def k0_off27 (i : grid0.Coords) : Fin 5 → Nat :=
  let c0_61 : Index := 0#32
  let c1_62 : Index := 1#32
  let arg2 : BitVec 32 := BitVec.ofNat 32 (i 2).val
  let v97 : Index := Scalar.indexCast arg2
  let c0_63 : Index := 0#32
  let c0_64 : Index := 0#32
  ![0, 1, v97.toNat, 0, 0]
def k0_mult15 : BitVec 32 :=
  let c0_i32_88 : BitVec 32 := 0#32
  c0_i32_88
@[reducible] def k0_t5_loop (i : grid0.Coords) : Scf.Loop 32 :=
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let c1_i32_109 : BitVec 32 := 1#32
  ⟨c0_i32_107, v173, c1_i32_109⟩
def k0_mult16 (i : grid0.Coords) (k0_t5 : Fin (k0_t5_loop i).trips) : BitVec 32 :=
  let c0_i32_346 : BitVec 32 := 0#32
  let c2_i32_345 : BitVec 32 := 2#32
  let c0_i32_107 : BitVec 32 := 0#32
  let c1_i32_109 : BitVec 32 := 1#32
  let arg9 : BitVec 32 := Scf.iv c0_i32_107 c1_i32_109 k0_t5
  let v536 : BitVec 32 := Scalar.muli c2_i32_345 arg9
  let v537 : BitVec 32 := Scalar.addi c0_i32_346 v536
  let c512_i32_347 : BitVec 32 := 512#32
  let v538 : BitVec 32 := Scalar.muli v537 c512_i32_347
  v538
def k0_off28 (i : grid0.Coords) (k0_t5 : Fin (k0_t5_loop i).trips) : Fin 4 → Nat :=
  let c0_348 : Index := 0#32
  let c3_349 : Index := 3#32
  let c0_i32_346 : BitVec 32 := 0#32
  let c2_i32_345 : BitVec 32 := 2#32
  let c0_i32_107 : BitVec 32 := 0#32
  let c1_i32_109 : BitVec 32 := 1#32
  let arg9 : BitVec 32 := Scf.iv c0_i32_107 c1_i32_109 k0_t5
  let v536 : BitVec 32 := Scalar.muli c2_i32_345 arg9
  let v537 : BitVec 32 := Scalar.addi c0_i32_346 v536
  let c512_i32_347 : BitVec 32 := 512#32
  let v538 : BitVec 32 := Scalar.muli v537 c512_i32_347
  let v539 : BitVec 32 := v538
  let v540 : Index := Scalar.indexCast v539
  let c0_350 : Index := 0#32
  ![0, 3, v540.toNat, 0]
def k0_off29 (i : grid0.Coords) (k0_t5 : Fin (k0_t5_loop i).trips) : Fin 5 → Nat :=
  let c0_362 : Index := 0#32
  let c2_363 : Index := 2#32
  let c0_i32_346 : BitVec 32 := 0#32
  let c2_i32_345 : BitVec 32 := 2#32
  let c0_i32_107 : BitVec 32 := 0#32
  let c1_i32_109 : BitVec 32 := 1#32
  let arg9 : BitVec 32 := Scf.iv c0_i32_107 c1_i32_109 k0_t5
  let v536 : BitVec 32 := Scalar.muli c2_i32_345 arg9
  let v537 : BitVec 32 := Scalar.addi c0_i32_346 v536
  let v551 : Index := Scalar.indexCast v537
  let c0_364 : Index := 0#32
  let c0_365 : Index := 0#32
  ![0, 2, v551.toNat, 0, 0]
def k0_mult17 (i : grid0.Coords) (k0_t5 : Fin (k0_t5_loop i).trips) : BitVec 32 :=
  let c0_i32_346 : BitVec 32 := 0#32
  let c2_i32_345 : BitVec 32 := 2#32
  let c0_i32_107 : BitVec 32 := 0#32
  let c1_i32_109 : BitVec 32 := 1#32
  let arg9 : BitVec 32 := Scf.iv c0_i32_107 c1_i32_109 k0_t5
  let v536 : BitVec 32 := Scalar.muli c2_i32_345 arg9
  let v537 : BitVec 32 := Scalar.addi c0_i32_346 v536
  let c1_i32_375 : BitVec 32 := 1#32
  let v576 : BitVec 32 := Scalar.addi v537 c1_i32_375
  let arg2 : BitVec 32 := BitVec.ofNat 32 (i 2).val
  let v577 : BitVec 32 := Scalar.minsi v576 arg2
  let c512_i32_376 : BitVec 32 := 512#32
  let v578 : BitVec 32 := Scalar.muli v577 c512_i32_376
  v578
def k0_off30 (i : grid0.Coords) (k0_t5 : Fin (k0_t5_loop i).trips) : Fin 4 → Nat :=
  let c0_377 : Index := 0#32
  let c2_378 : Index := 2#32
  let c0_i32_346 : BitVec 32 := 0#32
  let c2_i32_345 : BitVec 32 := 2#32
  let c0_i32_107 : BitVec 32 := 0#32
  let c1_i32_109 : BitVec 32 := 1#32
  let arg9 : BitVec 32 := Scf.iv c0_i32_107 c1_i32_109 k0_t5
  let v536 : BitVec 32 := Scalar.muli c2_i32_345 arg9
  let v537 : BitVec 32 := Scalar.addi c0_i32_346 v536
  let c1_i32_375 : BitVec 32 := 1#32
  let v576 : BitVec 32 := Scalar.addi v537 c1_i32_375
  let arg2 : BitVec 32 := BitVec.ofNat 32 (i 2).val
  let v577 : BitVec 32 := Scalar.minsi v576 arg2
  let c512_i32_376 : BitVec 32 := 512#32
  let v578 : BitVec 32 := Scalar.muli v577 c512_i32_376
  let v579 : BitVec 32 := v578
  let v580 : Index := Scalar.indexCast v579
  let c0_379 : Index := 0#32
  ![0, 2, v580.toNat, 0]
def k0_off31 (i : grid0.Coords) (k0_t5 : Fin (k0_t5_loop i).trips) : Fin 5 → Nat :=
  let c0_391 : Index := 0#32
  let c3_392 : Index := 3#32
  let c0_i32_346 : BitVec 32 := 0#32
  let c2_i32_345 : BitVec 32 := 2#32
  let c0_i32_107 : BitVec 32 := 0#32
  let c1_i32_109 : BitVec 32 := 1#32
  let arg9 : BitVec 32 := Scf.iv c0_i32_107 c1_i32_109 k0_t5
  let v536 : BitVec 32 := Scalar.muli c2_i32_345 arg9
  let v537 : BitVec 32 := Scalar.addi c0_i32_346 v536
  let v591 : Index := Scalar.indexCast v537
  let c0_393 : Index := 0#32
  let c0_394 : Index := 0#32
  ![0, 3, v591.toNat, 0, 0]
def k0_mult18 (i : grid0.Coords) (k0_t5 : Fin (k0_t5_loop i).trips) : BitVec 32 :=
  let c0_i32_343 : BitVec 32 := 0#32
  let c2_i32_342 : BitVec 32 := 2#32
  let c0_i32_107 : BitVec 32 := 0#32
  let c1_i32_109 : BitVec 32 := 1#32
  let arg9 : BitVec 32 := Scf.iv c0_i32_107 c1_i32_109 k0_t5
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  v616
def k0_off32 (i : grid0.Coords) (k0_t5 : Fin (k0_t5_loop i).trips) : Fin 4 → Nat :=
  let c0_405 : Index := 0#32
  let c3_406 : Index := 3#32
  let c0_i32_343 : BitVec 32 := 0#32
  let c2_i32_342 : BitVec 32 := 2#32
  let c0_i32_107 : BitVec 32 := 0#32
  let c1_i32_109 : BitVec 32 := 1#32
  let arg9 : BitVec 32 := Scf.iv c0_i32_107 c1_i32_109 k0_t5
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  let v617 : BitVec 32 := v616
  let v618 : Index := Scalar.indexCast v617
  let c0_407 : Index := 0#32
  ![0, 3, v618.toNat, 0]
def k0_off33 (i : grid0.Coords) (k0_t5 : Fin (k0_t5_loop i).trips) : Fin 5 → Nat :=
  let c0_419 : Index := 0#32
  let c2_420 : Index := 2#32
  let c0_i32_343 : BitVec 32 := 0#32
  let c2_i32_342 : BitVec 32 := 2#32
  let c0_i32_107 : BitVec 32 := 0#32
  let c1_i32_109 : BitVec 32 := 1#32
  let arg9 : BitVec 32 := Scf.iv c0_i32_107 c1_i32_109 k0_t5
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v629 : Index := Scalar.indexCast v535
  let c0_421 : Index := 0#32
  let c0_422 : Index := 0#32
  ![0, 2, v629.toNat, 0, 0]
def k0_mult19 (i : grid0.Coords) (k0_t5 : Fin (k0_t5_loop i).trips) : BitVec 32 :=
  let c0_i32_343 : BitVec 32 := 0#32
  let c2_i32_342 : BitVec 32 := 2#32
  let c0_i32_107 : BitVec 32 := 0#32
  let c1_i32_109 : BitVec 32 := 1#32
  let arg9 : BitVec 32 := Scf.iv c0_i32_107 c1_i32_109 k0_t5
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let arg2 : BitVec 32 := BitVec.ofNat 32 (i 2).val
  let v655 : BitVec 32 := Scalar.minsi v654 arg2
  let c512_i32_433 : BitVec 32 := 512#32
  let v656 : BitVec 32 := Scalar.muli v655 c512_i32_433
  v656
def k0_off34 (i : grid0.Coords) (k0_t5 : Fin (k0_t5_loop i).trips) : Fin 4 → Nat :=
  let c0_434 : Index := 0#32
  let c2_435 : Index := 2#32
  let c0_i32_343 : BitVec 32 := 0#32
  let c2_i32_342 : BitVec 32 := 2#32
  let c0_i32_107 : BitVec 32 := 0#32
  let c1_i32_109 : BitVec 32 := 1#32
  let arg9 : BitVec 32 := Scf.iv c0_i32_107 c1_i32_109 k0_t5
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let arg2 : BitVec 32 := BitVec.ofNat 32 (i 2).val
  let v655 : BitVec 32 := Scalar.minsi v654 arg2
  let c512_i32_433 : BitVec 32 := 512#32
  let v656 : BitVec 32 := Scalar.muli v655 c512_i32_433
  let v657 : BitVec 32 := v656
  let v658 : Index := Scalar.indexCast v657
  let c0_436 : Index := 0#32
  ![0, 2, v658.toNat, 0]
def k0_off35 (i : grid0.Coords) (k0_t5 : Fin (k0_t5_loop i).trips) : Fin 5 → Nat :=
  let c0_448 : Index := 0#32
  let c3_449 : Index := 3#32
  let c0_i32_343 : BitVec 32 := 0#32
  let c2_i32_342 : BitVec 32 := 2#32
  let c0_i32_107 : BitVec 32 := 0#32
  let c1_i32_109 : BitVec 32 := 1#32
  let arg9 : BitVec 32 := Scf.iv c0_i32_107 c1_i32_109 k0_t5
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v669 : Index := Scalar.indexCast v535
  let c0_450 : Index := 0#32
  let c0_451 : Index := 0#32
  ![0, 3, v669.toNat, 0, 0]
@[reducible] def k0_t6_loop (i : grid0.Coords) : Scf.Loop 32 :=
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let v170 : BitVec 32 := Scalar.addi c0_i32_107 v169
  let c1_i32_110 : BitVec 32 := 1#32
  ⟨v173, v170, c1_i32_110⟩
def k0_mult20 (i : grid0.Coords) (k0_t6 : Fin (k0_t6_loop i).trips) : BitVec 32 :=
  let c0_i32_346 : BitVec 32 := 0#32
  let c2_i32_345 : BitVec 32 := 2#32
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let c1_i32_110 : BitVec 32 := 1#32
  let arg9 : BitVec 32 := Scf.iv v173 c1_i32_110 k0_t6
  let v536 : BitVec 32 := Scalar.muli c2_i32_345 arg9
  let v537 : BitVec 32 := Scalar.addi c0_i32_346 v536
  let c512_i32_347 : BitVec 32 := 512#32
  let v538 : BitVec 32 := Scalar.muli v537 c512_i32_347
  v538
def k0_off36 (i : grid0.Coords) (k0_t6 : Fin (k0_t6_loop i).trips) : Fin 4 → Nat :=
  let c0_348 : Index := 0#32
  let c3_349 : Index := 3#32
  let c0_i32_346 : BitVec 32 := 0#32
  let c2_i32_345 : BitVec 32 := 2#32
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let c1_i32_110 : BitVec 32 := 1#32
  let arg9 : BitVec 32 := Scf.iv v173 c1_i32_110 k0_t6
  let v536 : BitVec 32 := Scalar.muli c2_i32_345 arg9
  let v537 : BitVec 32 := Scalar.addi c0_i32_346 v536
  let c512_i32_347 : BitVec 32 := 512#32
  let v538 : BitVec 32 := Scalar.muli v537 c512_i32_347
  let v539 : BitVec 32 := v538
  let v540 : Index := Scalar.indexCast v539
  let c0_350 : Index := 0#32
  ![0, 3, v540.toNat, 0]
def k0_off37 (i : grid0.Coords) (k0_t6 : Fin (k0_t6_loop i).trips) : Fin 5 → Nat :=
  let c0_362 : Index := 0#32
  let c2_363 : Index := 2#32
  let c0_i32_346 : BitVec 32 := 0#32
  let c2_i32_345 : BitVec 32 := 2#32
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let c1_i32_110 : BitVec 32 := 1#32
  let arg9 : BitVec 32 := Scf.iv v173 c1_i32_110 k0_t6
  let v536 : BitVec 32 := Scalar.muli c2_i32_345 arg9
  let v537 : BitVec 32 := Scalar.addi c0_i32_346 v536
  let v551 : Index := Scalar.indexCast v537
  let c0_364 : Index := 0#32
  let c0_365 : Index := 0#32
  ![0, 2, v551.toNat, 0, 0]
def k0_mult21 (i : grid0.Coords) (k0_t6 : Fin (k0_t6_loop i).trips) : BitVec 32 :=
  let c0_i32_346 : BitVec 32 := 0#32
  let c2_i32_345 : BitVec 32 := 2#32
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let c1_i32_110 : BitVec 32 := 1#32
  let arg9 : BitVec 32 := Scf.iv v173 c1_i32_110 k0_t6
  let v536 : BitVec 32 := Scalar.muli c2_i32_345 arg9
  let v537 : BitVec 32 := Scalar.addi c0_i32_346 v536
  let c1_i32_375 : BitVec 32 := 1#32
  let v576 : BitVec 32 := Scalar.addi v537 c1_i32_375
  let v577 : BitVec 32 := Scalar.minsi v576 arg2
  let c512_i32_376 : BitVec 32 := 512#32
  let v578 : BitVec 32 := Scalar.muli v577 c512_i32_376
  v578
def k0_off38 (i : grid0.Coords) (k0_t6 : Fin (k0_t6_loop i).trips) : Fin 4 → Nat :=
  let c0_377 : Index := 0#32
  let c2_378 : Index := 2#32
  let c0_i32_346 : BitVec 32 := 0#32
  let c2_i32_345 : BitVec 32 := 2#32
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let c1_i32_110 : BitVec 32 := 1#32
  let arg9 : BitVec 32 := Scf.iv v173 c1_i32_110 k0_t6
  let v536 : BitVec 32 := Scalar.muli c2_i32_345 arg9
  let v537 : BitVec 32 := Scalar.addi c0_i32_346 v536
  let c1_i32_375 : BitVec 32 := 1#32
  let v576 : BitVec 32 := Scalar.addi v537 c1_i32_375
  let v577 : BitVec 32 := Scalar.minsi v576 arg2
  let c512_i32_376 : BitVec 32 := 512#32
  let v578 : BitVec 32 := Scalar.muli v577 c512_i32_376
  let v579 : BitVec 32 := v578
  let v580 : Index := Scalar.indexCast v579
  let c0_379 : Index := 0#32
  ![0, 2, v580.toNat, 0]
def k0_off39 (i : grid0.Coords) (k0_t6 : Fin (k0_t6_loop i).trips) : Fin 5 → Nat :=
  let c0_391 : Index := 0#32
  let c3_392 : Index := 3#32
  let c0_i32_346 : BitVec 32 := 0#32
  let c2_i32_345 : BitVec 32 := 2#32
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let c1_i32_110 : BitVec 32 := 1#32
  let arg9 : BitVec 32 := Scf.iv v173 c1_i32_110 k0_t6
  let v536 : BitVec 32 := Scalar.muli c2_i32_345 arg9
  let v537 : BitVec 32 := Scalar.addi c0_i32_346 v536
  let v591 : Index := Scalar.indexCast v537
  let c0_393 : Index := 0#32
  let c0_394 : Index := 0#32
  ![0, 3, v591.toNat, 0, 0]
def k0_mult22 (i : grid0.Coords) (k0_t6 : Fin (k0_t6_loop i).trips) : BitVec 32 :=
  let c0_i32_343 : BitVec 32 := 0#32
  let c2_i32_342 : BitVec 32 := 2#32
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let c1_i32_110 : BitVec 32 := 1#32
  let arg9 : BitVec 32 := Scf.iv v173 c1_i32_110 k0_t6
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  v616
def k0_off40 (i : grid0.Coords) (k0_t6 : Fin (k0_t6_loop i).trips) : Fin 4 → Nat :=
  let c0_405 : Index := 0#32
  let c3_406 : Index := 3#32
  let c0_i32_343 : BitVec 32 := 0#32
  let c2_i32_342 : BitVec 32 := 2#32
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let c1_i32_110 : BitVec 32 := 1#32
  let arg9 : BitVec 32 := Scf.iv v173 c1_i32_110 k0_t6
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  let v617 : BitVec 32 := v616
  let v618 : Index := Scalar.indexCast v617
  let c0_407 : Index := 0#32
  ![0, 3, v618.toNat, 0]
def k0_off41 (i : grid0.Coords) (k0_t6 : Fin (k0_t6_loop i).trips) : Fin 5 → Nat :=
  let c0_419 : Index := 0#32
  let c2_420 : Index := 2#32
  let c0_i32_343 : BitVec 32 := 0#32
  let c2_i32_342 : BitVec 32 := 2#32
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let c1_i32_110 : BitVec 32 := 1#32
  let arg9 : BitVec 32 := Scf.iv v173 c1_i32_110 k0_t6
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v629 : Index := Scalar.indexCast v535
  let c0_421 : Index := 0#32
  let c0_422 : Index := 0#32
  ![0, 2, v629.toNat, 0, 0]
def k0_mult23 (i : grid0.Coords) (k0_t6 : Fin (k0_t6_loop i).trips) : BitVec 32 :=
  let c0_i32_343 : BitVec 32 := 0#32
  let c2_i32_342 : BitVec 32 := 2#32
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let c1_i32_110 : BitVec 32 := 1#32
  let arg9 : BitVec 32 := Scf.iv v173 c1_i32_110 k0_t6
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let v655 : BitVec 32 := Scalar.minsi v654 arg2
  let c512_i32_433 : BitVec 32 := 512#32
  let v656 : BitVec 32 := Scalar.muli v655 c512_i32_433
  v656
def k0_off42 (i : grid0.Coords) (k0_t6 : Fin (k0_t6_loop i).trips) : Fin 4 → Nat :=
  let c0_434 : Index := 0#32
  let c2_435 : Index := 2#32
  let c0_i32_343 : BitVec 32 := 0#32
  let c2_i32_342 : BitVec 32 := 2#32
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let c1_i32_110 : BitVec 32 := 1#32
  let arg9 : BitVec 32 := Scf.iv v173 c1_i32_110 k0_t6
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let v655 : BitVec 32 := Scalar.minsi v654 arg2
  let c512_i32_433 : BitVec 32 := 512#32
  let v656 : BitVec 32 := Scalar.muli v655 c512_i32_433
  let v657 : BitVec 32 := v656
  let v658 : Index := Scalar.indexCast v657
  let c0_436 : Index := 0#32
  ![0, 2, v658.toNat, 0]
def k0_off43 (i : grid0.Coords) (k0_t6 : Fin (k0_t6_loop i).trips) : Fin 5 → Nat :=
  let c0_448 : Index := 0#32
  let c3_449 : Index := 3#32
  let c0_i32_343 : BitVec 32 := 0#32
  let c2_i32_342 : BitVec 32 := 2#32
  let c0_i32_107 : BitVec 32 := 0#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v169 : BitVec 32 := Scalar.subi v168 c0_i32_107
  let c1_i32_108 : BitVec 32 := 1#32
  let v171 : BitVec 32 := Scalar.divsi v169 c1_i32_108
  let v172 : BitVec 32 := Scalar.muli v171 c1_i32_108
  let v173 : BitVec 32 := Scalar.addi c0_i32_107 v172
  let c1_i32_110 : BitVec 32 := 1#32
  let arg9 : BitVec 32 := Scf.iv v173 c1_i32_110 k0_t6
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v669 : Index := Scalar.indexCast v535
  let c0_450 : Index := 0#32
  let c0_451 : Index := 0#32
  ![0, 3, v669.toNat, 0, 0]
@[reducible] def k0_t7_loop (i : grid0.Coords) : Scf.Loop 32 :=
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let v178 : BitVec 32 := Scalar.subi arg2 v177
  let c1_i32_113 : BitVec 32 := 1#32
  let v180 : BitVec 32 := Scalar.divsi v178 c1_i32_113
  let v181 : BitVec 32 := Scalar.muli v180 c1_i32_113
  let v182 : BitVec 32 := Scalar.addi v177 v181
  let c1_i32_114 : BitVec 32 := 1#32
  ⟨v177, v182, c1_i32_114⟩
def k0_mult24 (i : grid0.Coords) (k0_t7 : Fin (k0_t7_loop i).trips) : BitVec 32 :=
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let c1_i32_114 : BitVec 32 := 1#32
  let arg9 : BitVec 32 := Scf.iv v177 c1_i32_114 k0_t7
  let c512_i32_342 : BitVec 32 := 512#32
  let v533 : BitVec 32 := Scalar.muli arg9 c512_i32_342
  v533
def k0_off44 (i : grid0.Coords) (k0_t7 : Fin (k0_t7_loop i).trips) : Fin 4 → Nat :=
  let c0_343 : Index := 0#32
  let c3_344 : Index := 3#32
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let c1_i32_114 : BitVec 32 := 1#32
  let arg9 : BitVec 32 := Scf.iv v177 c1_i32_114 k0_t7
  let c512_i32_342 : BitVec 32 := 512#32
  let v533 : BitVec 32 := Scalar.muli arg9 c512_i32_342
  let v534 : BitVec 32 := v533
  let v535 : Index := Scalar.indexCast v534
  let c0_345 : Index := 0#32
  ![0, 3, v535.toNat, 0]
def k0_off45 (i : grid0.Coords) (k0_t7 : Fin (k0_t7_loop i).trips) : Fin 5 → Nat :=
  let c0_357 : Index := 0#32
  let c2_358 : Index := 2#32
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let c1_i32_114 : BitVec 32 := 1#32
  let arg9 : BitVec 32 := Scf.iv v177 c1_i32_114 k0_t7
  let v546 : Index := Scalar.indexCast arg9
  let c0_359 : Index := 0#32
  let c0_360 : Index := 0#32
  ![0, 2, v546.toNat, 0, 0]
def k0_mult25 (i : grid0.Coords) (k0_t7 : Fin (k0_t7_loop i).trips) : BitVec 32 :=
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let c1_i32_114 : BitVec 32 := 1#32
  let arg9 : BitVec 32 := Scf.iv v177 c1_i32_114 k0_t7
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  v573
def k0_off46 (i : grid0.Coords) (k0_t7 : Fin (k0_t7_loop i).trips) : Fin 4 → Nat :=
  let c0_372 : Index := 0#32
  let c2_373 : Index := 2#32
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let c1_i32_114 : BitVec 32 := 1#32
  let arg9 : BitVec 32 := Scf.iv v177 c1_i32_114 k0_t7
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  let v574 : BitVec 32 := v573
  let v575 : Index := Scalar.indexCast v574
  let c0_374 : Index := 0#32
  ![0, 2, v575.toNat, 0]
def k0_off47 (i : grid0.Coords) (k0_t7 : Fin (k0_t7_loop i).trips) : Fin 5 → Nat :=
  let c0_386 : Index := 0#32
  let c3_387 : Index := 3#32
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let c1_i32_114 : BitVec 32 := 1#32
  let arg9 : BitVec 32 := Scf.iv v177 c1_i32_114 k0_t7
  let v586 : Index := Scalar.indexCast arg9
  let c0_388 : Index := 0#32
  let c0_389 : Index := 0#32
  ![0, 3, v586.toNat, 0, 0]
@[reducible] def k0_t8_loop (i : grid0.Coords) : Scf.Loop 32 :=
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let v178 : BitVec 32 := Scalar.subi arg2 v177
  let c1_i32_113 : BitVec 32 := 1#32
  let v180 : BitVec 32 := Scalar.divsi v178 c1_i32_113
  let v181 : BitVec 32 := Scalar.muli v180 c1_i32_113
  let v182 : BitVec 32 := Scalar.addi v177 v181
  let v179 : BitVec 32 := Scalar.addi v177 v178
  let c1_i32_115 : BitVec 32 := 1#32
  ⟨v182, v179, c1_i32_115⟩
def k0_mult26 (i : grid0.Coords) (k0_t8 : Fin (k0_t8_loop i).trips) : BitVec 32 :=
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let v178 : BitVec 32 := Scalar.subi arg2 v177
  let c1_i32_113 : BitVec 32 := 1#32
  let v180 : BitVec 32 := Scalar.divsi v178 c1_i32_113
  let v181 : BitVec 32 := Scalar.muli v180 c1_i32_113
  let v182 : BitVec 32 := Scalar.addi v177 v181
  let c1_i32_115 : BitVec 32 := 1#32
  let arg9 : BitVec 32 := Scf.iv v182 c1_i32_115 k0_t8
  let c512_i32_342 : BitVec 32 := 512#32
  let v533 : BitVec 32 := Scalar.muli arg9 c512_i32_342
  v533
def k0_off48 (i : grid0.Coords) (k0_t8 : Fin (k0_t8_loop i).trips) : Fin 4 → Nat :=
  let c0_343 : Index := 0#32
  let c3_344 : Index := 3#32
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let v178 : BitVec 32 := Scalar.subi arg2 v177
  let c1_i32_113 : BitVec 32 := 1#32
  let v180 : BitVec 32 := Scalar.divsi v178 c1_i32_113
  let v181 : BitVec 32 := Scalar.muli v180 c1_i32_113
  let v182 : BitVec 32 := Scalar.addi v177 v181
  let c1_i32_115 : BitVec 32 := 1#32
  let arg9 : BitVec 32 := Scf.iv v182 c1_i32_115 k0_t8
  let c512_i32_342 : BitVec 32 := 512#32
  let v533 : BitVec 32 := Scalar.muli arg9 c512_i32_342
  let v534 : BitVec 32 := v533
  let v535 : Index := Scalar.indexCast v534
  let c0_345 : Index := 0#32
  ![0, 3, v535.toNat, 0]
def k0_off49 (i : grid0.Coords) (k0_t8 : Fin (k0_t8_loop i).trips) : Fin 5 → Nat :=
  let c0_357 : Index := 0#32
  let c2_358 : Index := 2#32
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let v178 : BitVec 32 := Scalar.subi arg2 v177
  let c1_i32_113 : BitVec 32 := 1#32
  let v180 : BitVec 32 := Scalar.divsi v178 c1_i32_113
  let v181 : BitVec 32 := Scalar.muli v180 c1_i32_113
  let v182 : BitVec 32 := Scalar.addi v177 v181
  let c1_i32_115 : BitVec 32 := 1#32
  let arg9 : BitVec 32 := Scf.iv v182 c1_i32_115 k0_t8
  let v546 : Index := Scalar.indexCast arg9
  let c0_359 : Index := 0#32
  let c0_360 : Index := 0#32
  ![0, 2, v546.toNat, 0, 0]
def k0_mult27 (i : grid0.Coords) (k0_t8 : Fin (k0_t8_loop i).trips) : BitVec 32 :=
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let v178 : BitVec 32 := Scalar.subi arg2 v177
  let c1_i32_113 : BitVec 32 := 1#32
  let v180 : BitVec 32 := Scalar.divsi v178 c1_i32_113
  let v181 : BitVec 32 := Scalar.muli v180 c1_i32_113
  let v182 : BitVec 32 := Scalar.addi v177 v181
  let c1_i32_115 : BitVec 32 := 1#32
  let arg9 : BitVec 32 := Scf.iv v182 c1_i32_115 k0_t8
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  v573
def k0_off50 (i : grid0.Coords) (k0_t8 : Fin (k0_t8_loop i).trips) : Fin 4 → Nat :=
  let c0_372 : Index := 0#32
  let c2_373 : Index := 2#32
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let v178 : BitVec 32 := Scalar.subi arg2 v177
  let c1_i32_113 : BitVec 32 := 1#32
  let v180 : BitVec 32 := Scalar.divsi v178 c1_i32_113
  let v181 : BitVec 32 := Scalar.muli v180 c1_i32_113
  let v182 : BitVec 32 := Scalar.addi v177 v181
  let c1_i32_115 : BitVec 32 := 1#32
  let arg9 : BitVec 32 := Scf.iv v182 c1_i32_115 k0_t8
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  let v574 : BitVec 32 := v573
  let v575 : Index := Scalar.indexCast v574
  let c0_374 : Index := 0#32
  ![0, 2, v575.toNat, 0]
def k0_off51 (i : grid0.Coords) (k0_t8 : Fin (k0_t8_loop i).trips) : Fin 5 → Nat :=
  let c0_386 : Index := 0#32
  let c3_387 : Index := 3#32
  let c0_i32_112 : BitVec 32 := 0#32
  let c2_i32_111 : BitVec 32 := 2#32
  let arg2 : BitVec 32 := BitVec.ofNat 32 (i 2).val
  let c0_i32_99 : BitVec 32 := 0#32
  let v151 : BitVec 32 := Scalar.subi arg2 c0_i32_99
  let c0_i32_101 : BitVec 32 := 0#32
  let v153 : BitVec 1 := Scalar.cmpi .sgt v151 c0_i32_101
  let v154 : BitVec 32 := Scalar.extui v153
  let c0_i32_102 : BitVec 32 := 0#32
  let v155 : BitVec 1 := Scalar.cmpi .slt v151 c0_i32_102
  let v156 : BitVec 32 := Scalar.extui v155
  let v157 : BitVec 32 := Scalar.subi v154 v156
  let c2_i32_100 : BitVec 32 := 2#32
  let c0_i32_103 : BitVec 32 := 0#32
  let v158 : BitVec 1 := Scalar.cmpi .sgt c2_i32_100 c0_i32_103
  let v159 : BitVec 32 := Scalar.extui v158
  let c0_i32_104 : BitVec 32 := 0#32
  let v160 : BitVec 1 := Scalar.cmpi .slt c2_i32_100 c0_i32_104
  let v161 : BitVec 32 := Scalar.extui v160
  let v162 : BitVec 32 := Scalar.subi v159 v161
  let v163 : BitVec 1 := Scalar.cmpi .ne v157 v162
  let v164 : BitVec 32 := Scalar.remsi v151 c2_i32_100
  let c0_i32_105 : BitVec 32 := 0#32
  let v165 : BitVec 1 := Scalar.cmpi .ne v164 c0_i32_105
  let v166 : BitVec 1 := Scalar.andi v163 v165
  let v152 : BitVec 32 := Scalar.divsi v151 c2_i32_100
  let c1_i32_106 : BitVec 32 := 1#32
  let v167 : BitVec 32 := Scalar.subi v152 c1_i32_106
  let v168 : BitVec 32 := Scalar.select v166 v167 v152
  let v176 : BitVec 32 := Scalar.muli c2_i32_111 v168
  let v177 : BitVec 32 := Scalar.addi c0_i32_112 v176
  let v178 : BitVec 32 := Scalar.subi arg2 v177
  let c1_i32_113 : BitVec 32 := 1#32
  let v180 : BitVec 32 := Scalar.divsi v178 c1_i32_113
  let v181 : BitVec 32 := Scalar.muli v180 c1_i32_113
  let v182 : BitVec 32 := Scalar.addi v177 v181
  let c1_i32_115 : BitVec 32 := 1#32
  let arg9 : BitVec 32 := Scf.iv v182 c1_i32_115 k0_t8
  let v586 : Index := Scalar.indexCast arg9
  let c0_388 : Index := 0#32
  let c0_389 : Index := 0#32
  ![0, 3, v586.toNat, 0, 0]
def k0_mult28 (i : grid0.Coords) : BitVec 32 :=
  let arg2 : BitVec 32 := BitVec.ofNat 32 (i 2).val
  let c512_i32_116 : BitVec 32 := 512#32
  let v185 : BitVec 32 := Scalar.muli arg2 c512_i32_116
  v185
def k0_off52 (i : grid0.Coords) : Fin 4 → Nat :=
  let c0_117 : Index := 0#32
  let c3 : Index := 3#32
  let arg2 : BitVec 32 := BitVec.ofNat 32 (i 2).val
  let c512_i32_116 : BitVec 32 := 512#32
  let v185 : BitVec 32 := Scalar.muli arg2 c512_i32_116
  let v186 : BitVec 32 := v185
  let v187 : Index := Scalar.indexCast v186
  let c0_118 : Index := 0#32
  ![0, 3, v187.toNat, 0]
def k0_off53 (i : grid0.Coords) : Fin 5 → Nat :=
  let c0_131 : Index := 0#32
  let c2_132 : Index := 2#32
  let arg2 : BitVec 32 := BitVec.ofNat 32 (i 2).val
  let v200 : Index := Scalar.indexCast arg2
  let c0_133 : Index := 0#32
  let c0_134 : Index := 0#32
  ![0, 2, v200.toNat, 0, 0]
def k0_off54 (i : grid0.Coords) : Fin 5 → Nat :=
  let c0_148 : Index := 0#32
  let c3_149 : Index := 3#32
  let arg2 : BitVec 32 := BitVec.ofNat 32 (i 2).val
  let v229 : Index := Scalar.indexCast arg2
  let c0_150 : Index := 0#32
  let c0_151 : Index := 0#32
  ![0, 3, v229.toNat, 0, 0]
def k0_mult29 : BitVec 32 :=
  let c0_i32_174 : BitVec 32 := 0#32
  c0_i32_174
@[reducible] def k0_t9_loop (i : grid0.Coords) : Scf.Loop 32 :=
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let c1_i32_195 : BitVec 32 := 1#32
  ⟨c0_i32_193, v305, c1_i32_195⟩
def k0_mult30 (i : grid0.Coords) (k0_t9 : Fin (k0_t9_loop i).trips) : BitVec 32 :=
  let c0_i32_346 : BitVec 32 := 0#32
  let c2_i32_345 : BitVec 32 := 2#32
  let c0_i32_193 : BitVec 32 := 0#32
  let c1_i32_195 : BitVec 32 := 1#32
  let arg9 : BitVec 32 := Scf.iv c0_i32_193 c1_i32_195 k0_t9
  let v536 : BitVec 32 := Scalar.muli c2_i32_345 arg9
  let v537 : BitVec 32 := Scalar.addi c0_i32_346 v536
  let c512_i32_347 : BitVec 32 := 512#32
  let v538 : BitVec 32 := Scalar.muli v537 c512_i32_347
  v538
def k0_off55 (i : grid0.Coords) (k0_t9 : Fin (k0_t9_loop i).trips) : Fin 4 → Nat :=
  let c0_348 : Index := 0#32
  let c5_349 : Index := 5#32
  let c0_i32_346 : BitVec 32 := 0#32
  let c2_i32_345 : BitVec 32 := 2#32
  let c0_i32_193 : BitVec 32 := 0#32
  let c1_i32_195 : BitVec 32 := 1#32
  let arg9 : BitVec 32 := Scf.iv c0_i32_193 c1_i32_195 k0_t9
  let v536 : BitVec 32 := Scalar.muli c2_i32_345 arg9
  let v537 : BitVec 32 := Scalar.addi c0_i32_346 v536
  let c512_i32_347 : BitVec 32 := 512#32
  let v538 : BitVec 32 := Scalar.muli v537 c512_i32_347
  let v539 : BitVec 32 := v538
  let v540 : Index := Scalar.indexCast v539
  let c0_350 : Index := 0#32
  ![0, 5, v540.toNat, 0]
def k0_off56 (i : grid0.Coords) (k0_t9 : Fin (k0_t9_loop i).trips) : Fin 5 → Nat :=
  let c0_362 : Index := 0#32
  let c4_363 : Index := 4#32
  let c0_i32_346 : BitVec 32 := 0#32
  let c2_i32_345 : BitVec 32 := 2#32
  let c0_i32_193 : BitVec 32 := 0#32
  let c1_i32_195 : BitVec 32 := 1#32
  let arg9 : BitVec 32 := Scf.iv c0_i32_193 c1_i32_195 k0_t9
  let v536 : BitVec 32 := Scalar.muli c2_i32_345 arg9
  let v537 : BitVec 32 := Scalar.addi c0_i32_346 v536
  let v551 : Index := Scalar.indexCast v537
  let c0_364 : Index := 0#32
  let c0_365 : Index := 0#32
  ![0, 4, v551.toNat, 0, 0]
def k0_mult31 (i : grid0.Coords) (k0_t9 : Fin (k0_t9_loop i).trips) : BitVec 32 :=
  let c0_i32_346 : BitVec 32 := 0#32
  let c2_i32_345 : BitVec 32 := 2#32
  let c0_i32_193 : BitVec 32 := 0#32
  let c1_i32_195 : BitVec 32 := 1#32
  let arg9 : BitVec 32 := Scf.iv c0_i32_193 c1_i32_195 k0_t9
  let v536 : BitVec 32 := Scalar.muli c2_i32_345 arg9
  let v537 : BitVec 32 := Scalar.addi c0_i32_346 v536
  let c1_i32_375 : BitVec 32 := 1#32
  let v576 : BitVec 32 := Scalar.addi v537 c1_i32_375
  let arg2 : BitVec 32 := BitVec.ofNat 32 (i 2).val
  let v577 : BitVec 32 := Scalar.minsi v576 arg2
  let c512_i32_376 : BitVec 32 := 512#32
  let v578 : BitVec 32 := Scalar.muli v577 c512_i32_376
  v578
def k0_off57 (i : grid0.Coords) (k0_t9 : Fin (k0_t9_loop i).trips) : Fin 4 → Nat :=
  let c0_377 : Index := 0#32
  let c4_378 : Index := 4#32
  let c0_i32_346 : BitVec 32 := 0#32
  let c2_i32_345 : BitVec 32 := 2#32
  let c0_i32_193 : BitVec 32 := 0#32
  let c1_i32_195 : BitVec 32 := 1#32
  let arg9 : BitVec 32 := Scf.iv c0_i32_193 c1_i32_195 k0_t9
  let v536 : BitVec 32 := Scalar.muli c2_i32_345 arg9
  let v537 : BitVec 32 := Scalar.addi c0_i32_346 v536
  let c1_i32_375 : BitVec 32 := 1#32
  let v576 : BitVec 32 := Scalar.addi v537 c1_i32_375
  let arg2 : BitVec 32 := BitVec.ofNat 32 (i 2).val
  let v577 : BitVec 32 := Scalar.minsi v576 arg2
  let c512_i32_376 : BitVec 32 := 512#32
  let v578 : BitVec 32 := Scalar.muli v577 c512_i32_376
  let v579 : BitVec 32 := v578
  let v580 : Index := Scalar.indexCast v579
  let c0_379 : Index := 0#32
  ![0, 4, v580.toNat, 0]
def k0_off58 (i : grid0.Coords) (k0_t9 : Fin (k0_t9_loop i).trips) : Fin 5 → Nat :=
  let c0_391 : Index := 0#32
  let c5_392 : Index := 5#32
  let c0_i32_346 : BitVec 32 := 0#32
  let c2_i32_345 : BitVec 32 := 2#32
  let c0_i32_193 : BitVec 32 := 0#32
  let c1_i32_195 : BitVec 32 := 1#32
  let arg9 : BitVec 32 := Scf.iv c0_i32_193 c1_i32_195 k0_t9
  let v536 : BitVec 32 := Scalar.muli c2_i32_345 arg9
  let v537 : BitVec 32 := Scalar.addi c0_i32_346 v536
  let v591 : Index := Scalar.indexCast v537
  let c0_393 : Index := 0#32
  let c0_394 : Index := 0#32
  ![0, 5, v591.toNat, 0, 0]
def k0_mult32 (i : grid0.Coords) (k0_t9 : Fin (k0_t9_loop i).trips) : BitVec 32 :=
  let c0_i32_343 : BitVec 32 := 0#32
  let c2_i32_342 : BitVec 32 := 2#32
  let c0_i32_193 : BitVec 32 := 0#32
  let c1_i32_195 : BitVec 32 := 1#32
  let arg9 : BitVec 32 := Scf.iv c0_i32_193 c1_i32_195 k0_t9
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  v616
def k0_off59 (i : grid0.Coords) (k0_t9 : Fin (k0_t9_loop i).trips) : Fin 4 → Nat :=
  let c0_405 : Index := 0#32
  let c5_406 : Index := 5#32
  let c0_i32_343 : BitVec 32 := 0#32
  let c2_i32_342 : BitVec 32 := 2#32
  let c0_i32_193 : BitVec 32 := 0#32
  let c1_i32_195 : BitVec 32 := 1#32
  let arg9 : BitVec 32 := Scf.iv c0_i32_193 c1_i32_195 k0_t9
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  let v617 : BitVec 32 := v616
  let v618 : Index := Scalar.indexCast v617
  let c0_407 : Index := 0#32
  ![0, 5, v618.toNat, 0]
def k0_off60 (i : grid0.Coords) (k0_t9 : Fin (k0_t9_loop i).trips) : Fin 5 → Nat :=
  let c0_419 : Index := 0#32
  let c4_420 : Index := 4#32
  let c0_i32_343 : BitVec 32 := 0#32
  let c2_i32_342 : BitVec 32 := 2#32
  let c0_i32_193 : BitVec 32 := 0#32
  let c1_i32_195 : BitVec 32 := 1#32
  let arg9 : BitVec 32 := Scf.iv c0_i32_193 c1_i32_195 k0_t9
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v629 : Index := Scalar.indexCast v535
  let c0_421 : Index := 0#32
  let c0_422 : Index := 0#32
  ![0, 4, v629.toNat, 0, 0]
def k0_mult33 (i : grid0.Coords) (k0_t9 : Fin (k0_t9_loop i).trips) : BitVec 32 :=
  let c0_i32_343 : BitVec 32 := 0#32
  let c2_i32_342 : BitVec 32 := 2#32
  let c0_i32_193 : BitVec 32 := 0#32
  let c1_i32_195 : BitVec 32 := 1#32
  let arg9 : BitVec 32 := Scf.iv c0_i32_193 c1_i32_195 k0_t9
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let arg2 : BitVec 32 := BitVec.ofNat 32 (i 2).val
  let v655 : BitVec 32 := Scalar.minsi v654 arg2
  let c512_i32_433 : BitVec 32 := 512#32
  let v656 : BitVec 32 := Scalar.muli v655 c512_i32_433
  v656
def k0_off61 (i : grid0.Coords) (k0_t9 : Fin (k0_t9_loop i).trips) : Fin 4 → Nat :=
  let c0_434 : Index := 0#32
  let c4_435 : Index := 4#32
  let c0_i32_343 : BitVec 32 := 0#32
  let c2_i32_342 : BitVec 32 := 2#32
  let c0_i32_193 : BitVec 32 := 0#32
  let c1_i32_195 : BitVec 32 := 1#32
  let arg9 : BitVec 32 := Scf.iv c0_i32_193 c1_i32_195 k0_t9
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let arg2 : BitVec 32 := BitVec.ofNat 32 (i 2).val
  let v655 : BitVec 32 := Scalar.minsi v654 arg2
  let c512_i32_433 : BitVec 32 := 512#32
  let v656 : BitVec 32 := Scalar.muli v655 c512_i32_433
  let v657 : BitVec 32 := v656
  let v658 : Index := Scalar.indexCast v657
  let c0_436 : Index := 0#32
  ![0, 4, v658.toNat, 0]
def k0_off62 (i : grid0.Coords) (k0_t9 : Fin (k0_t9_loop i).trips) : Fin 5 → Nat :=
  let c0_448 : Index := 0#32
  let c5_449 : Index := 5#32
  let c0_i32_343 : BitVec 32 := 0#32
  let c2_i32_342 : BitVec 32 := 2#32
  let c0_i32_193 : BitVec 32 := 0#32
  let c1_i32_195 : BitVec 32 := 1#32
  let arg9 : BitVec 32 := Scf.iv c0_i32_193 c1_i32_195 k0_t9
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v669 : Index := Scalar.indexCast v535
  let c0_450 : Index := 0#32
  let c0_451 : Index := 0#32
  ![0, 5, v669.toNat, 0, 0]
@[reducible] def k0_t10_loop (i : grid0.Coords) : Scf.Loop 32 :=
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let v302 : BitVec 32 := Scalar.addi c0_i32_193 v301
  let c1_i32_196 : BitVec 32 := 1#32
  ⟨v305, v302, c1_i32_196⟩
def k0_mult34 (i : grid0.Coords) (k0_t10 : Fin (k0_t10_loop i).trips) : BitVec 32 :=
  let c0_i32_346 : BitVec 32 := 0#32
  let c2_i32_345 : BitVec 32 := 2#32
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let c1_i32_196 : BitVec 32 := 1#32
  let arg9 : BitVec 32 := Scf.iv v305 c1_i32_196 k0_t10
  let v536 : BitVec 32 := Scalar.muli c2_i32_345 arg9
  let v537 : BitVec 32 := Scalar.addi c0_i32_346 v536
  let c512_i32_347 : BitVec 32 := 512#32
  let v538 : BitVec 32 := Scalar.muli v537 c512_i32_347
  v538
def k0_off63 (i : grid0.Coords) (k0_t10 : Fin (k0_t10_loop i).trips) : Fin 4 → Nat :=
  let c0_348 : Index := 0#32
  let c5_349 : Index := 5#32
  let c0_i32_346 : BitVec 32 := 0#32
  let c2_i32_345 : BitVec 32 := 2#32
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let c1_i32_196 : BitVec 32 := 1#32
  let arg9 : BitVec 32 := Scf.iv v305 c1_i32_196 k0_t10
  let v536 : BitVec 32 := Scalar.muli c2_i32_345 arg9
  let v537 : BitVec 32 := Scalar.addi c0_i32_346 v536
  let c512_i32_347 : BitVec 32 := 512#32
  let v538 : BitVec 32 := Scalar.muli v537 c512_i32_347
  let v539 : BitVec 32 := v538
  let v540 : Index := Scalar.indexCast v539
  let c0_350 : Index := 0#32
  ![0, 5, v540.toNat, 0]
def k0_off64 (i : grid0.Coords) (k0_t10 : Fin (k0_t10_loop i).trips) : Fin 5 → Nat :=
  let c0_362 : Index := 0#32
  let c4_363 : Index := 4#32
  let c0_i32_346 : BitVec 32 := 0#32
  let c2_i32_345 : BitVec 32 := 2#32
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let c1_i32_196 : BitVec 32 := 1#32
  let arg9 : BitVec 32 := Scf.iv v305 c1_i32_196 k0_t10
  let v536 : BitVec 32 := Scalar.muli c2_i32_345 arg9
  let v537 : BitVec 32 := Scalar.addi c0_i32_346 v536
  let v551 : Index := Scalar.indexCast v537
  let c0_364 : Index := 0#32
  let c0_365 : Index := 0#32
  ![0, 4, v551.toNat, 0, 0]
def k0_mult35 (i : grid0.Coords) (k0_t10 : Fin (k0_t10_loop i).trips) : BitVec 32 :=
  let c0_i32_346 : BitVec 32 := 0#32
  let c2_i32_345 : BitVec 32 := 2#32
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let c1_i32_196 : BitVec 32 := 1#32
  let arg9 : BitVec 32 := Scf.iv v305 c1_i32_196 k0_t10
  let v536 : BitVec 32 := Scalar.muli c2_i32_345 arg9
  let v537 : BitVec 32 := Scalar.addi c0_i32_346 v536
  let c1_i32_375 : BitVec 32 := 1#32
  let v576 : BitVec 32 := Scalar.addi v537 c1_i32_375
  let v577 : BitVec 32 := Scalar.minsi v576 arg2
  let c512_i32_376 : BitVec 32 := 512#32
  let v578 : BitVec 32 := Scalar.muli v577 c512_i32_376
  v578
def k0_off65 (i : grid0.Coords) (k0_t10 : Fin (k0_t10_loop i).trips) : Fin 4 → Nat :=
  let c0_377 : Index := 0#32
  let c4_378 : Index := 4#32
  let c0_i32_346 : BitVec 32 := 0#32
  let c2_i32_345 : BitVec 32 := 2#32
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let c1_i32_196 : BitVec 32 := 1#32
  let arg9 : BitVec 32 := Scf.iv v305 c1_i32_196 k0_t10
  let v536 : BitVec 32 := Scalar.muli c2_i32_345 arg9
  let v537 : BitVec 32 := Scalar.addi c0_i32_346 v536
  let c1_i32_375 : BitVec 32 := 1#32
  let v576 : BitVec 32 := Scalar.addi v537 c1_i32_375
  let v577 : BitVec 32 := Scalar.minsi v576 arg2
  let c512_i32_376 : BitVec 32 := 512#32
  let v578 : BitVec 32 := Scalar.muli v577 c512_i32_376
  let v579 : BitVec 32 := v578
  let v580 : Index := Scalar.indexCast v579
  let c0_379 : Index := 0#32
  ![0, 4, v580.toNat, 0]
def k0_off66 (i : grid0.Coords) (k0_t10 : Fin (k0_t10_loop i).trips) : Fin 5 → Nat :=
  let c0_391 : Index := 0#32
  let c5_392 : Index := 5#32
  let c0_i32_346 : BitVec 32 := 0#32
  let c2_i32_345 : BitVec 32 := 2#32
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let c1_i32_196 : BitVec 32 := 1#32
  let arg9 : BitVec 32 := Scf.iv v305 c1_i32_196 k0_t10
  let v536 : BitVec 32 := Scalar.muli c2_i32_345 arg9
  let v537 : BitVec 32 := Scalar.addi c0_i32_346 v536
  let v591 : Index := Scalar.indexCast v537
  let c0_393 : Index := 0#32
  let c0_394 : Index := 0#32
  ![0, 5, v591.toNat, 0, 0]
def k0_mult36 (i : grid0.Coords) (k0_t10 : Fin (k0_t10_loop i).trips) : BitVec 32 :=
  let c0_i32_343 : BitVec 32 := 0#32
  let c2_i32_342 : BitVec 32 := 2#32
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let c1_i32_196 : BitVec 32 := 1#32
  let arg9 : BitVec 32 := Scf.iv v305 c1_i32_196 k0_t10
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  v616
def k0_off67 (i : grid0.Coords) (k0_t10 : Fin (k0_t10_loop i).trips) : Fin 4 → Nat :=
  let c0_405 : Index := 0#32
  let c5_406 : Index := 5#32
  let c0_i32_343 : BitVec 32 := 0#32
  let c2_i32_342 : BitVec 32 := 2#32
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let c1_i32_196 : BitVec 32 := 1#32
  let arg9 : BitVec 32 := Scf.iv v305 c1_i32_196 k0_t10
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  let v617 : BitVec 32 := v616
  let v618 : Index := Scalar.indexCast v617
  let c0_407 : Index := 0#32
  ![0, 5, v618.toNat, 0]
def k0_off68 (i : grid0.Coords) (k0_t10 : Fin (k0_t10_loop i).trips) : Fin 5 → Nat :=
  let c0_419 : Index := 0#32
  let c4_420 : Index := 4#32
  let c0_i32_343 : BitVec 32 := 0#32
  let c2_i32_342 : BitVec 32 := 2#32
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let c1_i32_196 : BitVec 32 := 1#32
  let arg9 : BitVec 32 := Scf.iv v305 c1_i32_196 k0_t10
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v629 : Index := Scalar.indexCast v535
  let c0_421 : Index := 0#32
  let c0_422 : Index := 0#32
  ![0, 4, v629.toNat, 0, 0]
def k0_mult37 (i : grid0.Coords) (k0_t10 : Fin (k0_t10_loop i).trips) : BitVec 32 :=
  let c0_i32_343 : BitVec 32 := 0#32
  let c2_i32_342 : BitVec 32 := 2#32
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let c1_i32_196 : BitVec 32 := 1#32
  let arg9 : BitVec 32 := Scf.iv v305 c1_i32_196 k0_t10
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let v655 : BitVec 32 := Scalar.minsi v654 arg2
  let c512_i32_433 : BitVec 32 := 512#32
  let v656 : BitVec 32 := Scalar.muli v655 c512_i32_433
  v656
def k0_off69 (i : grid0.Coords) (k0_t10 : Fin (k0_t10_loop i).trips) : Fin 4 → Nat :=
  let c0_434 : Index := 0#32
  let c4_435 : Index := 4#32
  let c0_i32_343 : BitVec 32 := 0#32
  let c2_i32_342 : BitVec 32 := 2#32
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let c1_i32_196 : BitVec 32 := 1#32
  let arg9 : BitVec 32 := Scf.iv v305 c1_i32_196 k0_t10
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let v655 : BitVec 32 := Scalar.minsi v654 arg2
  let c512_i32_433 : BitVec 32 := 512#32
  let v656 : BitVec 32 := Scalar.muli v655 c512_i32_433
  let v657 : BitVec 32 := v656
  let v658 : Index := Scalar.indexCast v657
  let c0_436 : Index := 0#32
  ![0, 4, v658.toNat, 0]
def k0_off70 (i : grid0.Coords) (k0_t10 : Fin (k0_t10_loop i).trips) : Fin 5 → Nat :=
  let c0_448 : Index := 0#32
  let c5_449 : Index := 5#32
  let c0_i32_343 : BitVec 32 := 0#32
  let c2_i32_342 : BitVec 32 := 2#32
  let c0_i32_193 : BitVec 32 := 0#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v301 : BitVec 32 := Scalar.subi v300 c0_i32_193
  let c1_i32_194 : BitVec 32 := 1#32
  let v303 : BitVec 32 := Scalar.divsi v301 c1_i32_194
  let v304 : BitVec 32 := Scalar.muli v303 c1_i32_194
  let v305 : BitVec 32 := Scalar.addi c0_i32_193 v304
  let c1_i32_196 : BitVec 32 := 1#32
  let arg9 : BitVec 32 := Scf.iv v305 c1_i32_196 k0_t10
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v669 : Index := Scalar.indexCast v535
  let c0_450 : Index := 0#32
  let c0_451 : Index := 0#32
  ![0, 5, v669.toNat, 0, 0]
@[reducible] def k0_t11_loop (i : grid0.Coords) : Scf.Loop 32 :=
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let v310 : BitVec 32 := Scalar.subi arg2 v309
  let c1_i32_199 : BitVec 32 := 1#32
  let v312 : BitVec 32 := Scalar.divsi v310 c1_i32_199
  let v313 : BitVec 32 := Scalar.muli v312 c1_i32_199
  let v314 : BitVec 32 := Scalar.addi v309 v313
  let c1_i32_200 : BitVec 32 := 1#32
  ⟨v309, v314, c1_i32_200⟩
def k0_mult38 (i : grid0.Coords) (k0_t11 : Fin (k0_t11_loop i).trips) : BitVec 32 :=
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let c1_i32_200 : BitVec 32 := 1#32
  let arg9 : BitVec 32 := Scf.iv v309 c1_i32_200 k0_t11
  let c512_i32_342 : BitVec 32 := 512#32
  let v533 : BitVec 32 := Scalar.muli arg9 c512_i32_342
  v533
def k0_off71 (i : grid0.Coords) (k0_t11 : Fin (k0_t11_loop i).trips) : Fin 4 → Nat :=
  let c0_343 : Index := 0#32
  let c5_344 : Index := 5#32
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let c1_i32_200 : BitVec 32 := 1#32
  let arg9 : BitVec 32 := Scf.iv v309 c1_i32_200 k0_t11
  let c512_i32_342 : BitVec 32 := 512#32
  let v533 : BitVec 32 := Scalar.muli arg9 c512_i32_342
  let v534 : BitVec 32 := v533
  let v535 : Index := Scalar.indexCast v534
  let c0_345 : Index := 0#32
  ![0, 5, v535.toNat, 0]
def k0_off72 (i : grid0.Coords) (k0_t11 : Fin (k0_t11_loop i).trips) : Fin 5 → Nat :=
  let c0_357 : Index := 0#32
  let c4_358 : Index := 4#32
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let c1_i32_200 : BitVec 32 := 1#32
  let arg9 : BitVec 32 := Scf.iv v309 c1_i32_200 k0_t11
  let v546 : Index := Scalar.indexCast arg9
  let c0_359 : Index := 0#32
  let c0_360 : Index := 0#32
  ![0, 4, v546.toNat, 0, 0]
def k0_mult39 (i : grid0.Coords) (k0_t11 : Fin (k0_t11_loop i).trips) : BitVec 32 :=
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let c1_i32_200 : BitVec 32 := 1#32
  let arg9 : BitVec 32 := Scf.iv v309 c1_i32_200 k0_t11
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  v573
def k0_off73 (i : grid0.Coords) (k0_t11 : Fin (k0_t11_loop i).trips) : Fin 4 → Nat :=
  let c0_372 : Index := 0#32
  let c4_373 : Index := 4#32
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let c1_i32_200 : BitVec 32 := 1#32
  let arg9 : BitVec 32 := Scf.iv v309 c1_i32_200 k0_t11
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  let v574 : BitVec 32 := v573
  let v575 : Index := Scalar.indexCast v574
  let c0_374 : Index := 0#32
  ![0, 4, v575.toNat, 0]
def k0_off74 (i : grid0.Coords) (k0_t11 : Fin (k0_t11_loop i).trips) : Fin 5 → Nat :=
  let c0_386 : Index := 0#32
  let c5_387 : Index := 5#32
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let c1_i32_200 : BitVec 32 := 1#32
  let arg9 : BitVec 32 := Scf.iv v309 c1_i32_200 k0_t11
  let v586 : Index := Scalar.indexCast arg9
  let c0_388 : Index := 0#32
  let c0_389 : Index := 0#32
  ![0, 5, v586.toNat, 0, 0]
@[reducible] def k0_t12_loop (i : grid0.Coords) : Scf.Loop 32 :=
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let v310 : BitVec 32 := Scalar.subi arg2 v309
  let c1_i32_199 : BitVec 32 := 1#32
  let v312 : BitVec 32 := Scalar.divsi v310 c1_i32_199
  let v313 : BitVec 32 := Scalar.muli v312 c1_i32_199
  let v314 : BitVec 32 := Scalar.addi v309 v313
  let v311 : BitVec 32 := Scalar.addi v309 v310
  let c1_i32_201 : BitVec 32 := 1#32
  ⟨v314, v311, c1_i32_201⟩
def k0_mult40 (i : grid0.Coords) (k0_t12 : Fin (k0_t12_loop i).trips) : BitVec 32 :=
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let v310 : BitVec 32 := Scalar.subi arg2 v309
  let c1_i32_199 : BitVec 32 := 1#32
  let v312 : BitVec 32 := Scalar.divsi v310 c1_i32_199
  let v313 : BitVec 32 := Scalar.muli v312 c1_i32_199
  let v314 : BitVec 32 := Scalar.addi v309 v313
  let c1_i32_201 : BitVec 32 := 1#32
  let arg9 : BitVec 32 := Scf.iv v314 c1_i32_201 k0_t12
  let c512_i32_342 : BitVec 32 := 512#32
  let v533 : BitVec 32 := Scalar.muli arg9 c512_i32_342
  v533
def k0_off75 (i : grid0.Coords) (k0_t12 : Fin (k0_t12_loop i).trips) : Fin 4 → Nat :=
  let c0_343 : Index := 0#32
  let c5_344 : Index := 5#32
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let v310 : BitVec 32 := Scalar.subi arg2 v309
  let c1_i32_199 : BitVec 32 := 1#32
  let v312 : BitVec 32 := Scalar.divsi v310 c1_i32_199
  let v313 : BitVec 32 := Scalar.muli v312 c1_i32_199
  let v314 : BitVec 32 := Scalar.addi v309 v313
  let c1_i32_201 : BitVec 32 := 1#32
  let arg9 : BitVec 32 := Scf.iv v314 c1_i32_201 k0_t12
  let c512_i32_342 : BitVec 32 := 512#32
  let v533 : BitVec 32 := Scalar.muli arg9 c512_i32_342
  let v534 : BitVec 32 := v533
  let v535 : Index := Scalar.indexCast v534
  let c0_345 : Index := 0#32
  ![0, 5, v535.toNat, 0]
def k0_off76 (i : grid0.Coords) (k0_t12 : Fin (k0_t12_loop i).trips) : Fin 5 → Nat :=
  let c0_357 : Index := 0#32
  let c4_358 : Index := 4#32
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let v310 : BitVec 32 := Scalar.subi arg2 v309
  let c1_i32_199 : BitVec 32 := 1#32
  let v312 : BitVec 32 := Scalar.divsi v310 c1_i32_199
  let v313 : BitVec 32 := Scalar.muli v312 c1_i32_199
  let v314 : BitVec 32 := Scalar.addi v309 v313
  let c1_i32_201 : BitVec 32 := 1#32
  let arg9 : BitVec 32 := Scf.iv v314 c1_i32_201 k0_t12
  let v546 : Index := Scalar.indexCast arg9
  let c0_359 : Index := 0#32
  let c0_360 : Index := 0#32
  ![0, 4, v546.toNat, 0, 0]
def k0_mult41 (i : grid0.Coords) (k0_t12 : Fin (k0_t12_loop i).trips) : BitVec 32 :=
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let v310 : BitVec 32 := Scalar.subi arg2 v309
  let c1_i32_199 : BitVec 32 := 1#32
  let v312 : BitVec 32 := Scalar.divsi v310 c1_i32_199
  let v313 : BitVec 32 := Scalar.muli v312 c1_i32_199
  let v314 : BitVec 32 := Scalar.addi v309 v313
  let c1_i32_201 : BitVec 32 := 1#32
  let arg9 : BitVec 32 := Scf.iv v314 c1_i32_201 k0_t12
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  v573
def k0_off77 (i : grid0.Coords) (k0_t12 : Fin (k0_t12_loop i).trips) : Fin 4 → Nat :=
  let c0_372 : Index := 0#32
  let c4_373 : Index := 4#32
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let v310 : BitVec 32 := Scalar.subi arg2 v309
  let c1_i32_199 : BitVec 32 := 1#32
  let v312 : BitVec 32 := Scalar.divsi v310 c1_i32_199
  let v313 : BitVec 32 := Scalar.muli v312 c1_i32_199
  let v314 : BitVec 32 := Scalar.addi v309 v313
  let c1_i32_201 : BitVec 32 := 1#32
  let arg9 : BitVec 32 := Scf.iv v314 c1_i32_201 k0_t12
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  let v574 : BitVec 32 := v573
  let v575 : Index := Scalar.indexCast v574
  let c0_374 : Index := 0#32
  ![0, 4, v575.toNat, 0]
def k0_off78 (i : grid0.Coords) (k0_t12 : Fin (k0_t12_loop i).trips) : Fin 5 → Nat :=
  let c0_386 : Index := 0#32
  let c5_387 : Index := 5#32
  let c0_i32_198 : BitVec 32 := 0#32
  let c2_i32_197 : BitVec 32 := 2#32
  let arg2 : BitVec 32 := BitVec.ofNat 32 (i 2).val
  let c0_i32_185 : BitVec 32 := 0#32
  let v283 : BitVec 32 := Scalar.subi arg2 c0_i32_185
  let c0_i32_187 : BitVec 32 := 0#32
  let v285 : BitVec 1 := Scalar.cmpi .sgt v283 c0_i32_187
  let v286 : BitVec 32 := Scalar.extui v285
  let c0_i32_188 : BitVec 32 := 0#32
  let v287 : BitVec 1 := Scalar.cmpi .slt v283 c0_i32_188
  let v288 : BitVec 32 := Scalar.extui v287
  let v289 : BitVec 32 := Scalar.subi v286 v288
  let c2_i32_186 : BitVec 32 := 2#32
  let c0_i32_189 : BitVec 32 := 0#32
  let v290 : BitVec 1 := Scalar.cmpi .sgt c2_i32_186 c0_i32_189
  let v291 : BitVec 32 := Scalar.extui v290
  let c0_i32_190 : BitVec 32 := 0#32
  let v292 : BitVec 1 := Scalar.cmpi .slt c2_i32_186 c0_i32_190
  let v293 : BitVec 32 := Scalar.extui v292
  let v294 : BitVec 32 := Scalar.subi v291 v293
  let v295 : BitVec 1 := Scalar.cmpi .ne v289 v294
  let v296 : BitVec 32 := Scalar.remsi v283 c2_i32_186
  let c0_i32_191 : BitVec 32 := 0#32
  let v297 : BitVec 1 := Scalar.cmpi .ne v296 c0_i32_191
  let v298 : BitVec 1 := Scalar.andi v295 v297
  let v284 : BitVec 32 := Scalar.divsi v283 c2_i32_186
  let c1_i32_192 : BitVec 32 := 1#32
  let v299 : BitVec 32 := Scalar.subi v284 c1_i32_192
  let v300 : BitVec 32 := Scalar.select v298 v299 v284
  let v308 : BitVec 32 := Scalar.muli c2_i32_197 v300
  let v309 : BitVec 32 := Scalar.addi c0_i32_198 v308
  let v310 : BitVec 32 := Scalar.subi arg2 v309
  let c1_i32_199 : BitVec 32 := 1#32
  let v312 : BitVec 32 := Scalar.divsi v310 c1_i32_199
  let v313 : BitVec 32 := Scalar.muli v312 c1_i32_199
  let v314 : BitVec 32 := Scalar.addi v309 v313
  let c1_i32_201 : BitVec 32 := 1#32
  let arg9 : BitVec 32 := Scf.iv v314 c1_i32_201 k0_t12
  let v586 : Index := Scalar.indexCast arg9
  let c0_388 : Index := 0#32
  let c0_389 : Index := 0#32
  ![0, 5, v586.toNat, 0, 0]
def k0_mult42 (i : grid0.Coords) : BitVec 32 :=
  let arg2 : BitVec 32 := BitVec.ofNat 32 (i 2).val
  let c512_i32_202 : BitVec 32 := 512#32
  let v317 : BitVec 32 := Scalar.muli arg2 c512_i32_202
  v317
def k0_off79 (i : grid0.Coords) : Fin 4 → Nat :=
  let c0_203 : Index := 0#32
  let c5 : Index := 5#32
  let arg2 : BitVec 32 := BitVec.ofNat 32 (i 2).val
  let c512_i32_202 : BitVec 32 := 512#32
  let v317 : BitVec 32 := Scalar.muli arg2 c512_i32_202
  let v318 : BitVec 32 := v317
  let v319 : Index := Scalar.indexCast v318
  let c0_204 : Index := 0#32
  ![0, 5, v319.toNat, 0]
def k0_off80 (i : grid0.Coords) : Fin 5 → Nat :=
  let c0_217 : Index := 0#32
  let c4_218 : Index := 4#32
  let arg2 : BitVec 32 := BitVec.ofNat 32 (i 2).val
  let v332 : Index := Scalar.indexCast arg2
  let c0_219 : Index := 0#32
  let c0_220 : Index := 0#32
  ![0, 4, v332.toNat, 0, 0]
def k0_off81 (i : grid0.Coords) : Fin 5 → Nat :=
  let c0_234 : Index := 0#32
  let c5_235 : Index := 5#32
  let arg2 : BitVec 32 := BitVec.ofNat 32 (i 2).val
  let v361 : Index := Scalar.indexCast arg2
  let c0_236 : Index := 0#32
  let c0_237 : Index := 0#32
  ![0, 5, v361.toNat, 0, 0]
def k0_mult43 : BitVec 32 :=
  let c0_i32_260 : BitVec 32 := 0#32
  c0_i32_260
@[reducible] def k0_t13_loop (i : grid0.Coords) : Scf.Loop 32 :=
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let c1_i32_281 : BitVec 32 := 1#32
  ⟨c0_i32_279, v437, c1_i32_281⟩
def k0_mult44 (i : grid0.Coords) (k0_t13 : Fin (k0_t13_loop i).trips) : BitVec 32 :=
  let c0_i32_346 : BitVec 32 := 0#32
  let c2_i32_345 : BitVec 32 := 2#32
  let c0_i32_279 : BitVec 32 := 0#32
  let c1_i32_281 : BitVec 32 := 1#32
  let arg9 : BitVec 32 := Scf.iv c0_i32_279 c1_i32_281 k0_t13
  let v536 : BitVec 32 := Scalar.muli c2_i32_345 arg9
  let v537 : BitVec 32 := Scalar.addi c0_i32_346 v536
  let c512_i32_347 : BitVec 32 := 512#32
  let v538 : BitVec 32 := Scalar.muli v537 c512_i32_347
  v538
def k0_off82 (i : grid0.Coords) (k0_t13 : Fin (k0_t13_loop i).trips) : Fin 4 → Nat :=
  let c0_348 : Index := 0#32
  let c7_349 : Index := 7#32
  let c0_i32_346 : BitVec 32 := 0#32
  let c2_i32_345 : BitVec 32 := 2#32
  let c0_i32_279 : BitVec 32 := 0#32
  let c1_i32_281 : BitVec 32 := 1#32
  let arg9 : BitVec 32 := Scf.iv c0_i32_279 c1_i32_281 k0_t13
  let v536 : BitVec 32 := Scalar.muli c2_i32_345 arg9
  let v537 : BitVec 32 := Scalar.addi c0_i32_346 v536
  let c512_i32_347 : BitVec 32 := 512#32
  let v538 : BitVec 32 := Scalar.muli v537 c512_i32_347
  let v539 : BitVec 32 := v538
  let v540 : Index := Scalar.indexCast v539
  let c0_350 : Index := 0#32
  ![0, 7, v540.toNat, 0]
def k0_off83 (i : grid0.Coords) (k0_t13 : Fin (k0_t13_loop i).trips) : Fin 5 → Nat :=
  let c0_362 : Index := 0#32
  let c6_363 : Index := 6#32
  let c0_i32_346 : BitVec 32 := 0#32
  let c2_i32_345 : BitVec 32 := 2#32
  let c0_i32_279 : BitVec 32 := 0#32
  let c1_i32_281 : BitVec 32 := 1#32
  let arg9 : BitVec 32 := Scf.iv c0_i32_279 c1_i32_281 k0_t13
  let v536 : BitVec 32 := Scalar.muli c2_i32_345 arg9
  let v537 : BitVec 32 := Scalar.addi c0_i32_346 v536
  let v551 : Index := Scalar.indexCast v537
  let c0_364 : Index := 0#32
  let c0_365 : Index := 0#32
  ![0, 6, v551.toNat, 0, 0]
def k0_mult45 (i : grid0.Coords) (k0_t13 : Fin (k0_t13_loop i).trips) : BitVec 32 :=
  let c0_i32_346 : BitVec 32 := 0#32
  let c2_i32_345 : BitVec 32 := 2#32
  let c0_i32_279 : BitVec 32 := 0#32
  let c1_i32_281 : BitVec 32 := 1#32
  let arg9 : BitVec 32 := Scf.iv c0_i32_279 c1_i32_281 k0_t13
  let v536 : BitVec 32 := Scalar.muli c2_i32_345 arg9
  let v537 : BitVec 32 := Scalar.addi c0_i32_346 v536
  let c1_i32_375 : BitVec 32 := 1#32
  let v576 : BitVec 32 := Scalar.addi v537 c1_i32_375
  let arg2 : BitVec 32 := BitVec.ofNat 32 (i 2).val
  let v577 : BitVec 32 := Scalar.minsi v576 arg2
  let c512_i32_376 : BitVec 32 := 512#32
  let v578 : BitVec 32 := Scalar.muli v577 c512_i32_376
  v578
def k0_off84 (i : grid0.Coords) (k0_t13 : Fin (k0_t13_loop i).trips) : Fin 4 → Nat :=
  let c0_377 : Index := 0#32
  let c6_378 : Index := 6#32
  let c0_i32_346 : BitVec 32 := 0#32
  let c2_i32_345 : BitVec 32 := 2#32
  let c0_i32_279 : BitVec 32 := 0#32
  let c1_i32_281 : BitVec 32 := 1#32
  let arg9 : BitVec 32 := Scf.iv c0_i32_279 c1_i32_281 k0_t13
  let v536 : BitVec 32 := Scalar.muli c2_i32_345 arg9
  let v537 : BitVec 32 := Scalar.addi c0_i32_346 v536
  let c1_i32_375 : BitVec 32 := 1#32
  let v576 : BitVec 32 := Scalar.addi v537 c1_i32_375
  let arg2 : BitVec 32 := BitVec.ofNat 32 (i 2).val
  let v577 : BitVec 32 := Scalar.minsi v576 arg2
  let c512_i32_376 : BitVec 32 := 512#32
  let v578 : BitVec 32 := Scalar.muli v577 c512_i32_376
  let v579 : BitVec 32 := v578
  let v580 : Index := Scalar.indexCast v579
  let c0_379 : Index := 0#32
  ![0, 6, v580.toNat, 0]
def k0_off85 (i : grid0.Coords) (k0_t13 : Fin (k0_t13_loop i).trips) : Fin 5 → Nat :=
  let c0_391 : Index := 0#32
  let c7_392 : Index := 7#32
  let c0_i32_346 : BitVec 32 := 0#32
  let c2_i32_345 : BitVec 32 := 2#32
  let c0_i32_279 : BitVec 32 := 0#32
  let c1_i32_281 : BitVec 32 := 1#32
  let arg9 : BitVec 32 := Scf.iv c0_i32_279 c1_i32_281 k0_t13
  let v536 : BitVec 32 := Scalar.muli c2_i32_345 arg9
  let v537 : BitVec 32 := Scalar.addi c0_i32_346 v536
  let v591 : Index := Scalar.indexCast v537
  let c0_393 : Index := 0#32
  let c0_394 : Index := 0#32
  ![0, 7, v591.toNat, 0, 0]
def k0_mult46 (i : grid0.Coords) (k0_t13 : Fin (k0_t13_loop i).trips) : BitVec 32 :=
  let c0_i32_343 : BitVec 32 := 0#32
  let c2_i32_342 : BitVec 32 := 2#32
  let c0_i32_279 : BitVec 32 := 0#32
  let c1_i32_281 : BitVec 32 := 1#32
  let arg9 : BitVec 32 := Scf.iv c0_i32_279 c1_i32_281 k0_t13
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  v616
def k0_off86 (i : grid0.Coords) (k0_t13 : Fin (k0_t13_loop i).trips) : Fin 4 → Nat :=
  let c0_405 : Index := 0#32
  let c7_406 : Index := 7#32
  let c0_i32_343 : BitVec 32 := 0#32
  let c2_i32_342 : BitVec 32 := 2#32
  let c0_i32_279 : BitVec 32 := 0#32
  let c1_i32_281 : BitVec 32 := 1#32
  let arg9 : BitVec 32 := Scf.iv c0_i32_279 c1_i32_281 k0_t13
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  let v617 : BitVec 32 := v616
  let v618 : Index := Scalar.indexCast v617
  let c0_407 : Index := 0#32
  ![0, 7, v618.toNat, 0]
def k0_off87 (i : grid0.Coords) (k0_t13 : Fin (k0_t13_loop i).trips) : Fin 5 → Nat :=
  let c0_419 : Index := 0#32
  let c6_420 : Index := 6#32
  let c0_i32_343 : BitVec 32 := 0#32
  let c2_i32_342 : BitVec 32 := 2#32
  let c0_i32_279 : BitVec 32 := 0#32
  let c1_i32_281 : BitVec 32 := 1#32
  let arg9 : BitVec 32 := Scf.iv c0_i32_279 c1_i32_281 k0_t13
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v629 : Index := Scalar.indexCast v535
  let c0_421 : Index := 0#32
  let c0_422 : Index := 0#32
  ![0, 6, v629.toNat, 0, 0]
def k0_mult47 (i : grid0.Coords) (k0_t13 : Fin (k0_t13_loop i).trips) : BitVec 32 :=
  let c0_i32_343 : BitVec 32 := 0#32
  let c2_i32_342 : BitVec 32 := 2#32
  let c0_i32_279 : BitVec 32 := 0#32
  let c1_i32_281 : BitVec 32 := 1#32
  let arg9 : BitVec 32 := Scf.iv c0_i32_279 c1_i32_281 k0_t13
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let arg2 : BitVec 32 := BitVec.ofNat 32 (i 2).val
  let v655 : BitVec 32 := Scalar.minsi v654 arg2
  let c512_i32_433 : BitVec 32 := 512#32
  let v656 : BitVec 32 := Scalar.muli v655 c512_i32_433
  v656
def k0_off88 (i : grid0.Coords) (k0_t13 : Fin (k0_t13_loop i).trips) : Fin 4 → Nat :=
  let c0_434 : Index := 0#32
  let c6_435 : Index := 6#32
  let c0_i32_343 : BitVec 32 := 0#32
  let c2_i32_342 : BitVec 32 := 2#32
  let c0_i32_279 : BitVec 32 := 0#32
  let c1_i32_281 : BitVec 32 := 1#32
  let arg9 : BitVec 32 := Scf.iv c0_i32_279 c1_i32_281 k0_t13
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let arg2 : BitVec 32 := BitVec.ofNat 32 (i 2).val
  let v655 : BitVec 32 := Scalar.minsi v654 arg2
  let c512_i32_433 : BitVec 32 := 512#32
  let v656 : BitVec 32 := Scalar.muli v655 c512_i32_433
  let v657 : BitVec 32 := v656
  let v658 : Index := Scalar.indexCast v657
  let c0_436 : Index := 0#32
  ![0, 6, v658.toNat, 0]
def k0_off89 (i : grid0.Coords) (k0_t13 : Fin (k0_t13_loop i).trips) : Fin 5 → Nat :=
  let c0_448 : Index := 0#32
  let c7_449 : Index := 7#32
  let c0_i32_343 : BitVec 32 := 0#32
  let c2_i32_342 : BitVec 32 := 2#32
  let c0_i32_279 : BitVec 32 := 0#32
  let c1_i32_281 : BitVec 32 := 1#32
  let arg9 : BitVec 32 := Scf.iv c0_i32_279 c1_i32_281 k0_t13
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v669 : Index := Scalar.indexCast v535
  let c0_450 : Index := 0#32
  let c0_451 : Index := 0#32
  ![0, 7, v669.toNat, 0, 0]
@[reducible] def k0_t14_loop (i : grid0.Coords) : Scf.Loop 32 :=
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let v434 : BitVec 32 := Scalar.addi c0_i32_279 v433
  let c1_i32_282 : BitVec 32 := 1#32
  ⟨v437, v434, c1_i32_282⟩
def k0_mult48 (i : grid0.Coords) (k0_t14 : Fin (k0_t14_loop i).trips) : BitVec 32 :=
  let c0_i32_346 : BitVec 32 := 0#32
  let c2_i32_345 : BitVec 32 := 2#32
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let c1_i32_282 : BitVec 32 := 1#32
  let arg9 : BitVec 32 := Scf.iv v437 c1_i32_282 k0_t14
  let v536 : BitVec 32 := Scalar.muli c2_i32_345 arg9
  let v537 : BitVec 32 := Scalar.addi c0_i32_346 v536
  let c512_i32_347 : BitVec 32 := 512#32
  let v538 : BitVec 32 := Scalar.muli v537 c512_i32_347
  v538
def k0_off90 (i : grid0.Coords) (k0_t14 : Fin (k0_t14_loop i).trips) : Fin 4 → Nat :=
  let c0_348 : Index := 0#32
  let c7_349 : Index := 7#32
  let c0_i32_346 : BitVec 32 := 0#32
  let c2_i32_345 : BitVec 32 := 2#32
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let c1_i32_282 : BitVec 32 := 1#32
  let arg9 : BitVec 32 := Scf.iv v437 c1_i32_282 k0_t14
  let v536 : BitVec 32 := Scalar.muli c2_i32_345 arg9
  let v537 : BitVec 32 := Scalar.addi c0_i32_346 v536
  let c512_i32_347 : BitVec 32 := 512#32
  let v538 : BitVec 32 := Scalar.muli v537 c512_i32_347
  let v539 : BitVec 32 := v538
  let v540 : Index := Scalar.indexCast v539
  let c0_350 : Index := 0#32
  ![0, 7, v540.toNat, 0]
def k0_off91 (i : grid0.Coords) (k0_t14 : Fin (k0_t14_loop i).trips) : Fin 5 → Nat :=
  let c0_362 : Index := 0#32
  let c6_363 : Index := 6#32
  let c0_i32_346 : BitVec 32 := 0#32
  let c2_i32_345 : BitVec 32 := 2#32
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let c1_i32_282 : BitVec 32 := 1#32
  let arg9 : BitVec 32 := Scf.iv v437 c1_i32_282 k0_t14
  let v536 : BitVec 32 := Scalar.muli c2_i32_345 arg9
  let v537 : BitVec 32 := Scalar.addi c0_i32_346 v536
  let v551 : Index := Scalar.indexCast v537
  let c0_364 : Index := 0#32
  let c0_365 : Index := 0#32
  ![0, 6, v551.toNat, 0, 0]
def k0_mult49 (i : grid0.Coords) (k0_t14 : Fin (k0_t14_loop i).trips) : BitVec 32 :=
  let c0_i32_346 : BitVec 32 := 0#32
  let c2_i32_345 : BitVec 32 := 2#32
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let c1_i32_282 : BitVec 32 := 1#32
  let arg9 : BitVec 32 := Scf.iv v437 c1_i32_282 k0_t14
  let v536 : BitVec 32 := Scalar.muli c2_i32_345 arg9
  let v537 : BitVec 32 := Scalar.addi c0_i32_346 v536
  let c1_i32_375 : BitVec 32 := 1#32
  let v576 : BitVec 32 := Scalar.addi v537 c1_i32_375
  let v577 : BitVec 32 := Scalar.minsi v576 arg2
  let c512_i32_376 : BitVec 32 := 512#32
  let v578 : BitVec 32 := Scalar.muli v577 c512_i32_376
  v578
def k0_off92 (i : grid0.Coords) (k0_t14 : Fin (k0_t14_loop i).trips) : Fin 4 → Nat :=
  let c0_377 : Index := 0#32
  let c6_378 : Index := 6#32
  let c0_i32_346 : BitVec 32 := 0#32
  let c2_i32_345 : BitVec 32 := 2#32
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let c1_i32_282 : BitVec 32 := 1#32
  let arg9 : BitVec 32 := Scf.iv v437 c1_i32_282 k0_t14
  let v536 : BitVec 32 := Scalar.muli c2_i32_345 arg9
  let v537 : BitVec 32 := Scalar.addi c0_i32_346 v536
  let c1_i32_375 : BitVec 32 := 1#32
  let v576 : BitVec 32 := Scalar.addi v537 c1_i32_375
  let v577 : BitVec 32 := Scalar.minsi v576 arg2
  let c512_i32_376 : BitVec 32 := 512#32
  let v578 : BitVec 32 := Scalar.muli v577 c512_i32_376
  let v579 : BitVec 32 := v578
  let v580 : Index := Scalar.indexCast v579
  let c0_379 : Index := 0#32
  ![0, 6, v580.toNat, 0]
def k0_off93 (i : grid0.Coords) (k0_t14 : Fin (k0_t14_loop i).trips) : Fin 5 → Nat :=
  let c0_391 : Index := 0#32
  let c7_392 : Index := 7#32
  let c0_i32_346 : BitVec 32 := 0#32
  let c2_i32_345 : BitVec 32 := 2#32
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let c1_i32_282 : BitVec 32 := 1#32
  let arg9 : BitVec 32 := Scf.iv v437 c1_i32_282 k0_t14
  let v536 : BitVec 32 := Scalar.muli c2_i32_345 arg9
  let v537 : BitVec 32 := Scalar.addi c0_i32_346 v536
  let v591 : Index := Scalar.indexCast v537
  let c0_393 : Index := 0#32
  let c0_394 : Index := 0#32
  ![0, 7, v591.toNat, 0, 0]
def k0_mult50 (i : grid0.Coords) (k0_t14 : Fin (k0_t14_loop i).trips) : BitVec 32 :=
  let c0_i32_343 : BitVec 32 := 0#32
  let c2_i32_342 : BitVec 32 := 2#32
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let c1_i32_282 : BitVec 32 := 1#32
  let arg9 : BitVec 32 := Scf.iv v437 c1_i32_282 k0_t14
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  v616
def k0_off94 (i : grid0.Coords) (k0_t14 : Fin (k0_t14_loop i).trips) : Fin 4 → Nat :=
  let c0_405 : Index := 0#32
  let c7_406 : Index := 7#32
  let c0_i32_343 : BitVec 32 := 0#32
  let c2_i32_342 : BitVec 32 := 2#32
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let c1_i32_282 : BitVec 32 := 1#32
  let arg9 : BitVec 32 := Scf.iv v437 c1_i32_282 k0_t14
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c512_i32_404 : BitVec 32 := 512#32
  let v616 : BitVec 32 := Scalar.muli v535 c512_i32_404
  let v617 : BitVec 32 := v616
  let v618 : Index := Scalar.indexCast v617
  let c0_407 : Index := 0#32
  ![0, 7, v618.toNat, 0]
def k0_off95 (i : grid0.Coords) (k0_t14 : Fin (k0_t14_loop i).trips) : Fin 5 → Nat :=
  let c0_419 : Index := 0#32
  let c6_420 : Index := 6#32
  let c0_i32_343 : BitVec 32 := 0#32
  let c2_i32_342 : BitVec 32 := 2#32
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let c1_i32_282 : BitVec 32 := 1#32
  let arg9 : BitVec 32 := Scf.iv v437 c1_i32_282 k0_t14
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v629 : Index := Scalar.indexCast v535
  let c0_421 : Index := 0#32
  let c0_422 : Index := 0#32
  ![0, 6, v629.toNat, 0, 0]
def k0_mult51 (i : grid0.Coords) (k0_t14 : Fin (k0_t14_loop i).trips) : BitVec 32 :=
  let c0_i32_343 : BitVec 32 := 0#32
  let c2_i32_342 : BitVec 32 := 2#32
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let c1_i32_282 : BitVec 32 := 1#32
  let arg9 : BitVec 32 := Scf.iv v437 c1_i32_282 k0_t14
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let v655 : BitVec 32 := Scalar.minsi v654 arg2
  let c512_i32_433 : BitVec 32 := 512#32
  let v656 : BitVec 32 := Scalar.muli v655 c512_i32_433
  v656
def k0_off96 (i : grid0.Coords) (k0_t14 : Fin (k0_t14_loop i).trips) : Fin 4 → Nat :=
  let c0_434 : Index := 0#32
  let c6_435 : Index := 6#32
  let c0_i32_343 : BitVec 32 := 0#32
  let c2_i32_342 : BitVec 32 := 2#32
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let c1_i32_282 : BitVec 32 := 1#32
  let arg9 : BitVec 32 := Scf.iv v437 c1_i32_282 k0_t14
  let v533 : BitVec 32 := Scalar.muli c2_i32_342 arg9
  let v534 : BitVec 32 := Scalar.addi c0_i32_343 v533
  let c1_i32_344 : BitVec 32 := 1#32
  let v535 : BitVec 32 := Scalar.addi v534 c1_i32_344
  let c1_i32_432 : BitVec 32 := 1#32
  let v654 : BitVec 32 := Scalar.addi v535 c1_i32_432
  let v655 : BitVec 32 := Scalar.minsi v654 arg2
  let c512_i32_433 : BitVec 32 := 512#32
  let v656 : BitVec 32 := Scalar.muli v655 c512_i32_433
  let v657 : BitVec 32 := v656
  let v658 : Index := Scalar.indexCast v657
  let c0_436 : Index := 0#32
  ![0, 6, v658.toNat, 0]
def k0_off97 (i : grid0.Coords) (k0_t14 : Fin (k0_t14_loop i).trips) : Fin 5 → Nat :=
  let c0_448 : Index := 0#32
  let c7_449 : Index := 7#32
  let c0_i32_343 : BitVec 32 := 0#32
  let c2_i32_342 : BitVec 32 := 2#32
  let c0_i32_279 : BitVec 32 := 0#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v433 : BitVec 32 := Scalar.subi v432 c0_i32_279
  let c1_i32_280 : BitVec 32 := 1#32
  let v435 : BitVec 32 := Scalar.divsi v433 c1_i32_280
  let v436 : BitVec 32 := Scalar.muli v435 c1_i32_280
  let v437 : BitVec 32 := Scalar.addi c0_i32_279 v436
  let c1_i32_282 : BitVec 32 := 1#32
  let arg9 : BitVec 32 := Scf.iv v437 c1_i32_282 k0_t14
  let v533 : BitVec 32 := Scalar.muli c2_i32_342 arg9
  let v534 : BitVec 32 := Scalar.addi c0_i32_343 v533
  let c1_i32_344 : BitVec 32 := 1#32
  let v535 : BitVec 32 := Scalar.addi v534 c1_i32_344
  let v669 : Index := Scalar.indexCast v535
  let c0_450 : Index := 0#32
  let c0_451 : Index := 0#32
  ![0, 7, v669.toNat, 0, 0]
@[reducible] def k0_t15_loop (i : grid0.Coords) : Scf.Loop 32 :=
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let v442 : BitVec 32 := Scalar.subi arg2 v441
  let c1_i32_285 : BitVec 32 := 1#32
  let v444 : BitVec 32 := Scalar.divsi v442 c1_i32_285
  let v445 : BitVec 32 := Scalar.muli v444 c1_i32_285
  let v446 : BitVec 32 := Scalar.addi v441 v445
  let c1_i32_286 : BitVec 32 := 1#32
  ⟨v441, v446, c1_i32_286⟩
def k0_mult52 (i : grid0.Coords) (k0_t15 : Fin (k0_t15_loop i).trips) : BitVec 32 :=
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let c1_i32_286 : BitVec 32 := 1#32
  let arg9 : BitVec 32 := Scf.iv v441 c1_i32_286 k0_t15
  let c512_i32_342 : BitVec 32 := 512#32
  let v533 : BitVec 32 := Scalar.muli arg9 c512_i32_342
  v533
def k0_off98 (i : grid0.Coords) (k0_t15 : Fin (k0_t15_loop i).trips) : Fin 4 → Nat :=
  let c0_343 : Index := 0#32
  let c7_344 : Index := 7#32
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let c1_i32_286 : BitVec 32 := 1#32
  let arg9 : BitVec 32 := Scf.iv v441 c1_i32_286 k0_t15
  let c512_i32_342 : BitVec 32 := 512#32
  let v533 : BitVec 32 := Scalar.muli arg9 c512_i32_342
  let v534 : BitVec 32 := v533
  let v535 : Index := Scalar.indexCast v534
  let c0_345 : Index := 0#32
  ![0, 7, v535.toNat, 0]
def k0_off99 (i : grid0.Coords) (k0_t15 : Fin (k0_t15_loop i).trips) : Fin 5 → Nat :=
  let c0_357 : Index := 0#32
  let c6_358 : Index := 6#32
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let c1_i32_286 : BitVec 32 := 1#32
  let arg9 : BitVec 32 := Scf.iv v441 c1_i32_286 k0_t15
  let v546 : Index := Scalar.indexCast arg9
  let c0_359 : Index := 0#32
  let c0_360 : Index := 0#32
  ![0, 6, v546.toNat, 0, 0]
def k0_mult53 (i : grid0.Coords) (k0_t15 : Fin (k0_t15_loop i).trips) : BitVec 32 :=
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let c1_i32_286 : BitVec 32 := 1#32
  let arg9 : BitVec 32 := Scf.iv v441 c1_i32_286 k0_t15
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  v573
def k0_off100 (i : grid0.Coords) (k0_t15 : Fin (k0_t15_loop i).trips) : Fin 4 → Nat :=
  let c0_372 : Index := 0#32
  let c6_373 : Index := 6#32
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let c1_i32_286 : BitVec 32 := 1#32
  let arg9 : BitVec 32 := Scf.iv v441 c1_i32_286 k0_t15
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  let v574 : BitVec 32 := v573
  let v575 : Index := Scalar.indexCast v574
  let c0_374 : Index := 0#32
  ![0, 6, v575.toNat, 0]
def k0_off101 (i : grid0.Coords) (k0_t15 : Fin (k0_t15_loop i).trips) : Fin 5 → Nat :=
  let c0_386 : Index := 0#32
  let c7_387 : Index := 7#32
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let c1_i32_286 : BitVec 32 := 1#32
  let arg9 : BitVec 32 := Scf.iv v441 c1_i32_286 k0_t15
  let v586 : Index := Scalar.indexCast arg9
  let c0_388 : Index := 0#32
  let c0_389 : Index := 0#32
  ![0, 7, v586.toNat, 0, 0]
@[reducible] def k0_t16_loop (i : grid0.Coords) : Scf.Loop 32 :=
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let v442 : BitVec 32 := Scalar.subi arg2 v441
  let c1_i32_285 : BitVec 32 := 1#32
  let v444 : BitVec 32 := Scalar.divsi v442 c1_i32_285
  let v445 : BitVec 32 := Scalar.muli v444 c1_i32_285
  let v446 : BitVec 32 := Scalar.addi v441 v445
  let v443 : BitVec 32 := Scalar.addi v441 v442
  let c1_i32_287 : BitVec 32 := 1#32
  ⟨v446, v443, c1_i32_287⟩
def k0_mult54 (i : grid0.Coords) (k0_t16 : Fin (k0_t16_loop i).trips) : BitVec 32 :=
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let v442 : BitVec 32 := Scalar.subi arg2 v441
  let c1_i32_285 : BitVec 32 := 1#32
  let v444 : BitVec 32 := Scalar.divsi v442 c1_i32_285
  let v445 : BitVec 32 := Scalar.muli v444 c1_i32_285
  let v446 : BitVec 32 := Scalar.addi v441 v445
  let c1_i32_287 : BitVec 32 := 1#32
  let arg9 : BitVec 32 := Scf.iv v446 c1_i32_287 k0_t16
  let c512_i32_342 : BitVec 32 := 512#32
  let v533 : BitVec 32 := Scalar.muli arg9 c512_i32_342
  v533
def k0_off102 (i : grid0.Coords) (k0_t16 : Fin (k0_t16_loop i).trips) : Fin 4 → Nat :=
  let c0_343 : Index := 0#32
  let c7_344 : Index := 7#32
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let v442 : BitVec 32 := Scalar.subi arg2 v441
  let c1_i32_285 : BitVec 32 := 1#32
  let v444 : BitVec 32 := Scalar.divsi v442 c1_i32_285
  let v445 : BitVec 32 := Scalar.muli v444 c1_i32_285
  let v446 : BitVec 32 := Scalar.addi v441 v445
  let c1_i32_287 : BitVec 32 := 1#32
  let arg9 : BitVec 32 := Scf.iv v446 c1_i32_287 k0_t16
  let c512_i32_342 : BitVec 32 := 512#32
  let v533 : BitVec 32 := Scalar.muli arg9 c512_i32_342
  let v534 : BitVec 32 := v533
  let v535 : Index := Scalar.indexCast v534
  let c0_345 : Index := 0#32
  ![0, 7, v535.toNat, 0]
def k0_off103 (i : grid0.Coords) (k0_t16 : Fin (k0_t16_loop i).trips) : Fin 5 → Nat :=
  let c0_357 : Index := 0#32
  let c6_358 : Index := 6#32
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let v442 : BitVec 32 := Scalar.subi arg2 v441
  let c1_i32_285 : BitVec 32 := 1#32
  let v444 : BitVec 32 := Scalar.divsi v442 c1_i32_285
  let v445 : BitVec 32 := Scalar.muli v444 c1_i32_285
  let v446 : BitVec 32 := Scalar.addi v441 v445
  let c1_i32_287 : BitVec 32 := 1#32
  let arg9 : BitVec 32 := Scf.iv v446 c1_i32_287 k0_t16
  let v546 : Index := Scalar.indexCast arg9
  let c0_359 : Index := 0#32
  let c0_360 : Index := 0#32
  ![0, 6, v546.toNat, 0, 0]
def k0_mult55 (i : grid0.Coords) (k0_t16 : Fin (k0_t16_loop i).trips) : BitVec 32 :=
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let v442 : BitVec 32 := Scalar.subi arg2 v441
  let c1_i32_285 : BitVec 32 := 1#32
  let v444 : BitVec 32 := Scalar.divsi v442 c1_i32_285
  let v445 : BitVec 32 := Scalar.muli v444 c1_i32_285
  let v446 : BitVec 32 := Scalar.addi v441 v445
  let c1_i32_287 : BitVec 32 := 1#32
  let arg9 : BitVec 32 := Scf.iv v446 c1_i32_287 k0_t16
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  v573
def k0_off104 (i : grid0.Coords) (k0_t16 : Fin (k0_t16_loop i).trips) : Fin 4 → Nat :=
  let c0_372 : Index := 0#32
  let c6_373 : Index := 6#32
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let v442 : BitVec 32 := Scalar.subi arg2 v441
  let c1_i32_285 : BitVec 32 := 1#32
  let v444 : BitVec 32 := Scalar.divsi v442 c1_i32_285
  let v445 : BitVec 32 := Scalar.muli v444 c1_i32_285
  let v446 : BitVec 32 := Scalar.addi v441 v445
  let c1_i32_287 : BitVec 32 := 1#32
  let arg9 : BitVec 32 := Scf.iv v446 c1_i32_287 k0_t16
  let c1_i32_370 : BitVec 32 := 1#32
  let v571 : BitVec 32 := Scalar.addi arg9 c1_i32_370
  let v572 : BitVec 32 := Scalar.minsi v571 arg2
  let c512_i32_371 : BitVec 32 := 512#32
  let v573 : BitVec 32 := Scalar.muli v572 c512_i32_371
  let v574 : BitVec 32 := v573
  let v575 : Index := Scalar.indexCast v574
  let c0_374 : Index := 0#32
  ![0, 6, v575.toNat, 0]
def k0_off105 (i : grid0.Coords) (k0_t16 : Fin (k0_t16_loop i).trips) : Fin 5 → Nat :=
  let c0_386 : Index := 0#32
  let c7_387 : Index := 7#32
  let c0_i32_284 : BitVec 32 := 0#32
  let c2_i32_283 : BitVec 32 := 2#32
  let arg2 : BitVec 32 := BitVec.ofNat 32 (i 2).val
  let c0_i32_271 : BitVec 32 := 0#32
  let v415 : BitVec 32 := Scalar.subi arg2 c0_i32_271
  let c0_i32_273 : BitVec 32 := 0#32
  let v417 : BitVec 1 := Scalar.cmpi .sgt v415 c0_i32_273
  let v418 : BitVec 32 := Scalar.extui v417
  let c0_i32_274 : BitVec 32 := 0#32
  let v419 : BitVec 1 := Scalar.cmpi .slt v415 c0_i32_274
  let v420 : BitVec 32 := Scalar.extui v419
  let v421 : BitVec 32 := Scalar.subi v418 v420
  let c2_i32_272 : BitVec 32 := 2#32
  let c0_i32_275 : BitVec 32 := 0#32
  let v422 : BitVec 1 := Scalar.cmpi .sgt c2_i32_272 c0_i32_275
  let v423 : BitVec 32 := Scalar.extui v422
  let c0_i32_276 : BitVec 32 := 0#32
  let v424 : BitVec 1 := Scalar.cmpi .slt c2_i32_272 c0_i32_276
  let v425 : BitVec 32 := Scalar.extui v424
  let v426 : BitVec 32 := Scalar.subi v423 v425
  let v427 : BitVec 1 := Scalar.cmpi .ne v421 v426
  let v428 : BitVec 32 := Scalar.remsi v415 c2_i32_272
  let c0_i32_277 : BitVec 32 := 0#32
  let v429 : BitVec 1 := Scalar.cmpi .ne v428 c0_i32_277
  let v430 : BitVec 1 := Scalar.andi v427 v429
  let v416 : BitVec 32 := Scalar.divsi v415 c2_i32_272
  let c1_i32_278 : BitVec 32 := 1#32
  let v431 : BitVec 32 := Scalar.subi v416 c1_i32_278
  let v432 : BitVec 32 := Scalar.select v430 v431 v416
  let v440 : BitVec 32 := Scalar.muli c2_i32_283 v432
  let v441 : BitVec 32 := Scalar.addi c0_i32_284 v440
  let v442 : BitVec 32 := Scalar.subi arg2 v441
  let c1_i32_285 : BitVec 32 := 1#32
  let v444 : BitVec 32 := Scalar.divsi v442 c1_i32_285
  let v445 : BitVec 32 := Scalar.muli v444 c1_i32_285
  let v446 : BitVec 32 := Scalar.addi v441 v445
  let c1_i32_287 : BitVec 32 := 1#32
  let arg9 : BitVec 32 := Scf.iv v446 c1_i32_287 k0_t16
  let v586 : Index := Scalar.indexCast arg9
  let c0_388 : Index := 0#32
  let c0_389 : Index := 0#32
  ![0, 7, v586.toNat, 0, 0]
def k0_mult56 (i : grid0.Coords) : BitVec 32 :=
  let arg2 : BitVec 32 := BitVec.ofNat 32 (i 2).val
  let c512_i32_288 : BitVec 32 := 512#32
  let v449 : BitVec 32 := Scalar.muli arg2 c512_i32_288
  v449
def k0_off106 (i : grid0.Coords) : Fin 4 → Nat :=
  let c0_289 : Index := 0#32
  let c7 : Index := 7#32
  let arg2 : BitVec 32 := BitVec.ofNat 32 (i 2).val
  let c512_i32_288 : BitVec 32 := 512#32
  let v449 : BitVec 32 := Scalar.muli arg2 c512_i32_288
  let v450 : BitVec 32 := v449
  let v451 : Index := Scalar.indexCast v450
  let c0_290 : Index := 0#32
  ![0, 7, v451.toNat, 0]
def k0_off107 (i : grid0.Coords) : Fin 5 → Nat :=
  let c0_303 : Index := 0#32
  let c6_304 : Index := 6#32
  let arg2 : BitVec 32 := BitVec.ofNat 32 (i 2).val
  let v464 : Index := Scalar.indexCast arg2
  let c0_305 : Index := 0#32
  let c0_306 : Index := 0#32
  ![0, 6, v464.toNat, 0, 0]
def k0_off108 (i : grid0.Coords) : Fin 5 → Nat :=
  let c0_320 : Index := 0#32
  let c7_321 : Index := 7#32
  let arg2 : BitVec 32 := BitVec.ofNat 32 (i 2).val
  let v493 : Index := Scalar.indexCast arg2
  let c0_322 : Index := 0#32
  let c0_323 : Index := 0#32
  ![0, 7, v493.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x8x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x8x128x4096 : Shape := ⟨4, ![8, 8, 128, 4096]⟩
abbrev S8x8x4096x128 : Shape := ⟨4, ![8, 8, 4096, 128]⟩
abbrev S8x8x8x64x512 : Shape := ⟨5, ![8, 8, 8, 64, 512]⟩
abbrev S8x4096x8x128 : Shape := ⟨4, ![8, 4096, 8, 128]⟩
abbrev S8x8x512x8x64 : Shape := ⟨5, ![8, 8, 512, 8, 64]⟩
abbrev S8x4096x8x64 : Shape := ⟨4, ![8, 4096, 8, 64]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S32768x512 : Shape := ⟨2, ![32768, 512]⟩

abbrev nBuf : Space → Nat
  | .hbm => 46
  | .vmem => 0
  | .smem => 0
  | _ => 0

abbrev bufTy : (tb : Table) → Fin (tcTables nBuf tb) → BufTy
  | .hbm, ⟨0, _⟩ => ⟨S8x8x128x4096, .bf16⟩
  | .hbm, ⟨1, _⟩ => ⟨S8x8x4096x128, .bf16⟩
  | .hbm, ⟨2, _⟩ => ⟨S8x8x8x64x512, .bf16⟩
  | .hbm, ⟨3, _⟩ => ⟨S8x4096x8x128, .bf16⟩
  | .hbm, ⟨4, _⟩ => ⟨S8x4096x8x128, .bf16⟩
  | .hbm, ⟨5, _⟩ => ⟨S8x8x512x8x64, .bf16⟩
  | .hbm, ⟨6, _⟩ => ⟨S8x4096x8x64, .bf16⟩
  | .hbm, ⟨7, _⟩ => ⟨S8x8x4096x4096, .f32⟩
  | .hbm, ⟨8, _⟩ => ⟨S_, .f32⟩
  | .hbm, ⟨9, _⟩ => ⟨S_, .f32⟩
  | .hbm, ⟨10, _⟩ => ⟨S8x8x4096x4096, .f32⟩
  | .hbm, ⟨11, _⟩ => ⟨S8x8x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S8x8x4096x4096, .i1⟩
  | .hbm, ⟨21, _⟩ => ⟨S8x8x4096x4096, .f32⟩
  | .hbm, ⟨22, _⟩ => ⟨S8x8x4096x4096, .f32⟩
  | .hbm, ⟨23, _⟩ => ⟨S_, .f32⟩
  | .hbm, ⟨24, _⟩ => ⟨S8x8x4096, .f32⟩
  | .hbm, ⟨25, _⟩ => ⟨S8x8x4096x1, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S_, .f32⟩
  | .hbm, ⟨30, _⟩ => ⟨S_, .f32⟩
  | .hbm, ⟨31, _⟩ => ⟨S8x8x4096x4096, .i1⟩
  | .hbm, ⟨32, _⟩ => ⟨S8x8x4096x4096, .f32⟩
  | .hbm, ⟨33, _⟩ => ⟨S8x8x4096x4096, .f32⟩
  | .hbm, ⟨34, _⟩ => ⟨S_, .f32⟩
  | .hbm, ⟨35, _⟩ => ⟨S8x8x4096, .f32⟩
  | .hbm, ⟨36, _⟩ => ⟨S8x8x4096x1, .f32⟩
  | .hbm, ⟨37, _⟩ => ⟨S_, .f32⟩
  | .hbm, ⟨38, _⟩ => ⟨S8x8x4096x1, .f32⟩
  | .hbm, ⟨39, _⟩ => ⟨S8x8x4096x1, .f32⟩
  | .hbm, ⟨40, _⟩ => ⟨S8x8x4096x4096, .f32⟩
  | .hbm, ⟨41, _⟩ => ⟨S8x8x4096x4096, .f32⟩
  | .hbm, ⟨42, _⟩ => ⟨S8x8x4096x4096, .bf16⟩
  | .hbm, ⟨43, _⟩ => ⟨S8x8x64x4096, .f32⟩
  | .hbm, ⟨44, _⟩ => ⟨S8x4096x8x64, .f32⟩
  | .hbm, ⟨45, _⟩ => ⟨S32768x512, .f32⟩
  | _, _ => ⟨S8x8x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== KernelIn.lean ====
abbrev S32768x1024 : Shape := ⟨2, ![32768, 1024]⟩
abbrev S1024 : Shape := ⟨1, ![1024]⟩
abbrev S8x1x1024 : Shape := ⟨3, ![8, 1, 1024]⟩
abbrev S1024x7168 : Shape := ⟨2, ![1024, 7168]⟩
abbrev S1x1024 : Shape := ⟨2, ![1, 1024]⟩
abbrev S32768x7168 : Shape := ⟨2, ![32768, 7168]⟩
abbrev S1024x1024 : Shape := ⟨2, ![1024, 1024]⟩
abbrev S1x1x1024 : Shape := ⟨3, ![1, 1, 1024]⟩
abbrev S1024x1792 : Shape := ⟨2, ![1024, 1792]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x7168, .bf16⟩
  | .hbm, ⟨5, _⟩ => ⟨S1x1024, .f32⟩
  | .hbm, ⟨6, _⟩ => ⟨S32768x7168, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1792, .bf16⟩
  | .local _ .vmem, ⟨8, _⟩ => ⟨S1024x1792, .bf16⟩
  | .local _ .vmem, ⟨9, _⟩ => ⟨S1024x1792, .bf16⟩
  | .local _ .vmem, ⟨10, _⟩ => ⟨S1024x1792, .bf16⟩
  | .local _ .vmem, ⟨11, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceInIdeal.lean ====
abbrev S32768x1024 : Shape := ⟨2, ![32768, 1024]⟩
abbrev S1024 : Shape := ⟨1, ![1024]⟩
abbrev S8x1x1024 : Shape := ⟨3, ![8, 1, 1024]⟩
abbrev S1024x7168 : Shape := ⟨2, ![1024, 7168]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x7168 : Shape := ⟨3, ![8, 4096, 7168]⟩
abbrev S32768x7168 : Shape := ⟨2, ![32768, 7168]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x7168, .bf16⟩
  | .hbm, ⟨5, _⟩ => ⟨S8x4096x1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .bf16⟩
  | .hbm, ⟨30, _⟩ => ⟨S8x4096x7168, .f32⟩
  | .hbm, ⟨31, _⟩ => ⟨S32768x7168, .f32⟩
  | .hbm, ⟨32, _⟩ => ⟨S32768x7168, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== KernelDown.lean ====
abbrev S32768x2816 : Shape := ⟨2, ![32768, 2816]⟩
abbrev S2816x1024 : Shape := ⟨2, ![2816, 1024]⟩
abbrev S32768x1024 : Shape := ⟨2, ![32768, 1024]⟩
abbrev S1024 : Shape := ⟨1, ![1024]⟩
abbrev S8x1x1024 : Shape := ⟨3, ![8, 1, 1024]⟩
abbrev S1x1024 : Shape := ⟨2, ![1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S32768x2816, .bf16⟩
  | .hbm, ⟨1, _⟩ => ⟨S2816x1024, .bf16⟩
  | .hbm, ⟨2, _⟩ => ⟨S32768x1024, .f32⟩
  | .hbm, ⟨3, _⟩ => ⟨S1024, .f32⟩
  | .hbm, ⟨4, _⟩ => ⟨S8x1x1024, .f32⟩
  | .hbm, ⟨5, _⟩ => ⟨S1x1024, .f32⟩
  | .hbm, ⟨6, _⟩ => ⟨S32768x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | _, _ => ⟨S32768x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceDownIdeal.lean ====
abbrev S32768x2816 : Shape := ⟨2, ![32768, 2816]⟩
abbrev S2816x1024 : Shape := ⟨2, ![2816, 1024]⟩
abbrev S32768x1024 : Shape := ⟨2, ![32768, 1024]⟩
abbrev S1024 : Shape := ⟨1, ![1024]⟩
abbrev S8x1x1024 : Shape := ⟨3, ![8, 1, 1024]⟩
abbrev S8x4096x1024 : Shape := ⟨3, ![8, 4096, 1024]⟩
abbrev S8x4096x2816 : Shape := ⟨3, ![8, 4096, 2816]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S32768x2816, .bf16⟩
  | .hbm, ⟨1, _⟩ => ⟨S2816x1024, .bf16⟩
  | .hbm, ⟨2, _⟩ => ⟨S32768x1024, .f32⟩
  | .hbm, ⟨3, _⟩ => ⟨S1024, .f32⟩
  | .hbm, ⟨4, _⟩ => ⟨S8x1x1024, .f32⟩
  | .hbm, ⟨5, _⟩ => ⟨S8x4096x1024, .f32⟩
  | .hbm, ⟨6, _⟩ => ⟨S8x4096x2816, .bf16⟩
  | .hbm, ⟨7, _⟩ => ⟨S8x4096x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S32768x1024, .f32⟩
  | _, _ => ⟨S32768x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelUp.lean ====
abbrev S32768x1024 : Shape := ⟨2, ![32768, 1024]⟩
abbrev S1024 : Shape := ⟨1, ![1024]⟩
abbrev S8x1x1024 : Shape := ⟨3, ![8, 1, 1024]⟩
abbrev S1024x5632 : Shape := ⟨2, ![1024, 5632]⟩
abbrev S3x5632 : Shape := ⟨2, ![3, 5632]⟩
abbrev S5632 : Shape := ⟨1, ![5632]⟩
abbrev S1x1024 : Shape := ⟨2, ![1, 1024]⟩
abbrev S1x5632 : Shape := ⟨2, ![1, 5632]⟩
abbrev S32768x2816 : Shape := ⟨2, ![32768, 2816]⟩
abbrev S256x1024 : Shape := ⟨2, ![256, 1024]⟩
abbrev S1x1x1024 : Shape := ⟨3, ![1, 1, 1024]⟩
abbrev S1024x2816 : Shape := ⟨2, ![1024, 2816]⟩
abbrev S256x2816 : Shape := ⟨2, ![256, 2816]⟩
abbrev S8x2816 : Shape := ⟨2, ![8, 2816]⟩
abbrev S256 : Shape := ⟨1, ![256]⟩
abbrev S256x1 : Shape := ⟨2, ![256, 1]⟩
abbrev S8x256 : Shape := ⟨2, ![8, 256]⟩
abbrev S1024x256 : Shape := ⟨2, ![1024, 256]⟩
abbrev S256x256 : Shape := ⟨2, ![256, 256]⟩
abbrev S1x256 : Shape := ⟨2, ![1, 256]⟩
abbrev S248x256 : Shape := ⟨2, ![248, 256]⟩

abbrev nBuf : Space → Nat
  | .hbm => 10
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x5632, .bf16⟩
  | .hbm, ⟨5, _⟩ => ⟨S3x5632, .f32⟩
  | .hbm, ⟨6, _⟩ => ⟨S5632, .f32⟩
  | .hbm, ⟨7, _⟩ => ⟨S1x1024, .f32⟩
  | .hbm, ⟨8, _⟩ => ⟨S1x5632, .f32⟩
  | .hbm, ⟨9, _⟩ => ⟨S32768x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2816, .bf16⟩
  | .local _ .vmem, ⟨8, _⟩ => ⟨S1024x2816, .bf16⟩
  | .local _ .vmem, ⟨9, _⟩ => ⟨S3x5632, .f32⟩
  | .local _ .vmem, ⟨10, _⟩ => ⟨S1x5632, .f32⟩
  | .local _ .vmem, ⟨11, _⟩ => ⟨S256x2816, .bf16⟩
  | .local _ .vmem, ⟨12, _⟩ => ⟨S256x2816, .bf16⟩
  | .local _ .vmem, ⟨13, _⟩ => ⟨S8x2816, .f32⟩
  | .local _ .vmem, ⟨14, _⟩ => ⟨S8x2816, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceUpIdeal.lean ====
abbrev S32768x1024 : Shape := ⟨2, ![32768, 1024]⟩
abbrev S1024 : Shape := ⟨1, ![1024]⟩
abbrev S8x1x1024 : Shape := ⟨3, ![8, 1, 1024]⟩
abbrev S1024x5632 : Shape := ⟨2, ![1024, 5632]⟩
abbrev S3x5632 : Shape := ⟨2, ![3, 5632]⟩
abbrev S5632 : Shape := ⟨1, ![5632]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩
abbrev S32768x2816 : Shape := ⟨2, ![32768, 2816]⟩

abbrev nBuf : Space → Nat
  | .hbm => 84
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x5632, .bf16⟩
  | .hbm, ⟨5, _⟩ => ⟨S3x5632, .f32⟩
  | .hbm, ⟨6, _⟩ => ⟨S5632, .f32⟩
  | .hbm, ⟨7, _⟩ => ⟨S8x4096x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .bf16⟩
  | .hbm, ⟨32, _⟩ => ⟨S8x4096x5632, .f32⟩
  | .hbm, ⟨33, _⟩ => ⟨S_, .i32⟩
  | .hbm, ⟨34, _⟩ => ⟨S_, .f32⟩
  | .hbm, ⟨35, _⟩ => ⟨S8x4098x5632, .f32⟩
  | .hbm, ⟨36, _⟩ => ⟨S1x5632, .f32⟩
  | .hbm, ⟨37, _⟩ => ⟨S5632, .f32⟩
  | .hbm, ⟨38, _⟩ => ⟨S8x4096x5632, .f32⟩
  | .hbm, ⟨39, _⟩ => ⟨S1x1x5632, .f32⟩
  | .hbm, ⟨40, _⟩ => ⟨S8x4096x5632, .f32⟩
  | .hbm, ⟨41, _⟩ => ⟨S8x4096x5632, .f32⟩
  | .hbm, ⟨42, _⟩ => ⟨S_, .f32⟩
  | .hbm, ⟨43, _⟩ => ⟨S8x4096x5632, .f32⟩
  | .hbm, ⟨44, _⟩ => ⟨S8x4096x5632, .f32⟩
  | .hbm, ⟨45, _⟩ => ⟨S1x5632, .f32⟩
  | .hbm, ⟨46, _⟩ => ⟨S5632, .f32⟩
  | .hbm, ⟨47, _⟩ => ⟨S8x4096x5632, .f32⟩
  | .hbm, ⟨48, _⟩ => ⟨S1x1x5632, .f32⟩
  | .hbm, ⟨49, _⟩ => ⟨S8x4096x5632, .f32⟩
  | .hbm, ⟨50, _⟩ => ⟨S8x4096x5632, .f32⟩
  | .hbm, ⟨51, _⟩ => ⟨S8x4096x5632, .f32⟩
  | .hbm, ⟨52, _⟩ => ⟨S1x5632, .f32⟩
  | .hbm, ⟨53, _⟩ => ⟨S5632, .f32⟩
  | .hbm, ⟨54, _⟩ => ⟨S8x4096x5632, .f32⟩
  | .hbm, ⟨55, _⟩ => ⟨S1x1x5632, .f32⟩
  | .hbm, ⟨56, _⟩ => ⟨S8x4096x5632, .f32⟩
  | .hbm, ⟨57, _⟩ => ⟨S8x4096x5632, .f32⟩
  | .hbm, ⟨58, _⟩ => ⟨S8x4096x5632, .f32⟩
  | .hbm, ⟨59, _⟩ => ⟨S1x1x5632, .f32⟩
  | .hbm, ⟨60, _⟩ => ⟨S8x4096x5632, .f32⟩
  | .hbm, ⟨61, _⟩ => ⟨S8x4096x5632, .f32⟩
  | .hbm, ⟨62, _⟩ => ⟨S8x4096x2816, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S_, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S_, .f32⟩
  | .hbm, ⟨75, _⟩ => ⟨S8x4096x2816, .f32⟩
  | .hbm, ⟨76, _⟩ => ⟨S8x4096x2816, .f32⟩
  | .hbm, ⟨77, _⟩ => ⟨S_, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S8x4096x2816, .f32⟩
  | .hbm, ⟨82, _⟩ => ⟨S32768x2816, .f32⟩
  | .hbm, ⟨83, _⟩ => ⟨S32768x2816, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_4 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_6 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Proof.Mla.FrameBody.lean ====
/- The attention kernel's body as printed, run once on any staging buffers: it only overwrites its result and its scratch. -/
module

public import proofs.«01_k».proof.Proof.Gen.Kernel.Loops
public import proofs.«01_k».proof.Proof.Gen.Kernel.Frame

@[expose] public section

set_option maxRecDepth 16384

noncomputable section

namespace Cert.Kernel.Mla

open Idealize.ShloMosaic Idealize.ShloMosaic.TcCoe Idealize.ShloMosaic.Tactic Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- A buffer held is a buffer holding something. -/
theorem some_contents (c : Dev nD) {s : Shape} {e : EltTy} (arg : Memref sig .tc .vmem s e) (f : BufTy.Contents (Elt F) arg.view.ty) :
    (iprop(arg.view.loc (c : Thread nD τ) ↦[arg.view.set]{fullShare} f) : sProp 𝕄G)
      ⊢ iprop(∃ d, ∃ f', ⌜arg.view.read (Elt F) f' = d⌝ ∗ (arg.view.loc (c : Thread nD τ) ↦[arg.view.set]{fullShare} f')) := by
  iintro H
  iexists (arg.view.read (Elt F) f)
  iexists f
  isplitr
  · ipureintro; exact rfl
  · iexact H

set_option maxHeartbeats 8000000 in
/-- The attention kernel's body: it leaves the three blocks as they are. -/
theorem kernelRun (c : Dev nD) (i : grid0.Coords)
    (arg3 : Memref sig .tc .vmem S1x8x128x512 .bf16) (harg3 : arg3.IsWhole) (arg4 : Memref sig .tc .vmem S1x8x4096x128 .bf16) (harg4 : arg4.IsWhole)
    (arg5 : Memref sig .tc .vmem S1x8x8x64x512 .bf16) (harg5 : arg5.IsWhole) (arg6 : Memref sig .tc .vmem S512x512 .f32) (harg6 : arg6.IsWhole)
    (arg7 : Memref sig .tc .vmem S2x64x512 .f32) (harg7 : arg7.IsWhole) (arg8 : Memref sig .tc .vmem S2x512x512 .f32) (harg8 : arg8.IsWhole)
    (x3 : S1x8x128x512.Idx → Elt F .bf16) (x4 : S1x8x4096x128.Idx → Elt F .bf16) (x5 : S1x8x8x64x512.Idx → Elt F .bf16) (K : PUnit → sProp 𝕄G) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ (∃ d, owns (c : Thread nD τ) arg8 fullShare d)) -∗ K ⟨⟩))
      ⊢ wp frame (wpE (defs₀ (F := F)) Variants.none c none) Set.univ
          (cc0_mla_flash i arg3 harg3 arg4 harg4 arg5 harg5 arg6 harg6 arg7 harg7 arg8 harg8) K := by
  unfold owns
  iintro ⟨⟨%f3, %h3, H3⟩, ⟨%f4, %h4, H4⟩, ⟨%f5, %h5, H5⟩, ⟨%d6, %f6, -, H6⟩, ⟨%d7, %f7, -, H7⟩, ⟨%d8, %f8, -, H8⟩, Hk⟩
  simp only [cc0_mla_flash_eq_skeleton]; unfold cc0_mla_flash_skel
  sl_exec
  sl_step
  iapply Hk
  isplitl [H3]
  · iexists _; isplitr
    rotate_left
    · iexact H3
    · ipureintro; exact h3
  isplitl [H4]
  · iexists _; isplitr
    rotate_left
    · iexact H4
    · ipureintro; exact h4
  isplitl [H5]
  · iexists _; isplitr
    rotate_left
    · iexact H5
    · ipureintro; exact h5
  isplitl [H6]
  · iapply (some_contents c arg6 _); iexact H6
  isplitl [H7]
  · iapply (some_contents c arg7 _); iexact H7
  · iapply (some_contents c arg8 _); iexact H8

end Cert.Kernel.Mla

end
-- ==== Proof.Mla.FrameRun.lean ====
/- The pipeline's data of the attention kernel and the whole program's run. -/
module

public import proofs.«01_k».proof.Proof.Mla.FrameBody
public import proofs.«01_k».proof.Proof.Gen.Kernel.Frame
public import Idealize.ShloMosaic.Lib.Tactic

@[expose] public section

set_option maxRecDepth 16384

noncomputable section

namespace Cert.Kernel.Mla

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra of the frame kit. -/
local notation "𝕄G" => MT nD τ sig Unit (Elt F) ℕ (UR sig nD τ) ℕ

variable (m : (ℓ : Loc nD τ sig) → Buf (Elt F) ℓ) (ρ : Dev nD → PrngReg)

/-- What the body leaves in the result is not said. -/
def forgets0 : Fin 4 → Bool := fun w => w == 3

/-- The pipeline's data: the arrays as found; after the body the inputs' buffers at their blocks; of the result's nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant between points: the two scratch buffers at anything, and the generator's register. -/
theorem inv_eq (c : Dev nD) : (Pipeline.ΦA spec0 c : sProp 𝕄G)
    = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA
  rw [scopedRest0_eq]; simp only [owns_whole]; try rfl

/-- The body at every point does what the data say. -/
theorem body_obligation (c : Dev nD) : BodyObligation (dats (F := F) m 0 c) (defs₀ (F := F)) Variants.none () Set.univ forgets0 := fun t => by
  rw [bigSep_W0, bigSep_W0]
  sl_whnfR [defs₀, Defs.onTc]
  simp only [show forgets0 0 = false from rfl, show forgets0 1 = false from rfl, show forgets0 2 = false from rfl,
    show forgets0 3 = true from rfl, before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq, after0_0, after0_1, after0_2]
  iintro ⟨⟨⟨HS0, HS1⟩, Hg⟩, Ho, ⟨%d0, H0⟩, ⟨%d1, H1⟩, ⟨%d2, H2⟩, H3⟩
  iapply (kernelRun c (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 Hg]
  · isplitl [HS0 HS1]
    · isplitl [HS0]; · iexact HS0
      iexact HS1
    · iexact Hg
  isplitl [Ho]; · iexact Ho
  isplitl [H0]; · iexact H0
  isplitl [H1]; · iexact H1
  isplitl [H2]; · iexact H2
  iexact H3

set_option backward.isDefEq.respectTransparency.types false in
/-- The whole program's run: every weakly fair execution ends, with every array but the result as found and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

variable {m ρ}

/-- After the run every input array holds what it held. -/
theorem final_in {r : PUnit × MemSt nD τ sig (Elt F)}
    (h : Pipeline.RDat.FramePost (cfgs 0) (fun c => (dats (F := F) m 0 c).toRForget forgets0) (V m) r) (c : Dev nD) (w : Fin 4)
    (hf : forgets0 w = false) (hw : ((cfgs 0).win w).isOut = false) :
    r.2.mem (((cfgs 0).spec w).arr.view.loc (c.tc : Thread nD τ)) = V m c (Pipeline.arrRef spec0 w) :=
  (((dats m 0 c).toRForget_arrAt_iff hf _ _).mp ((h c).1 w)).trans ((dats m 0 c).arrAt_in w hw _)

end Cert.Kernel.Mla

end
-- ==== Proof.Mla.Spec.lean ====
/- What the attention kernel computes at one grid point, as functions of the three blocks it reads: the running softmax over
   key chunks (`newMax`, `newSum`, `newAcc`), one step of the software pipeline over a pair of heads (`chunkStep`), and the
   block it stores (`outBlock`). Nothing here mentions a program: the definitions are pure, over any float instance. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.ReadBack
public import Idealize.ShloMosaic.Lib.ValueIdxCore

@[expose] public section

noncomputable section

namespace Cert.KernelIdeal.Mla

open Idealize.ShloMosaic Idealize.ShloMosaic.TcCoe Idealize.ShloMosaic.ValueIdx Cert.KernelIdeal.Gen

variable {F : FTy → Type} [FloatOps F] [Named F]

/-- A row of per-query values (a running maximum or a running sum), 512 queries. -/
abbrev Row (F : FTy → Type) := FVec F S1x512 .f32
/-- The scores of one key chunk against the queries, as the scratch buffer holds them. -/
abbrev Sc (F : FTy → Type) := Vec F S1x512x512 .f32
/-- The running weighted sum of the values of one head, as the scratch buffer holds it. -/
abbrev Ac (F : FTy → Type) := Vec F S1x64x512 .f32
/-- The block of queries (head, depth, query). -/
abbrev QBlk (F : FTy → Type) := S1x8x128x512.Idx → Elt F .bf16
/-- The block of keys (head, key, depth). -/
abbrev KBlk (F : FTy → Type) := S1x8x4096x128.Idx → Elt F .bf16
/-- The block of values (head, chunk, depth, key in chunk). -/
abbrev VBlk (F : FTy → Type) := S1x8x8x64x512.Idx → Elt F .bf16

/-- The queries of head `h`. -/
def qAt (x : QBlk F) (h : Fin 8) : Vec F S1x1x128x512 .bf16 := fun j => x (ix4 0 h (j 2) (j 3))

/-- The keys of head `h` in chunk `n` (the chunk number taken modulo the eight there are). -/
def kAt (x : KBlk F) (h : Fin 8) (n : ℕ) : Vec F S1x1x512x128 .bf16 :=
  fun j => x (ix4 0 h ⟨512 * (n % 8) + (j 2).val, by
    have h1 : (j 2).val < 512 := (j 2).isLt
    have h2 : n % 8 < 8 := Nat.mod_lt _ (by decide)
    show _ < 4096
    omega⟩ (j 3))

/-- The values of head `h` in chunk `n`. -/
def vAt (x : VBlk F) (h : Fin 8) (n : ℕ) : Vec F S1x1x1x64x512 .bf16 :=
  fun j => x (ix5 0 h ⟨n % 8, Nat.mod_lt _ (by decide)⟩ (j 3) (j 4))

/-- The scores of key chunk `K` against the queries `Q`. -/
def scoresOf (K : Vec F S1x1x512x128 .bf16) (Q : Vec F S1x1x128x512 .bf16) : FVec F S512x512 .f32 :=
  matmul dot_S512x128_S128x512_S512x512_1_0_0_1_n_n none (shapeCast S512x128 K shapeCasts_S1x1x512x128_S512x128)
    (shapeCast S128x512 Q shapeCasts_S1x1x128x512_S128x512) (constant S512x512 .f32 0x00000000#32)

/-- The running maximum after scores `s`. -/
def newMax (m : Row F) (s : FVec F S512x512 .f32) : Row F :=
  maximumf m (shapeCast S1x512 (multiReduction .maximumf [0] S512 s 0xFF800000#32 reduces_S512x512_S512 (.inl rfl) rfl) shapeCasts_S512_S1x512)

/-- The unnormalised weights of scores `s` at the new maximum. -/
def weightsOf (m : Row F) (s : FVec F S512x512 .f32) : FVec F S512x512 .f32 :=
  exp2 (subf s (broadcastTo S512x512 (newMax m s) broadcasts_S1x512_S512x512))

/-- What the older sums are multiplied by. -/
def decayOf (m : Row F) (s : FVec F S512x512 .f32) : Row F := exp2 (subf m (newMax m s))

/-- The running sum of weights after scores `s`. -/
def newSum (m l : Row F) (s : FVec F S512x512 .f32) : Row F :=
  addf (mulf (decayOf m s) l)
    (shapeCast S1x512 (multiReduction .add [0] S512 (weightsOf m s) 0x00000000#32 reduces_S512x512_S512 (.inl rfl) rfl) shapeCasts_S512_S1x512)

/-- The running weighted sum of values after scores `s` and values `v`. -/
def newAcc (m : Row F) (a : Ac F) (s : FVec F S512x512 .f32) (v : Vec F S1x1x1x64x512 .bf16) : Ac F :=
  shapeCast S1x64x512 (addf (mulf (broadcastTo S64x512 (decayOf m s) broadcasts_S1x512_S64x512) (shapeCast S64x512 a shapeCasts_S1x64x512_S64x512))
    (matmul dot_S64x512_S512x512_S64x512_1_0_0_1_n_n none (shapeCast S64x512 v shapeCasts_S1x1x1x64x512_S64x512)
      (truncf .bf16 (weightsOf m s) bitsLt_bf16_f32) (constant S64x512 .f32 0x00000000#32))) shapeCasts_S64x512_S1x64x512

/-- Scores as the scratch buffer holds them. -/
def pack (s : FVec F S512x512 .f32) : Sc F := shapeCast S1x512x512 s shapeCasts_S512x512_S1x512x512
/-- Scores read back from the scratch buffer. -/
def unpack (s : Sc F) : FVec F S512x512 .f32 := shapeCast S512x512 s shapeCasts_S1x512x512_S512x512

/-- What the kernel carries from one key chunk to the next, for the pair of heads it works on: the running maxima and sums,
    the two running weighted sums, and the first head's scores of the chunk to come. -/
abbrev PairState (F : FTy → Type) := (Row F × Row F × Row F × Row F) × Ac F × Ac F × Sc F

/-- The first head of pair `pr`. -/
def head0 (pr : Fin 4) : Fin 8 := ⟨2 * pr.val, by omega⟩
/-- The second head of pair `pr`. -/
def head1 (pr : Fin 4) : Fin 8 := ⟨2 * pr.val + 1, by omega⟩

/-- The scores of head `h` against key chunk `n`, as the scratch buffer holds them. -/
def scoresAt (x3 : QBlk F) (x4 : KBlk F) (h : Fin 8) (n : ℕ) : Sc F := pack (scoresOf (kAt x4 h n) (qAt x3 h))

/-- One step of the pipeline: chunk `n` of both heads of pair `pr`, the first head's scores taken from the state and those of
    chunk `n + 1` left there. -/
def chunkStep (x3 : QBlk F) (x4 : KBlk F) (x5 : VBlk F) (pr : Fin 4) (n : ℕ) (s : PairState F) : PairState F :=
  ((newMax s.1.1 (unpack s.2.2.2), newSum s.1.1 s.1.2.1 (unpack s.2.2.2),
    newMax s.1.2.2.1 (unpack (scoresAt x3 x4 (head1 pr) n)), newSum s.1.2.2.1 s.1.2.2.2 (unpack (scoresAt x3 x4 (head1 pr) n))),
    newAcc s.1.1 s.2.1 (unpack s.2.2.2) (vAt x5 (head0 pr) n),
    newAcc s.1.2.2.1 s.2.2.1 (unpack (scoresAt x3 x4 (head1 pr) n)) (vAt x5 (head1 pr) n),
    scoresAt x3 x4 (head0 pr) (n + 1))

/-- `k` steps of the pipeline, from chunk `n`. -/
def chunks (x3 : QBlk F) (x4 : KBlk F) (x5 : VBlk F) (pr : Fin 4) (n k : ℕ) (s : PairState F) : PairState F :=
  Nat.rec s (fun j t => chunkStep x3 x4 x5 pr (n + j) t) k

theorem chunks_succ (x3 : QBlk F) (x4 : KBlk F) (x5 : VBlk F) (pr : Fin 4) (n k : ℕ) (s : PairState F) :
    chunks x3 x4 x5 pr n (k + 1) s = chunkStep x3 x4 x5 pr (n + k) (chunks x3 x4 x5 pr n k s) := rfl

/-- A read of the query block at a head. -/
theorem ld_q (x : QBlk F) (h : Fin 8) {off : Fin 4 → ℕ} (inb) (e : off = ![0, h.val, 0, 0]) :
    View.ld x (Rect.unit (s := S1x8x128x512) off S1x1x128x512.size inb) = qAt x h := by
  subst e
  funext j
  have h0 : (j 0).val < 1 := (j 0).isLt
  have h1 : (j 1).val < 1 := (j 1).isLt
  unfold qAt
  refine congrArg x (funext fun a => Fin.ext ?_)
  match a with
  | ⟨0, _⟩ => show 0 + 1 * (j 0).val = 0; omega
  | ⟨1, _⟩ => show h.val + 1 * (j 1).val = h.val; omega
  | ⟨2, _⟩ => show 0 + 1 * (j 2).val = (j 2).val; omega
  | ⟨3, _⟩ => show 0 + 1 * (j 3).val = (j 3).val; omega

/-- A read of the key block at a head and a chunk. -/
theorem ld_k (x : KBlk F) (h : Fin 8) (n : ℕ) {off : Fin 4 → ℕ} (inb) (e : off = ![0, h.val, 512 * n, 0]) :
    View.ld x (Rect.unit (s := S1x8x4096x128) off S1x1x512x128.size inb) = kAt x h n := by
  subst e
  have hn : 512 * n + 512 ≤ 4096 := inb 2
  have e' : n % 8 = n := Nat.mod_eq_of_lt (by omega)
  funext j
  have h0 : (j 0).val < 1 := (j 0).isLt
  have h1 : (j 1).val < 1 := (j 1).isLt
  unfold kAt
  refine congrArg x (funext fun a => Fin.ext ?_)
  match a with
  | ⟨0, _⟩ => show 0 + 1 * (j 0).val = 0; omega
  | ⟨1, _⟩ => show h.val + 1 * (j 1).val = h.val; omega
  | ⟨2, _⟩ => show 512 * n + 1 * (j 2).val = 512 * (n % 8) + (j 2).val; omega
  | ⟨3, _⟩ => show 0 + 1 * (j 3).val = (j 3).val; omega

/-- A read of the value block at a head and a chunk. -/
theorem ld_v (x : VBlk F) (h : Fin 8) (n : ℕ) {off : Fin 5 → ℕ} (inb) (e : off = ![0, h.val, n, 0, 0]) :
    View.ld x (Rect.unit (s := S1x8x8x64x512) off S1x1x1x64x512.size inb) = vAt x h n := by
  subst e
  have hn : n + 1 ≤ 8 := inb 2
  have e' : n % 8 = n := Nat.mod_eq_of_lt (by omega)
  funext j
  have h0 : (j 0).val < 1 := (j 0).isLt
  have h1 : (j 1).val < 1 := (j 1).isLt
  have h2 : (j 2).val < 1 := (j 2).isLt
  unfold vAt
  refine congrArg x (funext fun a => Fin.ext ?_)
  match a with
  | ⟨0, _⟩ => show 0 + 1 * (j 0).val = 0; omega
  | ⟨1, _⟩ => show h.val + 1 * (j 1).val = h.val; omega
  | ⟨2, _⟩ => show n + 1 * (j 2).val = n % 8; omega
  | ⟨3, _⟩ => show 0 + 1 * (j 3).val = (j 3).val; omega
  | ⟨4, _⟩ => show 0 + 1 * (j 4).val = (j 4).val; omega

end Cert.KernelIdeal.Mla

end
-- ==== Proof.Mla.Offsets.lean ====
/- Where the kernel's loads begin and how often its loops run, at every grid point: the words it computes, evaluated. The
   query block's number is the grid point's last coordinate. Each fact is decided over the grid's points and the loop's trips. -/
module

public import proofs.«01_k».proof.Proof.Gen.KernelIdeal

@[expose] public section

set_option maxRecDepth 16384

noncomputable section

namespace Cert.KernelIdeal.Mla

open Idealize.ShloMosaic Cert.KernelIdeal.Gen

/-- The loops over pairs of chunks run half as often as there are chunks before the diagonal. -/
theorem trips_main : ∀ i : grid0.Coords, (k0_t1_loop i).trips = (i 2).val / 2 ∧ (k0_t5_loop i).trips = (i 2).val / 2
    ∧ (k0_t9_loop i).trips = (i 2).val / 2 ∧ (k0_t13_loop i).trips = (i 2).val / 2 := by decide +kernel

/-- The loops over the chunk left over run once when the number of chunks is odd. -/
theorem trips_odd : ∀ i : grid0.Coords, (k0_t3_loop i).trips = (i 2).val % 2 ∧ (k0_t7_loop i).trips = (i 2).val % 2
    ∧ (k0_t11_loop i).trips = (i 2).val % 2 ∧ (k0_t15_loop i).trips = (i 2).val % 2 := by decide +kernel

/-- First pair, loop over pairs of chunks. -/
theorem off_t1 : ∀ (i : grid0.Coords) (k : Fin (k0_t1_loop i).trips),
    k0_off1 i k = ![0, 1, 512 * (2 * k.val), 0] ∧ k0_off2 i k = ![0, 0, 2 * k.val, 0, 0]
    ∧ k0_off3 i k = ![0, 0, 512 * (2 * k.val + 1), 0] ∧ k0_off4 i k = ![0, 1, 2 * k.val, 0, 0]
    ∧ k0_off5 i k = ![0, 1, 512 * (2 * k.val + 1), 0] ∧ k0_off6 i k = ![0, 0, 2 * k.val + 1, 0, 0]
    ∧ k0_off7 i k = ![0, 0, 512 * (2 * k.val + 2), 0] ∧ k0_off8 i k = ![0, 1, 2 * k.val + 1, 0, 0] := by decide +kernel
/-- Second pair, loop over pairs of chunks. -/
theorem off_t5 : ∀ (i : grid0.Coords) (k : Fin (k0_t5_loop i).trips),
    k0_off28 i k = ![0, 3, 512 * (2 * k.val), 0] ∧ k0_off29 i k = ![0, 2, 2 * k.val, 0, 0]
    ∧ k0_off30 i k = ![0, 2, 512 * (2 * k.val + 1), 0] ∧ k0_off31 i k = ![0, 3, 2 * k.val, 0, 0]
    ∧ k0_off32 i k = ![0, 3, 512 * (2 * k.val + 1), 0] ∧ k0_off33 i k = ![0, 2, 2 * k.val + 1, 0, 0]
    ∧ k0_off34 i k = ![0, 2, 512 * (2 * k.val + 2), 0] ∧ k0_off35 i k = ![0, 3, 2 * k.val + 1, 0, 0] := by decide +kernel
/-- Third pair, loop over pairs of chunks. -/
theorem off_t9 : ∀ (i : grid0.Coords) (k : Fin (k0_t9_loop i).trips),
    k0_off55 i k = ![0, 5, 512 * (2 * k.val), 0] ∧ k0_off56 i k = ![0, 4, 2 * k.val, 0, 0]
    ∧ k0_off57 i k = ![0, 4, 512 * (2 * k.val + 1), 0] ∧ k0_off58 i k = ![0, 5, 2 * k.val, 0, 0]
    ∧ k0_off59 i k = ![0, 5, 512 * (2 * k.val + 1), 0] ∧ k0_off60 i k = ![0, 4, 2 * k.val + 1, 0, 0]
    ∧ k0_off61 i k = ![0, 4, 512 * (2 * k.val + 2), 0] ∧ k0_off62 i k = ![0, 5, 2 * k.val + 1, 0, 0] := by decide +kernel
/-- Fourth pair, loop over pairs of chunks. -/
theorem off_t13 : ∀ (i : grid0.Coords) (k : Fin (k0_t13_loop i).trips),
    k0_off82 i k = ![0, 7, 512 * (2 * k.val), 0] ∧ k0_off83 i k = ![0, 6, 2 * k.val, 0, 0]
    ∧ k0_off84 i k = ![0, 6, 512 * (2 * k.val + 1), 0] ∧ k0_off85 i k = ![0, 7, 2 * k.val, 0, 0]
    ∧ k0_off86 i k = ![0, 7, 512 * (2 * k.val + 1), 0] ∧ k0_off87 i k = ![0, 6, 2 * k.val + 1, 0, 0]
    ∧ k0_off88 i k = ![0, 6, 512 * (2 * k.val + 2), 0] ∧ k0_off89 i k = ![0, 7, 2 * k.val + 1, 0, 0] := by decide +kernel

/-- The loops over the chunk left over, at that chunk's number (they run at most once). -/
theorem off_t3 : ∀ (i : grid0.Coords) (k : Fin (k0_t3_loop i).trips),
    k0_off17 i k = ![0, 1, 512 * (2 * ((i 2).val / 2) + k.val), 0] ∧ k0_off18 i k = ![0, 0, 2 * ((i 2).val / 2) + k.val, 0, 0]
    ∧ k0_off19 i k = ![0, 0, 512 * (2 * ((i 2).val / 2) + k.val + 1), 0] ∧ k0_off20 i k = ![0, 1, 2 * ((i 2).val / 2) + k.val, 0, 0] := by
  decide +kernel
/-- Second pair. -/
theorem off_t7 : ∀ (i : grid0.Coords) (k : Fin (k0_t7_loop i).trips),
    k0_off44 i k = ![0, 3, 512 * (2 * ((i 2).val / 2) + k.val), 0] ∧ k0_off45 i k = ![0, 2, 2 * ((i 2).val / 2) + k.val, 0, 0]
    ∧ k0_off46 i k = ![0, 2, 512 * (2 * ((i 2).val / 2) + k.val + 1), 0] ∧ k0_off47 i k = ![0, 3, 2 * ((i 2).val / 2) + k.val, 0, 0] := by
  decide +kernel
/-- Third pair. -/
theorem off_t11 : ∀ (i : grid0.Coords) (k : Fin (k0_t11_loop i).trips),
    k0_off71 i k = ![0, 5, 512 * (2 * ((i 2).val / 2) + k.val), 0] ∧ k0_off72 i k = ![0, 4, 2 * ((i 2).val / 2) + k.val, 0, 0]
    ∧ k0_off73 i k = ![0, 4, 512 * (2 * ((i 2).val / 2) + k.val + 1), 0] ∧ k0_off74 i k = ![0, 5, 2 * ((i 2).val / 2) + k.val, 0, 0] := by
  decide +kernel
/-- Fourth pair. -/
theorem off_t15 : ∀ (i : grid0.Coords) (k : Fin (k0_t15_loop i).trips),
    k0_off98 i k = ![0, 7, 512 * (2 * ((i 2).val / 2) + k.val), 0] ∧ k0_off99 i k = ![0, 6, 2 * ((i 2).val / 2) + k.val, 0, 0]
    ∧ k0_off100 i k = ![0, 6, 512 * (2 * ((i 2).val / 2) + k.val + 1), 0] ∧ k0_off101 i k = ![0, 7, 2 * ((i 2).val / 2) + k.val, 0, 0] := by
  decide +kernel

/-- The diagonal chunk's loads: the second head's keys, then the two heads' values. -/
theorem off_diag : ∀ i : grid0.Coords,
    (k0_off25 i = ![0, 1, 512 * (i 2).val, 0] ∧ k0_off26 i = ![0, 0, (i 2).val, 0, 0] ∧ k0_off27 i = ![0, 1, (i 2).val, 0, 0])
    ∧ (k0_off52 i = ![0, 3, 512 * (i 2).val, 0] ∧ k0_off53 i = ![0, 2, (i 2).val, 0, 0] ∧ k0_off54 i = ![0, 3, (i 2).val, 0, 0])
    ∧ (k0_off79 i = ![0, 5, 512 * (i 2).val, 0] ∧ k0_off80 i = ![0, 4, (i 2).val, 0, 0] ∧ k0_off81 i = ![0, 5, (i 2).val, 0, 0])
    ∧ (k0_off106 i = ![0, 7, 512 * (i 2).val, 0] ∧ k0_off107 i = ![0, 6, (i 2).val, 0, 0] ∧ k0_off108 i = ![0, 7, (i 2).val, 0, 0]) := by
  decide +kernel

end Cert.KernelIdeal.Mla

end
-- ==== Proof.Mla.LoopState.lean ====
/- The state the attention kernel's loops carry, read off the buffers that hold it, and what the two kinds of loop keep. -/
module

public import proofs.«01_k».proof.Proof.Mla.Spec
public import proofs.«01_k».proof.Proof.Mla.Offsets
public import proofs.«01_k».proof.Proof.Gen.KernelIdeal.Loops
public import Idealize.ShloMosaic.Lib.Pipeline.ValueKit.Acc
public import Idealize.ShloMosaic.Lib.Pipeline.ValueKit.Tiles
public import Idealize.ShloMosaic.Lib.VecWindow

@[expose] public section

set_option maxRecDepth 16384

noncomputable section

namespace Cert.KernelIdeal.Mla

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ

/-- A read of the rectangle written last is what was written. -/
theorem read_hit {sig : RefSig} {κ : Kind} {sp : Space} {s : Shape} {e : EltTy} {Val : EltTy → Type} [∀ e, Nonempty (Val e)]
    (v : View sig κ sp s e) (f : v.ty.Contents Val) (r : Rect s) (w : r.shape.Idx → Val e) (L : List (View.Piece Val s e)) :
    v.readAt Val r.toLoadRect (v.writes Val f (⟨r, w⟩ :: L)) = w := by
  rw [View.readAt_writes_of_cover v f (⟨r, w⟩ :: L) r.toLoadRect (fun j => ⟨⟨r, w⟩, List.mem_cons_self .., r.idx_mem j⟩)]
  exact View.readCov_cons_toLoadRect v r w L

/-- A read that misses the rectangle written last is a read of what was there before. -/
theorem read_miss {sig : RefSig} {κ : Kind} {sp : Space} {s : Shape} {e : EltTy} {Val : EltTy → Type}
    (v : View sig κ sp s e) (f : v.ty.Contents Val) (r : Rect s) (w : r.shape.Idx → Val e) (L : List (View.Piece Val s e))
    (B : LoadRect s) (h : LoadRect.disjAll [r] B = true) :
    v.readAt Val B (v.writes Val f (⟨r, w⟩ :: L)) = v.readAt Val B (v.writes Val f L) :=
  View.readAt_writes_of_forall_not_mem v (v.writes Val f L) [⟨r, w⟩] B (LoadRect.forall_not_mem_of_disjAll [⟨r, w⟩] B h)

/-- The pair's state: the carried rows, the two halves of the accumulator's buffer, and the first half of the scores' buffer. -/
def stateOf (acc : Row F × Row F × Row F × Row F) (arg7 : Memref sig .tc .vmem S2x64x512 .f32) (f7 : BufTy.Contents (Elt F) arg7.view.ty)
    (arg8 : Memref sig .tc .vmem S2x512x512 .f32) (f8 : BufTy.Contents (Elt F) arg8.view.ty) : PairState F :=
  (acc, arg7.view.readAt (Elt F) (Rect.unit (s := S2x64x512) ![0, 0, 0] S1x64x512.size inb_S2x64x512_S1x64x512_0_0_0).toLoadRect f7,
    arg7.view.readAt (Elt F) (Rect.unit (s := S2x64x512) ![1, 0, 0] S1x64x512.size inb_S2x64x512_S1x64x512_1_0_0).toLoadRect f7,
    arg8.view.readAt (Elt F) (Rect.unit (s := S2x512x512) ![0, 0, 0] S1x512x512.size inb_S2x512x512_S1x512x512_0_0_0).toLoadRect f8)

/-- What a loop keeps: the three blocks as they are, and the pair's state at `k` chunks after chunk `n` from the state `s`
    found on entry. -/
abbrev kept (c : Dev nD) (arg3 : Memref sig .tc .vmem S1x8x128x512 .bf16) (arg4 : Memref sig .tc .vmem S1x8x4096x128 .bf16)
    (arg5 : Memref sig .tc .vmem S1x8x8x64x512 .bf16) (arg7 : Memref sig .tc .vmem S2x64x512 .f32) (arg8 : Memref sig .tc .vmem S2x512x512 .f32)
    (X3 : BufTy.Contents (Elt F) arg3.view.ty) (X4 : BufTy.Contents (Elt F) arg4.view.ty) (X5 : BufTy.Contents (Elt F) arg5.view.ty)
    (pr : Fin 4) (n k : ℕ) (s : PairState F) (acc : Row F × Row F × Row F × Row F) : sProp 𝕄G :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5)
    ∗ (∃ f7, (arg7.view.loc (c : Thread nD τ) ↦[arg7.view.set]{fullShare} f7)
      ∗ (∃ f8, (arg8.view.loc (c : Thread nD τ) ↦[arg8.view.set]{fullShare} f8)
        ∗ ⌜stateOf acc arg7 f7 arg8 f8 = chunks (arg3.view.read (Elt F) X3) (arg4.view.read (Elt F) X4) (arg5.view.read (Elt F) X5) pr n k s⌝)))

end Cert.KernelIdeal.Mla

end
-- ==== Proof.Mla.Loops.lean ====
/- The attention kernel's loops over key chunks, one invariant each: the blocks read stay as they are, and the pair's state is the
   stated number of pipeline steps after the state on entry. The loops that never run keep everything. -/
module

public import proofs.«01_k».proof.Proof.Mla.LoopState

@[expose] public section

set_option maxRecDepth 16384
set_option warn.classDefReducibility false

noncomputable section

namespace Cert.KernelIdeal.Mla

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (𝒱 : Variants) (c : Dev nD) (bd : Option 𝒱.V) (E : Set ℕ) (i : grid0.Coords)
  (arg3 : Memref sig .tc .vmem S1x8x128x512 .bf16) (harg3 : arg3.IsWhole) (arg4 : Memref sig .tc .vmem S1x8x4096x128 .bf16) (harg4 : arg4.IsWhole)
  (arg5 : Memref sig .tc .vmem S1x8x8x64x512 .bf16) (harg5 : arg5.IsWhole) (arg6 : Memref sig .tc .vmem S512x512 .f32) (harg6 : arg6.IsWhole)
  (arg7 : Memref sig .tc .vmem S2x64x512 .f32) (harg7 : arg7.IsWhole) (arg8 : Memref sig .tc .vmem S2x512x512 .f32) (harg8 : arg8.IsWhole)
  (X3 : BufTy.Contents (Elt F) arg3.view.ty) (X4 : BufTy.Contents (Elt F) arg4.view.ty) (X5 : BufTy.Contents (Elt F) arg5.view.ty)
  (G7 : BufTy.Contents (Elt F) arg7.view.ty) (G8 : BufTy.Contents (Elt F) arg8.view.ty)

/-- First pair, chunks two at a time. -/
@[sl_loop] def loop_t1 (arg2 : BitVec 32)
    (init : Row F × Row F × Row F × Row F) :
    LoopInvTy_k0_t1 (F := F) Unit ℕ (UR sig nD τ) ℕ 𝒱 c bd E i arg3 harg3 arg4 harg4 arg5 harg5 arg6 harg6 arg7 harg7 arg8 harg8
      arg2 init.1 init.1 0#32 0#32 0#32 0#32 0#32 init where
  inv k acc := kept c arg3 arg4 arg5 arg7 arg8 X3 X4 X5 0 0 (2 * k) (stateOf init arg7 G7 arg8 G8) acc
  step k acc := by
    iintro ⟨H3, H4, H5, ⟨%f7, H7, ⟨%f8, H8, %h⟩⟩⟩
    unfold k0_t1_body
    sl_exec
    sl_step
    isplitl [H3]; · iexact H3
    isplitl [H4]; · iexact H4
    isplitl [H5]; · iexact H5
    iexists _; isplitl [H7]; · iexact H7
    iexists _; isplitl [H8]; · iexact H8
    ipureintro
    rw [show 2 * (k.val + 1) = 2 * k.val + 1 + 1 from rfl, chunks_succ, chunks_succ, ← h]
    obtain ⟨e1, e2, e3, e4, e5, e6, e7, e8⟩ := off_t1 i k
    frame_open
    simp (disch := decide) only [stateOf, ↓View.readCov_skip, ↓View.readCov_cons_toLoadRect, ↓read_hit, ↓read_miss, View.writes_nil]
    simp only [View.readAt_eq_ld, ld_q _ (head0 0) _ (show ![0, 0, 0, 0] = _ from rfl), ld_q _ (head1 0) _ (show ![0, 1, 0, 0] = _ from rfl),
      ld_k _ (head1 0) _ _ e1, ld_v _ (head0 0) _ _ e2, ld_k _ (head0 0) _ _ e3, ld_v _ (head1 0) _ _ e4,
      ld_k _ (head1 0) _ _ e5, ld_v _ (head0 0) _ _ e6, ld_k _ (head0 0) _ _ e7, ld_v _ (head1 0) _ _ e8, Nat.zero_add]
    rfl

/-- First pair, the first remainder loop, which never runs. -/
@[sl_loop] def loop_t2 (arg2 : BitVec 32) (v41 : BitVec 32)
    (init : Row F × Row F × Row F × Row F) :
    LoopInvTy_k0_t2 (F := F) Unit ℕ (UR sig nD τ) ℕ 𝒱 c bd E i arg3 harg3 arg4 harg4 arg5 harg5 arg6 harg6 arg7 harg7 arg8 harg8
      arg2 init.1 init.1 0#32 0#32 0#32 0#32 0#32 v41 init where
  inv _ acc := iprop(⌜acc = init⌝)
  step k _ := absurd k.isLt (Nat.not_lt_of_le ((k0_t2_abs i).2.1.trans (Nat.zero_le _)))

/-- First pair, the chunk left over when their number is odd. -/
@[sl_loop] def loop_t3 (arg2 : BitVec 32) (v45 : BitVec 32)
    (init : Row F × Row F × Row F × Row F) :
    LoopInvTy_k0_t3 (F := F) Unit ℕ (UR sig nD τ) ℕ 𝒱 c bd E i arg3 harg3 arg4 harg4 arg5 harg5 arg6 harg6 arg7 harg7 arg8 harg8
      arg2 init.1 init.1 0#32 0#32 0#32 0#32 0#32 v45 init where
  inv k acc := kept c arg3 arg4 arg5 arg7 arg8 X3 X4 X5 0 (2 * ((i 2).val / 2)) k (stateOf init arg7 G7 arg8 G8) acc
  step k acc := by
    iintro ⟨H3, H4, H5, ⟨%f7, H7, ⟨%f8, H8, %h⟩⟩⟩
    unfold k0_t3_body
    sl_exec
    sl_step
    isplitl [H3]; · iexact H3
    isplitl [H4]; · iexact H4
    isplitl [H5]; · iexact H5
    iexists _; isplitl [H7]; · iexact H7
    iexists _; isplitl [H8]; · iexact H8
    ipureintro
    rw [chunks_succ, ← h]
    obtain ⟨e1, e2, e3, e4⟩ := off_t3 i k
    frame_open
    simp (disch := decide) only [stateOf, ↓View.readCov_skip, ↓View.readCov_cons_toLoadRect, ↓read_hit, ↓read_miss, View.writes_nil]
    simp only [View.readAt_eq_ld, ld_q _ (head0 0) _ (show ![0, 0, 0, 0] = _ from rfl), ld_q _ (head1 0) _ (show ![0, 1, 0, 0] = _ from rfl),
      ld_k _ (head1 0) _ _ e1, ld_v _ (head0 0) _ _ e2, ld_k _ (head0 0) _ _ e3, ld_v _ (head1 0) _ _ e4]
    rfl

/-- First pair, the second remainder loop, which never runs. -/
@[sl_loop] def loop_t4 (arg2 : BitVec 32) (v50 : BitVec 32)
    (init : Row F × Row F × Row F × Row F) :
    LoopInvTy_k0_t4 (F := F) Unit ℕ (UR sig nD τ) ℕ 𝒱 c bd E i arg3 harg3 arg4 harg4 arg5 harg5 arg6 harg6 arg7 harg7 arg8 harg8
      arg2 init.1 init.1 0#32 0#32 0#32 0#32 0#32 v50 init where
  inv _ acc := iprop(⌜acc = init⌝)
  step k _ := absurd k.isLt (Nat.not_lt_of_le ((k0_t4_abs i).2.1.trans (Nat.zero_le _)))

/-- Second pair, chunks two at a time. -/
@[sl_loop] def loop_t5 (arg2 : BitVec 32) (c0_i32_107 : BitVec 32)
    (init : Row F × Row F × Row F × Row F) :
    LoopInvTy_k0_t5 (F := F) Unit ℕ (UR sig nD τ) ℕ 𝒱 c bd E i arg3 harg3 arg4 harg4 arg5 harg5 arg6 harg6 arg7 harg7 arg8 harg8
      arg2 (fun _ => 0#1) init.1 init.1 0#32 c0_i32_107 0#32 0#32 init where
  inv k acc := kept c arg3 arg4 arg5 arg7 arg8 X3 X4 X5 1 0 (2 * k) (stateOf init arg7 G7 arg8 G8) acc
  step k acc := by
    iintro ⟨H3, H4, H5, ⟨%f7, H7, ⟨%f8, H8, %h⟩⟩⟩
    unfold k0_t5_body
    sl_exec
    sl_step
    isplitl [H3]; · iexact H3
    isplitl [H4]; · iexact H4
    isplitl [H5]; · iexact H5
    iexists _; isplitl [H7]; · iexact H7
    iexists _; isplitl [H8]; · iexact H8
    ipureintro
    rw [show 2 * (k.val + 1) = 2 * k.val + 1 + 1 from rfl, chunks_succ, chunks_succ, ← h]
    obtain ⟨e1, e2, e3, e4, e5, e6, e7, e8⟩ := off_t5 i k
    frame_open
    simp (disch := decide) only [stateOf, ↓View.readCov_skip, ↓View.readCov_cons_toLoadRect, ↓read_hit, ↓read_miss, View.writes_nil]
    simp only [View.readAt_eq_ld, ld_q _ (head0 1) _ (show ![0, 2, 0, 0] = _ from rfl), ld_q _ (head1 1) _ (show ![0, 3, 0, 0] = _ from rfl),
      ld_k _ (head1 1) _ _ e1, ld_v _ (head0 1) _ _ e2, ld_k _ (head0 1) _ _ e3, ld_v _ (head1 1) _ _ e4,
      ld_k _ (head1 1) _ _ e5, ld_v _ (head0 1) _ _ e6, ld_k _ (head0 1) _ _ e7, ld_v _ (head1 1) _ _ e8, Nat.zero_add]
    rfl

/-- Second pair, the first remainder loop, which never runs. -/
@[sl_loop] def loop_t6 (arg2 : BitVec 32) (v173 : BitVec 32)
    (init : Row F × Row F × Row F × Row F) :
    LoopInvTy_k0_t6 (F := F) Unit ℕ (UR sig nD τ) ℕ 𝒱 c bd E i arg3 harg3 arg4 harg4 arg5 harg5 arg6 harg6 arg7 harg7 arg8 harg8
      arg2 (fun _ => 0#1) init.1 init.1 0#32 0#32 0#32 0#32 v173 init where
  inv _ acc := iprop(⌜acc = init⌝)
  step k _ := absurd k.isLt (Nat.not_lt_of_le ((k0_t6_abs i).2.1.trans (Nat.zero_le _)))

/-- Second pair, the chunk left over when their number is odd. -/
@[sl_loop] def loop_t7 (arg2 : BitVec 32) (v177 : BitVec 32)
    (init : Row F × Row F × Row F × Row F) :
    LoopInvTy_k0_t7 (F := F) Unit ℕ (UR sig nD τ) ℕ 𝒱 c bd E i arg3 harg3 arg4 harg4 arg5 harg5 arg6 harg6 arg7 harg7 arg8 harg8
      arg2 (fun _ => 0#1) init.1 init.1 0#32 0#32 0#32 0#32 v177 init where
  inv k acc := kept c arg3 arg4 arg5 arg7 arg8 X3 X4 X5 1 (2 * ((i 2).val / 2)) k (stateOf init arg7 G7 arg8 G8) acc
  step k acc := by
    iintro ⟨H3, H4, H5, ⟨%f7, H7, ⟨%f8, H8, %h⟩⟩⟩
    unfold k0_t7_body
    sl_exec
    sl_step
    isplitl [H3]; · iexact H3
    isplitl [H4]; · iexact H4
    isplitl [H5]; · iexact H5
    iexists _; isplitl [H7]; · iexact H7
    iexists _; isplitl [H8]; · iexact H8
    ipureintro
    rw [chunks_succ, ← h]
    obtain ⟨e1, e2, e3, e4⟩ := off_t7 i k
    frame_open
    simp (disch := decide) only [stateOf, ↓View.readCov_skip, ↓View.readCov_cons_toLoadRect, ↓read_hit, ↓read_miss, View.writes_nil]
    simp only [View.readAt_eq_ld, ld_q _ (head0 1) _ (show ![0, 2, 0, 0] = _ from rfl), ld_q _ (head1 1) _ (show ![0, 3, 0, 0] = _ from rfl),
      ld_k _ (head1 1) _ _ e1, ld_v _ (head0 1) _ _ e2, ld_k _ (head0 1) _ _ e3, ld_v _ (head1 1) _ _ e4]
    rfl

/-- Second pair, the second remainder loop, which never runs. -/
@[sl_loop] def loop_t8 (arg2 : BitVec 32) (v182 : BitVec 32)
    (init : Row F × Row F × Row F × Row F) :
    LoopInvTy_k0_t8 (F := F) Unit ℕ (UR sig nD τ) ℕ 𝒱 c bd E i arg3 harg3 arg4 harg4 arg5 harg5 arg6 harg6 arg7 harg7 arg8 harg8
      arg2 (fun _ => 0#1) init.1 init.1 0#32 0#32 0#32 0#32 v182 init where
  inv _ acc := iprop(⌜acc = init⌝)
  step k _ := absurd k.isLt (Nat.not_lt_of_le ((k0_t8_abs i).2.1.trans (Nat.zero_le _)))

/-- Third pair, chunks two at a time. -/
@[sl_loop] def loop_t9 (arg2 : BitVec 32)
    (init : Row F × Row F × Row F × Row F) :
    LoopInvTy_k0_t9 (F := F) Unit ℕ (UR sig nD τ) ℕ 𝒱 c bd E i arg3 harg3 arg4 harg4 arg5 harg5 arg6 harg6 arg7 harg7 arg8 harg8
      arg2 init.1 init.1 (fun _ => Scalar.ofBits .bf16 0#16) init where
  inv k acc := kept c arg3 arg4 arg5 arg7 arg8 X3 X4 X5 2 0 (2 * k) (stateOf init arg7 G7 arg8 G8) acc
  step k acc := by
    iintro ⟨H3, H4, H5, ⟨%f7, H7, ⟨%f8, H8, %h⟩⟩⟩
    unfold k0_t9_body
    sl_exec
    sl_step
    isplitl [H3]; · iexact H3
    isplitl [H4]; · iexact H4
    isplitl [H5]; · iexact H5
    iexists _; isplitl [H7]; · iexact H7
    iexists _; isplitl [H8]; · iexact H8
    ipureintro
    rw [show 2 * (k.val + 1) = 2 * k.val + 1 + 1 from rfl, chunks_succ, chunks_succ, ← h]
    obtain ⟨e1, e2, e3, e4, e5, e6, e7, e8⟩ := off_t9 i k
    frame_open
    simp (disch := decide) only [stateOf, ↓View.readCov_skip, ↓View.readCov_cons_toLoadRect, ↓read_hit, ↓read_miss, View.writes_nil]
    simp only [View.readAt_eq_ld, ld_q _ (head0 2) _ (show ![0, 4, 0, 0] = _ from rfl), ld_q _ (head1 2) _ (show ![0, 5, 0, 0] = _ from rfl),
      ld_k _ (head1 2) _ _ e1, ld_v _ (head0 2) _ _ e2, ld_k _ (head0 2) _ _ e3, ld_v _ (head1 2) _ _ e4,
      ld_k _ (head1 2) _ _ e5, ld_v _ (head0 2) _ _ e6, ld_k _ (head0 2) _ _ e7, ld_v _ (head1 2) _ _ e8, Nat.zero_add]
    rfl

/-- Third pair, the first remainder loop, which never runs. -/
@[sl_loop] def loop_t10 (arg2 : BitVec 32) (v305 : BitVec 32)
    (init : Row F × Row F × Row F × Row F) :
    LoopInvTy_k0_t10 (F := F) Unit ℕ (UR sig nD τ) ℕ 𝒱 c bd E i arg3 harg3 arg4 harg4 arg5 harg5 arg6 harg6 arg7 harg7 arg8 harg8
      arg2 init.1 init.1 (fun _ => Scalar.ofBits .bf16 0#16) v305 init where
  inv _ acc := iprop(⌜acc = init⌝)
  step k _ := absurd k.isLt (Nat.not_lt_of_le ((k0_t10_abs i).2.1.trans (Nat.zero_le _)))

/-- Third pair, the chunk left over when their number is odd. -/
@[sl_loop] def loop_t11 (arg2 : BitVec 32) (v309 : BitVec 32)
    (init : Row F × Row F × Row F × Row F) :
    LoopInvTy_k0_t11 (F := F) Unit ℕ (UR sig nD τ) ℕ 𝒱 c bd E i arg3 harg3 arg4 harg4 arg5 harg5 arg6 harg6 arg7 harg7 arg8 harg8
      arg2 (fun _ => 0#1) init.1 init.1 init.1 init.1 v309 0#32 0#32 init where
  inv k acc := kept c arg3 arg4 arg5 arg7 arg8 X3 X4 X5 2 (2 * ((i 2).val / 2)) k (stateOf init arg7 G7 arg8 G8) acc
  step k acc := by
    iintro ⟨H3, H4, H5, ⟨%f7, H7, ⟨%f8, H8, %h⟩⟩⟩
    unfold k0_t11_body
    sl_exec
    sl_step
    isplitl [H3]; · iexact H3
    isplitl [H4]; · iexact H4
    isplitl [H5]; · iexact H5
    iexists _; isplitl [H7]; · iexact H7
    iexists _; isplitl [H8]; · iexact H8
    ipureintro
    rw [chunks_succ, ← h]
    obtain ⟨e1, e2, e3, e4⟩ := off_t11 i k
    frame_open
    simp (disch := decide) only [stateOf, ↓View.readCov_skip, ↓View.readCov_cons_toLoadRect, ↓read_hit, ↓read_miss, View.writes_nil]
    simp only [View.readAt_eq_ld, ld_q _ (head0 2) _ (show ![0, 4, 0, 0] = _ from rfl), ld_q _ (head1 2) _ (show ![0, 5, 0, 0] = _ from rfl),
      ld_k _ (head1 2) _ _ e1, ld_v _ (head0 2) _ _ e2, ld_k _ (head0 2) _ _ e3, ld_v _ (head1 2) _ _ e4]
    rfl

/-- Third pair, the second remainder loop, which never runs. -/
@[sl_loop] def loop_t12 (arg2 : BitVec 32) (v314 : BitVec 32)
    (init : Row F × Row F × Row F × Row F) :
    LoopInvTy_k0_t12 (F := F) Unit ℕ (UR sig nD τ) ℕ 𝒱 c bd E i arg3 harg3 arg4 harg4 arg5 harg5 arg6 harg6 arg7 harg7 arg8 harg8
      arg2 (fun _ => 0#1) init.1 init.1 init.1 init.1 0#32 0#32 0#32 v314 init where
  inv _ acc := iprop(⌜acc = init⌝)
  step k _ := absurd k.isLt (Nat.not_lt_of_le ((k0_t12_abs i).2.1.trans (Nat.zero_le _)))

/-- Fourth pair, chunks two at a time. -/
@[sl_loop] def loop_t13 (arg2 : BitVec 32)
    (init : Row F × Row F × Row F × Row F) :
    LoopInvTy_k0_t13 (F := F) Unit ℕ (UR sig nD τ) ℕ 𝒱 c bd E i arg3 harg3 arg4 harg4 arg5 harg5 arg6 harg6 arg7 harg7 arg8 harg8
      arg2 init.1 init.1 (fun _ => Scalar.ofBits .f32 0#32) (fun _ => Scalar.ofBits .f32 0#32) init where
  inv k acc := kept c arg3 arg4 arg5 arg7 arg8 X3 X4 X5 3 0 (2 * k) (stateOf init arg7 G7 arg8 G8) acc
  step k acc := by
    iintro ⟨H3, H4, H5, ⟨%f7, H7, ⟨%f8, H8, %h⟩⟩⟩
    unfold k0_t13_body
    sl_exec
    sl_step
    isplitl [H3]; · iexact H3
    isplitl [H4]; · iexact H4
    isplitl [H5]; · iexact H5
    iexists _; isplitl [H7]; · iexact H7
    iexists _; isplitl [H8]; · iexact H8
    ipureintro
    rw [show 2 * (k.val + 1) = 2 * k.val + 1 + 1 from rfl, chunks_succ, chunks_succ, ← h]
    obtain ⟨e1, e2, e3, e4, e5, e6, e7, e8⟩ := off_t13 i k
    frame_open
    simp (disch := decide) only [stateOf, ↓View.readCov_skip, ↓View.readCov_cons_toLoadRect, ↓read_hit, ↓read_miss, View.writes_nil]
    simp only [View.readAt_eq_ld, ld_q _ (head0 3) _ (show ![0, 6, 0, 0] = _ from rfl), ld_q _ (head1 3) _ (show ![0, 7, 0, 0] = _ from rfl),
      ld_k _ (head1 3) _ _ e1, ld_v _ (head0 3) _ _ e2, ld_k _ (head0 3) _ _ e3, ld_v _ (head1 3) _ _ e4,
      ld_k _ (head1 3) _ _ e5, ld_v _ (head0 3) _ _ e6, ld_k _ (head0 3) _ _ e7, ld_v _ (head1 3) _ _ e8, Nat.zero_add]
    rfl

/-- Fourth pair, the first remainder loop, which never runs. -/
@[sl_loop] def loop_t14 (arg2 : BitVec 32) (v437 : BitVec 32)
    (init : Row F × Row F × Row F × Row F) :
    LoopInvTy_k0_t14 (F := F) Unit ℕ (UR sig nD τ) ℕ 𝒱 c bd E i arg3 harg3 arg4 harg4 arg5 harg5 arg6 harg6 arg7 harg7 arg8 harg8
      arg2 init.1 init.1 (fun _ => Scalar.ofBits .f32 0#32) (fun _ => Scalar.ofBits .f32 0#32) v437 init where
  inv _ acc := iprop(⌜acc = init⌝)
  step k _ := absurd k.isLt (Nat.not_lt_of_le ((k0_t14_abs i).2.1.trans (Nat.zero_le _)))

/-- Fourth pair, the chunk left over when their number is odd. -/
@[sl_loop] def loop_t15 (arg2 : BitVec 32) (v441 : BitVec 32)
    (init : Row F × Row F × Row F × Row F) :
    LoopInvTy_k0_t15 (F := F) Unit ℕ (UR sig nD τ) ℕ 𝒱 c bd E i arg3 harg3 arg4 harg4 arg5 harg5 arg6 harg6 arg7 harg7 arg8 harg8
      arg2 init.1 init.1 (fun _ => Scalar.ofBits .f32 0#32) (fun _ => Scalar.ofBits .f32 0#32) v441 init where
  inv k acc := kept c arg3 arg4 arg5 arg7 arg8 X3 X4 X5 3 (2 * ((i 2).val / 2)) k (stateOf init arg7 G7 arg8 G8) acc
  step k acc := by
    iintro ⟨H3, H4, H5, ⟨%f7, H7, ⟨%f8, H8, %h⟩⟩⟩
    unfold k0_t15_body
    sl_exec
    sl_step
    isplitl [H3]; · iexact H3
    isplitl [H4]; · iexact H4
    isplitl [H5]; · iexact H5
    iexists _; isplitl [H7]; · iexact H7
    iexists _; isplitl [H8]; · iexact H8
    ipureintro
    rw [chunks_succ, ← h]
    obtain ⟨e1, e2, e3, e4⟩ := off_t15 i k
    frame_open
    simp (disch := decide) only [stateOf, ↓View.readCov_skip, ↓View.readCov_cons_toLoadRect, ↓read_hit, ↓read_miss, View.writes_nil]
    simp only [View.readAt_eq_ld, ld_q _ (head0 3) _ (show ![0, 6, 0, 0] = _ from rfl), ld_q _ (head1 3) _ (show ![0, 7, 0, 0] = _ from rfl),
      ld_k _ (head1 3) _ _ e1, ld_v _ (head0 3) _ _ e2, ld_k _ (head0 3) _ _ e3, ld_v _ (head1 3) _ _ e4]
    rfl

/-- Fourth pair, the second remainder loop, which never runs. -/
@[sl_loop] def loop_t16 (arg2 : BitVec 32) (v446 : BitVec 32)
    (init : Row F × Row F × Row F × Row F) :
    LoopInvTy_k0_t16 (F := F) Unit ℕ (UR sig nD τ) ℕ 𝒱 c bd E i arg3 harg3 arg4 harg4 arg5 harg5 arg6 harg6 arg7 harg7 arg8 harg8
      arg2 init.1 init.1 (fun _ => Scalar.ofBits .f32 0#32) (fun _ => Scalar.ofBits .f32 0#32) v446 init where
  inv _ acc := iprop(⌜acc = init⌝)
  step k _ := absurd k.isLt (Nat.not_lt_of_le ((k0_t16_abs i).2.1.trans (Nat.zero_le _)))

end Cert.KernelIdeal.Mla

end
-- ==== Proof.Mla.Block.lean ====
/- What the attention kernel leaves in one block of its result: for each pair of heads the causal chunks before the diagonal one,
   the masked diagonal chunk, the normalisation, and the transposition into the block's columns. -/
module

public import proofs.«01_k».proof.Proof.Mla.LoopState

@[expose] public section

set_option maxRecDepth 16384

noncomputable section

namespace Cert.KernelIdeal.Mla

open Idealize.ShloMosaic Idealize.ShloMosaic.TcCoe Idealize.ShloMosaic.ValueIdx Cert.KernelIdeal.Gen

variable {F : FTy → Type} [FloatOps F] [Named F]

/-- A weighted sum of nothing. -/
def zeroAc : Ac F := fun _ => Scalar.ofBits .f32 0x00000000#32

/-- The state before the first chunk. -/
def entry (x3 : QBlk F) (x4 : KBlk F) (pr : Fin 4) : PairState F :=
  ((k0_pay315, k0_pay316, k0_pay315, k0_pay316), zeroAc, zeroAc, scoresAt x3 x4 (head0 pr) 0)

/-- Scores of the diagonal chunk, those of later keys put to the mask's value. -/
def masked (s : FVec F S512x512 .f32) : FVec F S512x512 .f32 :=
  select k0_pay314 s (broadcast S512x512 (Named.named Cert.KernelIdeal.κ "mask" 0xF149F2CA#32))

/-- One head's weighted sum over its sum of weights. -/
def normed (a : Ac F) (l : Row F) : FVec F S64x512 .f32 :=
  mulf (shapeCast S64x512 a shapeCasts_S1x64x512_S64x512)
    (broadcastTo S64x512 (divf (broadcast S1x512 (Scalar.ofBits .f32 0x3F800000#32)) l) broadcasts_S1x512_S64x512)

/-- The two heads' results side by side, a query to a row. -/
def merge (a b : FVec F S64x512 .f32) : FVec F S512x128 .f32 :=
  transpose S512x128 [1, 0] (concatenate S128x512 0 [⟨S64x512, a⟩, ⟨S64x512, b⟩] concatenates_S64x512_S64x512_S128x512_d0)
    transposes_S128x512_p1_0_S512x128

/-- The pair's columns of the block, from its state before the diagonal chunk `n`. -/
def pairEnd (x3 : QBlk F) (x4 : KBlk F) (x5 : VBlk F) (pr : Fin 4) (n : ℕ) (t : PairState F) : FVec F S512x128 .f32 :=
  merge (normed (newAcc t.1.1 t.2.1 (masked (unpack t.2.2.2)) (vAt x5 (head0 pr) n)) (newSum t.1.1 t.1.2.1 (masked (unpack t.2.2.2))))
    (normed (newAcc t.1.2.2.1 t.2.2.1 (masked (unpack (scoresAt x3 x4 (head1 pr) n))) (vAt x5 (head1 pr) n))
      (newSum t.1.2.2.1 t.1.2.2.2 (masked (unpack (scoresAt x3 x4 (head1 pr) n)))))

/-- The pair's columns of the block of queries `n`. -/
def pairOut (x3 : QBlk F) (x4 : KBlk F) (x5 : VBlk F) (n : ℕ) (pr : Fin 4) : FVec F S512x128 .f32 :=
  pairEnd x3 x4 x5 pr n (chunks x3 x4 x5 pr 0 n (entry x3 x4 pr))

/-- The block of the result at the block of queries `n`. -/
def outBlock (x3 : QBlk F) (x4 : KBlk F) (x5 : VBlk F) (n : ℕ) : S512x512.Idx → Elt F .f32 :=
  fun j => pairOut x3 x4 x5 n ⟨(j 1).val / 128, by have h : (j 1).val < 512 := (j 1).isLt; omega⟩
    (ix2 (j 0) ⟨(j 1).val % 128, Nat.mod_lt _ (by decide)⟩)

/-- Steps after steps are steps. -/
theorem chunks_add (x3 : QBlk F) (x4 : KBlk F) (x5 : VBlk F) (pr : Fin 4) (a b : ℕ) (s : PairState F) :
    chunks x3 x4 x5 pr a b (chunks x3 x4 x5 pr 0 a s) = chunks x3 x4 x5 pr 0 (a + b) s := by
  induction b with
  | zero => rfl
  | succ b ih => rw [chunks_succ, ih, ← Nat.add_assoc, chunks_succ, Nat.zero_add]

/-- The two loops' runs together are the run over all chunks before the diagonal. -/
theorem chunks_all {x3 : QBlk F} {x4 : KBlk F} {x5 : VBlk F} {pr : Fin 4} {n t1 t2 : ℕ} {s0 s1 s2 : PairState F}
    (e1 : t1 = n / 2) (e2 : t2 = n % 2) (h0 : s0 = entry x3 x4 pr) (h1 : s1 = chunks x3 x4 x5 pr 0 (2 * t1) s0)
    (h2 : s2 = chunks x3 x4 x5 pr (2 * (n / 2)) t2 s1) : s2 = chunks x3 x4 x5 pr 0 n (entry x3 x4 pr) := by
  subst h0 h1 h2 e1 e2
  rw [chunks_add, Nat.div_add_mod]

/-- Four blocks of columns, the pairs' columns in each, make up the block. -/
theorem outBlock_of_pieces {x3 : QBlk F} {x4 : KBlk F} {x5 : VBlk F} {n : ℕ} (arg6 : Memref sig .tc .vmem S512x512 .f32)
    (f : BufTy.Contents (Elt F) arg6.view.ty) (w3 w2 w1 w0 : FVec F S512x128 .f32) (i3 i2 i1 i0)
    (h3 : w3 = pairOut x3 x4 x5 n 3) (h2 : w2 = pairOut x3 x4 x5 n 2) (h1 : w1 = pairOut x3 x4 x5 n 1) (h0 : w0 = pairOut x3 x4 x5 n 0) :
    arg6.view.read (Elt F) (arg6.view.writes (Elt F) f
      [⟨Rect.unit (s := S512x512) ![0, 384] S512x128.size i3, w3⟩, ⟨Rect.unit (s := S512x512) ![0, 256] S512x128.size i2, w2⟩,
        ⟨Rect.unit (s := S512x512) ![0, 128] S512x128.size i1, w1⟩, ⟨Rect.unit (s := S512x512) ![0, 0] S512x128.size i0, w0⟩])
      = outBlock x3 x4 x5 n := by
  subst h3 h2 h1 h0
  have key : ∀ (pr : Fin 4) (o : ℕ) (ho : o = 128 * pr.val) (inb) (x : (Rect.unit (s := S512x512) ![0, o] S512x128.size inb).shape.Idx),
      pairOut x3 x4 x5 n pr x = outBlock x3 x4 x5 n ((Rect.unit (s := S512x512) ![0, o] S512x128.size inb).emb x) := by
    intro pr o ho inb x
    subst ho
    have hx : (x 1).val < 128 := (x 1).isLt
    have e1 : (((Rect.unit (s := S512x512) ![0, 128 * pr.val] S512x128.size inb).emb x) 1).val = 128 * pr.val + 1 * (x 1).val := rfl
    have e0 : (((Rect.unit (s := S512x512) ![0, 128 * pr.val] S512x128.size inb).emb x) 0).val = 0 + 1 * (x 0).val := rfl
    unfold outBlock
    have hp : (⟨(((Rect.unit (s := S512x512) ![0, 128 * pr.val] S512x128.size inb).emb x) 1).val / 128, by
        rw [e1]; have := pr.isLt; omega⟩ : Fin 4) = pr := Fin.ext (by
          show (((Rect.unit (s := S512x512) ![0, 128 * pr.val] S512x128.size inb).emb x) 1).val / 128 = pr.val
          rw [e1]; omega)
    have hq : (ix2 (((Rect.unit (s := S512x512) ![0, 128 * pr.val] S512x128.size inb).emb x) 0)
        (⟨(((Rect.unit (s := S512x512) ![0, 128 * pr.val] S512x128.size inb).emb x) 1).val % 128, Nat.mod_lt _ (by decide)⟩ : Fin 128)
          : S512x128.Idx) = x := by
      funext a
      refine Fin.ext ?_
      match a with
      | ⟨0, _⟩ => show (((Rect.unit (s := S512x512) ![0, 128 * pr.val] S512x128.size inb).emb x) 0).val = (x 0).val; rw [e0]; omega
      | ⟨1, _⟩ =>
        show (((Rect.unit (s := S512x512) ![0, 128 * pr.val] S512x128.size inb).emb x) 1).val % 128 = (x 1).val
        rw [e1]; omega
    exact (congrArg₂ (pairOut x3 x4 x5 n) hp hq).symm
  funext y
  refine View.read_writes_apply_of_pieces arg6.view f (outBlock x3 x4 x5 n) _ ?_ y ?_
  · intro p hp
    simp only [List.mem_cons, List.mem_nil_iff, or_false] at hp
    rcases hp with rfl | rfl | rfl | rfl
    · exact key 3 384 rfl i3
    · exact key 2 256 rfl i2
    · exact key 1 128 rfl i1
    · exact key 0 0 rfl i0
  · have hy : (y 1).val < 512 := (y 1).isLt
    have hy0 : (y 0).val < 512 := (y 0).isLt
    have mem : ∀ (o : ℕ) (inb), o ≤ (y 1).val → (y 1).val < o + 128 → y ∈ (Rect.unit (s := S512x512) ![0, o] S512x128.size inb).set := by
      intro o inb h1 h2
      refine Rect.mem_set_unit.mpr fun a => ?_
      match a with
      | ⟨0, _⟩ => exact ⟨Nat.zero_le _, by show (y 0).val < 0 + 512; omega⟩
      | ⟨1, _⟩ => exact ⟨h1, h2⟩
    by_cases c3 : 384 ≤ (y 1).val
    · exact ⟨_, List.mem_cons_self .., mem 384 i3 c3 (by omega)⟩
    by_cases c2 : 256 ≤ (y 1).val
    · exact ⟨_, List.mem_cons_of_mem _ (List.mem_cons_self ..), mem 256 i2 c2 (by omega)⟩
    by_cases c1 : 128 ≤ (y 1).val
    · exact ⟨_, List.mem_cons_of_mem _ (List.mem_cons_of_mem _ (List.mem_cons_self ..)), mem 128 i1 c1 (by omega)⟩
    · exact ⟨_, List.mem_cons_of_mem _ (List.mem_cons_of_mem _ (List.mem_cons_of_mem _ (List.mem_cons_self ..))), mem 0 i0 (Nat.zero_le _) (by omega)⟩

/-- A fill of the accumulator's buffer, read back. -/
theorem fill7 (v : View sig .tc .vmem S2x64x512 .f32) (f : BufTy.Contents (Elt F) v.ty) {off : Fin 3 → ℕ} (inb)
    (w : FVec F S2x64x512 .f32) (L : List (View.Piece (Elt F) S2x64x512 .f32)) :
    v.read (Elt F) (v.writes (Elt F) f (⟨Rect.unit (s := S2x64x512) off (![2, 64, 512] : Fin 3 → ℕ) inb, w⟩ :: L)) = w :=
  View.read_writes_full v f inb w L

/-- Any part of a fill by one value is that value. -/
theorem ld_zero {off : Fin 3 → ℕ} (inb) :
    View.ld (shapeCast S2x64x512 (broadcast S2x64x512 (FloatOps.ofBits (F := F) .f32 0#32)) shapeCasts_S2x64x512_S2x64x512)
      (Rect.unit (s := S2x64x512) off (![1, 64, 512] : Fin 3 → ℕ) inb) = zeroAc := rfl

end Cert.KernelIdeal.Mla

end
-- ==== Proof.Mla.Body.lean ====
/- The attention kernel's body, run once on any staging buffers. -/
module

public import proofs.«01_k».proof.Proof.Mla.Loops
public import proofs.«01_k».proof.Proof.Mla.Block
public import proofs.«01_k».proof.Proof.Gen.KernelIdeal.Frame

@[expose] public section

set_option maxRecDepth 16384

noncomputable section

namespace Cert.KernelIdeal.Mla

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ

/-- A buffer held is a buffer holding something. -/
theorem some_contents (c : Dev nD) {s : Shape} {e : EltTy} (arg : Memref sig .tc .vmem s e) (f : BufTy.Contents (Elt F) arg.view.ty) :
    (iprop(arg.view.loc (c : Thread nD τ) ↦[arg.view.set]{fullShare} f) : sProp 𝕄G)
      ⊢ iprop(∃ d, ∃ f', ⌜arg.view.read (Elt F) f' = d⌝ ∗ (arg.view.loc (c : Thread nD τ) ↦[arg.view.set]{fullShare} f')) := by
  iintro H
  iexists (arg.view.read (Elt F) f)
  iexists f
  isplitr
  · ipureintro; exact rfl
  · iexact H

set_option maxHeartbeats 8000000 in
/-- The attention kernel's body: it leaves the three blocks as they are and the block of the result of its block of queries. -/
theorem kernelRun (c : Dev nD) (i : grid0.Coords)
    (arg3 : Memref sig .tc .vmem S1x8x128x512 .bf16) (harg3 : arg3.IsWhole) (arg4 : Memref sig .tc .vmem S1x8x4096x128 .bf16) (harg4 : arg4.IsWhole)
    (arg5 : Memref sig .tc .vmem S1x8x8x64x512 .bf16) (harg5 : arg5.IsWhole) (arg6 : Memref sig .tc .vmem S512x512 .f32) (harg6 : arg6.IsWhole)
    (arg7 : Memref sig .tc .vmem S2x64x512 .f32) (harg7 : arg7.IsWhole) (arg8 : Memref sig .tc .vmem S2x512x512 .f32) (harg8 : arg8.IsWhole)
    (x3 : QBlk F) (x4 : KBlk F) (x5 : VBlk F) (K : PUnit → sProp 𝕄G) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x3 ∗ owns (c : Thread nD τ) arg4 fullShare x4 ∗ owns (c : Thread nD τ) arg5 fullShare x5
            ∗ owns (c : Thread nD τ) arg6 fullShare (outBlock x3 x4 x5 (i 2).val) ∗ (∃ d, owns (c : Thread nD τ) arg7 fullShare d)
            ∗ (∃ d, owns (c : Thread nD τ) arg8 fullShare d)) -∗ K ⟨⟩))
      ⊢ wp frame (wpE (defs₀ (F := F)) Variants.none c none) Set.univ
          (cc0_mla_flash i arg3 harg3 arg4 harg4 arg5 harg5 arg6 harg6 arg7 harg7 arg8 harg8) K := by
  unfold owns
  iintro ⟨⟨%f3, %h3, H3⟩, ⟨%f4, %h4, H4⟩, ⟨%f5, %h5, H5⟩, ⟨%d6, %f6, -, H6⟩, ⟨%d7, %f7, -, H7⟩, ⟨%d8, %f8, -, H8⟩, Hk⟩
  simp only [cc0_mla_flash_eq_skeleton]; unfold cc0_mla_flash_skel
  sl_exec
  sl_step
  iapply Hk
  isplitl [H3]
  · iexists _; isplitr
    rotate_left
    · iexact H3
    · ipureintro; exact h3
  isplitl [H4]
  · iexists _; isplitr
    rotate_left
    · iexact H4
    · ipureintro; exact h4
  isplitl [H5]
  · iexists _; isplitr
    rotate_left
    · iexact H5
    · ipureintro; exact h5
  isplitl [H6]
  · iexists _; isplitr
    rotate_left
    · iexact H6
    · ipureintro
      subst h3 h4 h5
      refine outBlock_of_pieces arg6 f6 _ _ _ _ _ _ _ _ ?_ ?_ ?_ ?_
      rotate_left 3
      · have e := chunks_all (trips_main i).1 (trips_odd i).1 (s0 := stateOf _ arg7 _ arg8 _) (x3 := arg3.view.read (Elt F) f3)
          (x4 := arg4.view.read (Elt F) f4) (x5 := arg5.view.read (Elt F) f5) (pr := 0) ?_ hL5 hL12
        rotate_left
        · clear hL5 hL12 hL19 hL26 hL33 hL40 hL47 hL54
          frame_open
          simp (disch := decide) only [stateOf, ↓View.readCov_skip, ↓View.readCov_cons_toLoadRect, ↓read_hit, ↓read_miss, View.writes_nil]
          simp only [View.readAt_eq_ld, fill7, ld_zero, View.read_writes_full, ld_q _ (head0 0) _ (show ![0, 0, 0, 0] = _ from rfl),
            ld_k _ (head0 0) 0 _ (show ![0, 0, 0, 0] = _ from rfl)]
          rfl
        · clear hL5 hL12 hL19 hL26 hL33 hL40 hL47 hL54
          obtain ⟨e1, e2, e3⟩ := (off_diag i).1
          unfold pairOut
          rw [← e]
          frame_open
          refine congrArg₂ merge ?_ ?_
          all_goals simp (disch := decide) only [stateOf, ↓View.readCov_skip, ↓View.readCov_cons_toLoadRect, ↓read_hit, ↓read_miss, View.writes_nil]
          all_goals simp only [View.readAt_eq_ld, ld_q _ (head1 0) _ (show ![0, 1, 0, 0] = _ from rfl),
            ld_k _ (head1 0) _ _ e1, ld_v _ (head0 0) _ _ e2, ld_v _ (head1 0) _ _ e3]
          all_goals rfl
      · have e := chunks_all (trips_main i).2.2.2 (trips_odd i).2.2.2 (s0 := stateOf _ arg7 _ arg8 _) (x3 := arg3.view.read (Elt F) f3)
          (x4 := arg4.view.read (Elt F) f4) (x5 := arg5.view.read (Elt F) f5) (pr := 3) ?_ hL47 hL54
        rotate_left
        · clear hL5 hL12 hL19 hL26 hL33 hL40 hL47 hL54
          frame_open
          simp (disch := decide) only [stateOf, ↓View.readCov_skip, ↓View.readCov_cons_toLoadRect, ↓read_hit, ↓read_miss, View.writes_nil]
          simp only [View.readAt_eq_ld, fill7, ld_zero, View.read_writes_full, ld_q _ (head0 3) _ (show ![0, 6, 0, 0] = _ from rfl),
            ld_k _ (head0 3) 0 _ (show ![0, 6, 0, 0] = _ from rfl)]
          rfl
        · clear hL5 hL12 hL19 hL26 hL33 hL40 hL47 hL54
          obtain ⟨e1, e2, e3⟩ := (off_diag i).2.2.2
          unfold pairOut
          rw [← e]
          frame_open
          simp (disch := decide) only [stateOf, ↓View.readCov_skip, ↓View.readCov_cons_toLoadRect, ↓read_hit, ↓read_miss, View.writes_nil]
          simp only [View.readAt_eq_ld, ld_q _ (head1 3) _ (show ![0, 7, 0, 0] = _ from rfl),
            ld_k _ (head1 3) _ _ e1, ld_v _ (head0 3) _ _ e2, ld_v _ (head1 3) _ _ e3]
          rfl
      · have e := chunks_all (trips_main i).2.2.1 (trips_odd i).2.2.1 (s0 := stateOf _ arg7 _ arg8 _) (x3 := arg3.view.read (Elt F) f3)
          (x4 := arg4.view.read (Elt F) f4) (x5 := arg5.view.read (Elt F) f5) (pr := 2) ?_ hL33 hL40
        rotate_left
        · clear hL5 hL12 hL19 hL26 hL33 hL40 hL47 hL54
          frame_open
          simp (disch := decide) only [stateOf, ↓View.readCov_skip, ↓View.readCov_cons_toLoadRect, ↓read_hit, ↓read_miss, View.writes_nil]
          simp only [View.readAt_eq_ld, fill7, ld_zero, View.read_writes_full, ld_q _ (head0 2) _ (show ![0, 4, 0, 0] = _ from rfl),
            ld_k _ (head0 2) 0 _ (show ![0, 4, 0, 0] = _ from rfl)]
          rfl
        · clear hL5 hL12 hL19 hL26 hL33 hL40 hL47 hL54
          obtain ⟨e1, e2, e3⟩ := (off_diag i).2.2.1
          unfold pairOut
          rw [← e]
          frame_open
          refine congrArg₂ merge ?_ ?_
          all_goals simp (disch := decide) only [stateOf, ↓View.readCov_skip, ↓View.readCov_cons_toLoadRect, ↓read_hit, ↓read_miss, View.writes_nil]
          all_goals simp only [View.readAt_eq_ld, ld_q _ (head1 2) _ (show ![0, 5, 0, 0] = _ from rfl),
            ld_k _ (head1 2) _ _ e1, ld_v _ (head0 2) _ _ e2, ld_v _ (head1 2) _ _ e3]
          all_goals rfl
      · have e := chunks_all (trips_main i).2.1 (trips_odd i).2.1 (s0 := stateOf _ arg7 _ arg8 _) (x3 := arg3.view.read (Elt F) f3)
          (x4 := arg4.view.read (Elt F) f4) (x5 := arg5.view.read (Elt F) f5) (pr := 1) ?_ hL19 hL26
        rotate_left
        · clear hL5 hL12 hL19 hL26 hL33 hL40 hL47 hL54
          frame_open
          simp (disch := decide) only [stateOf, ↓View.readCov_skip, ↓View.readCov_cons_toLoadRect, ↓read_hit, ↓read_miss, View.writes_nil]
          simp only [View.readAt_eq_ld, fill7, ld_zero, View.read_writes_full, ld_q _ (head0 1) _ (show ![0, 2, 0, 0] = _ from rfl),
            ld_k _ (head0 1) 0 _ (show ![0, 2, 0, 0] = _ from rfl)]
          rfl
        · clear hL5 hL12 hL19 hL26 hL33 hL40 hL47 hL54
          obtain ⟨e1, e2, e3⟩ := (off_diag i).2.1
          unfold pairOut
          rw [← e]
          frame_open
          refine congrArg₂ merge ?_ ?_
          all_goals simp (disch := decide) only [stateOf, ↓View.readCov_skip, ↓View.readCov_cons_toLoadRect, ↓read_hit, ↓read_miss, View.writes_nil]
          all_goals simp only [View.readAt_eq_ld, ld_q _ (head1 1) _ (show ![0, 3, 0, 0] = _ from rfl),
            ld_k _ (head1 1) _ _ e1, ld_v _ (head0 1) _ _ e2, ld_v _ (head1 1) _ _ e3]
          all_goals rfl
  isplitl [H7]
  · iapply (some_contents c arg7 _); iexact H7
  · iapply (some_contents c arg8 _); iexact H8

end Cert.KernelIdeal.Mla

end
-- ==== Proof.Mla.Run.lean ====
/- The pipeline's data of the attention kernel and the whole program's run. -/
module

public import proofs.«01_k».proof.Proof.Mla.Body
public import proofs.«01_k».proof.Proof.Gen.KernelIdeal.Frame
public import Idealize.ShloMosaic.Lib.Tactic

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The resource algebra of the frame kit. -/
local notation "𝕄G" => MT nD τ sig Unit (Elt F) ℕ (UR sig nD τ) ℕ

variable (m : (ℓ : Loc nD τ sig) → Buf (Elt F) ℓ) (ρ : Dev nD → PrngReg)

/-- The three blocks a point works on. -/
abbrev qBlk (c : Dev nD) (t : Fin cfg0.N) : QBlk F := iblk m c 0 t
abbrev kBlk (c : Dev nD) (t : Fin cfg0.N) : KBlk F := iblk m c 1 t
abbrev vBlk (c : Dev nD) (t : Fin cfg0.N) : VBlk F := iblk m c 2 t

/-- The block of the result a point leaves. -/
def outsAt (c : Dev nD) (t : Fin cfg0.N) : S512x512.Idx → Elt F .f32 :=
  outBlock (qBlk m c t) (kBlk m c t) (vBlk m c t) (grid0.coords t 2).val

/-- The pipeline's data: the arrays as found; after the body the inputs' buffers at their blocks and the result's at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant between points: the two scratch buffers at anything, and the generator's register. -/
theorem inv_eq (c : Dev nD) : (Pipeline.ΦA spec0 c : sProp 𝕄G)
    = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA
  rw [scopedRest0_eq]; simp only [owns_whole]; try rfl

/-- The body at every point does what the data say. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq, after0_0, after0_1, after0_2, after0_3]
  unfold outsAt
  iintro ⟨⟨⟨HS0, HS1⟩, Hg⟩, Ho, ⟨%d0, H0⟩, ⟨%d1, H1⟩, ⟨%d2, H2⟩, ⟨%d3, H3⟩⟩
  iapply (kernelRun c (grid0.coords t) _ _ _ _ _ _ _ _ _ _ _ _ (qBlk m c t) (kBlk m c t) (vBlk m c t) _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]; · iexact HS0
      iexact HS1
    · iexact Hg
  isplitl [Ho]; · iexact Ho
  isplitl [H0]; · iexact H0
  isplitl [H1]; · iexact H1
  isplitl [H2]; · iexact H2
  iexact H3

set_option backward.isDefEq.respectTransparency.types false in
/-- The whole program's run: every weakly fair execution ends, with every array at what the data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.KernelIdeal.Mla

end
-- ==== Proof.Mla.Final.lean ====
/- The attention kernel's result array after the run: the block of every grid point side by side. -/
module

public import proofs.«01_k».proof.Proof.Mla.Run
public import Idealize.ShloMosaic.Lib.Pipeline.ValueKit
public import Idealize.ShloMosaic.Lib.Pointwise

@[expose] public section

set_option maxRecDepth 16384

noncomputable section

namespace Cert.KernelIdeal.Mla

open Cert.KernelIdeal Cert.KernelIdeal.Gen
open Idealize.ShloMosaic Idealize.ShloMosaic.TcCoe Idealize.SL.Sem
open Idealize.ShloMosaic.Pipeline (Dat)

variable {F : FTy → Type} [FloatOps F] [Named F]

/-- The queries of block `t` of the result: batch `t / 8`, the `t % 8`-th 512 of them. -/
def qOf (x : S8x8x128x4096.Idx → Elt F .bf16) (t : ℕ) : QBlk F := fun y =>
  x (ix4 ⟨t / 8 % 8, Nat.mod_lt _ (by decide)⟩ (y 1) (y 2) ⟨512 * (t % 8) + (y 3).val, by
    have h1 : (y 3).val < 512 := (y 3).isLt
    have h2 : t % 8 < 8 := Nat.mod_lt _ (by decide)
    show _ < 4096
    omega⟩)

/-- The keys of batch `t / 8`. -/
def kOf (x : S8x8x4096x128.Idx → Elt F .bf16) (t : ℕ) : KBlk F := fun y => x (ix4 ⟨t / 8 % 8, Nat.mod_lt _ (by decide)⟩ (y 1) (y 2) (y 3))

/-- The values of batch `t / 8`. -/
def vOf (x : S8x8x8x64x512.Idx → Elt F .bf16) (t : ℕ) : VBlk F := fun y => x (ix5 ⟨t / 8 % 8, Nat.mod_lt _ (by decide)⟩ (y 1) (y 2) (y 3) (y 4))

/-- The result array of three argument arrays. -/
def result (x0 : S8x8x128x4096.Idx → Elt F .bf16) (x1 : S8x8x4096x128.Idx → Elt F .bf16) (x2 : S8x8x8x64x512.Idx → Elt F .bf16) :
    S32768x512.Idx → Elt F .f32 := fun j =>
  outBlock (qOf x0 ((j 0).val / 512)) (kOf x1 ((j 0).val / 512)) (vOf x2 ((j 0).val / 512)) ((j 0).val / 512 % 8)
    (ix2 ⟨(j 0).val % 512, Nat.mod_lt _ (by decide)⟩ (j 1))

/-- Which blocks of the arrays a point works on. -/
theorem idx0 : ∀ t : Fin cfg0.N, win0_0.index t (0 : Fin 4) = t.val / 8 ∧ win0_0.index t (1 : Fin 4) = 0 ∧ win0_0.index t (2 : Fin 4) = 0
    ∧ win0_0.index t (3 : Fin 4) = t.val % 8 := (by decide +kernel : ∀ t : Fin grid0.N, _)
theorem idx1 : ∀ t : Fin cfg0.N, win0_1.index t (0 : Fin 4) = t.val / 8 ∧ win0_1.index t (1 : Fin 4) = 0 ∧ win0_1.index t (2 : Fin 4) = 0
    ∧ win0_1.index t (3 : Fin 4) = 0 := (by decide +kernel : ∀ t : Fin grid0.N, _)
theorem idx2 : ∀ t : Fin cfg0.N, win0_2.index t (0 : Fin 5) = t.val / 8 ∧ win0_2.index t (1 : Fin 5) = 0 ∧ win0_2.index t (2 : Fin 5) = 0
    ∧ win0_2.index t (3 : Fin 5) = 0 ∧ win0_2.index t (4 : Fin 5) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem coord2 : ∀ t : Fin cfg0.N, (grid0.coords t 2).val = t.val % 8 := (by decide +kernel : ∀ t : Fin grid0.N, _)

variable (m : (ℓ : Loc nD τ sig) → Buf (Elt F) ℓ) (ρ : Dev nD → PrngReg)

theorem lt64 (t : Fin cfg0.N) : t.val < 64 := t.isLt

theorem qBlk_eq (c : Dev nD) (t : Fin cfg0.N) : qBlk m c t = qOf (V m c main_arg0) t.val := by
  obtain ⟨e0, e1, e2, e3⟩ := idx0 t
  have ht := lt64 t
  funext y
  have y0 : (y 0).val < 1 := (y 0).isLt
  show V m c main_arg0 (((cfg0.win 0).blk t).view.emb y) = V m c main_arg0 _
  refine congrArg _ (funext fun a => Fin.ext ?_)
  match a with
  | ⟨0, _⟩ => show win0_0.index t (0 : Fin 4) * 1 + 1 * (y 0).val = t.val / 8 % 8; omega
  | ⟨1, _⟩ => show win0_0.index t (1 : Fin 4) * 8 + 1 * (y 1).val = (y 1).val; omega
  | ⟨2, _⟩ => show win0_0.index t (2 : Fin 4) * 128 + 1 * (y 2).val = (y 2).val; omega
  | ⟨3, _⟩ => show win0_0.index t (3 : Fin 4) * 512 + 1 * (y 3).val = 512 * (t.val % 8) + (y 3).val; omega

theorem kBlk_eq (c : Dev nD) (t : Fin cfg0.N) : kBlk m c t = kOf (V m c main_arg1) t.val := by
  obtain ⟨e0, e1, e2, e3⟩ := idx1 t
  have ht := lt64 t
  funext y
  have y0 : (y 0).val < 1 := (y 0).isLt
  show V m c main_arg1 (((cfg0.win 1).blk t).view.emb y) = V m c main_arg1 _
  refine congrArg _ (funext fun a => Fin.ext ?_)
  match a with
  | ⟨0, _⟩ => show win0_1.index t (0 : Fin 4) * 1 + 1 * (y 0).val = t.val / 8 % 8; omega
  | ⟨1, _⟩ => show win0_1.index t (1 : Fin 4) * 8 + 1 * (y 1).val = (y 1).val; omega
  | ⟨2, _⟩ => show win0_1.index t (2 : Fin 4) * 4096 + 1 * (y 2).val = (y 2).val; omega
  | ⟨3, _⟩ => show win0_1.index t (3 : Fin 4) * 128 + 1 * (y 3).val = (y 3).val; omega

theorem vBlk_eq (c : Dev nD) (t : Fin cfg0.N) : vBlk m c t = vOf (V m c main_arg2) t.val := by
  obtain ⟨e0, e1, e2, e3, e4⟩ := idx2 t
  have ht := lt64 t
  funext y
  have y0 : (y 0).val < 1 := (y 0).isLt
  show V m c main_arg2 (((cfg0.win 2).blk t).view.emb y) = V m c main_arg2 _
  refine congrArg _ (funext fun a => Fin.ext ?_)
  match a with
  | ⟨0, _⟩ => show win0_2.index t (0 : Fin 5) * 1 + 1 * (y 0).val = t.val / 8 % 8; omega
  | ⟨1, _⟩ => show win0_2.index t (1 : Fin 5) * 8 + 1 * (y 1).val = (y 1).val; omega
  | ⟨2, _⟩ => show win0_2.index t (2 : Fin 5) * 8 + 1 * (y 2).val = (y 2).val; omega
  | ⟨3, _⟩ => show win0_2.index t (3 : Fin 5) * 64 + 1 * (y 3).val = (y 3).val; omega
  | ⟨4, _⟩ => show win0_2.index t (4 : Fin 5) * 512 + 1 * (y 4).val = (y 4).val; omega

/-- What a point writes back is its block of the result array. -/
theorem flushed_eq (c : Dev nD) (t : Fin cfg0.N) : (dats m 0 c).flushed 3 t
    = ((cfg0.win 3).blk t).view.read (Elt F) (result (V m c main_arg0) (V m c main_arg1) (V m c main_arg2)) := by
  obtain ⟨e0, e1⟩ := idx3 t
  have ht := lt64 t
  funext y
  have y0 : (y 0).val < 512 := (y 0).isLt
  have y1 : (y 1).val < 512 := (y 1).isLt
  have r0 : (((cfg0.win 3).blk t).view.emb y 0).val = 512 * t.val + (y 0).val := by
    show win0_3.index t (0 : Fin 2) * 512 + 1 * (y 0).val = _; omega
  have r1 : (((cfg0.win 3).blk t).view.emb y 1).val = (y 1).val := by
    show win0_3.index t (1 : Fin 2) * 512 + 1 * (y 1).val = _; omega
  show outsAt m c t y = result (V m c main_arg0) (V m c main_arg1) (V m c main_arg2) (((cfg0.win 3).blk t).view.emb y)
  unfold outsAt result
  have hd : (((cfg0.win 3).blk t).view.emb y 0).val / 512 = t.val := by omega
  rw [qBlk_eq, kBlk_eq, vBlk_eq, coord2]
  refine Eq.trans ?_ (congrArg (fun n => outBlock (qOf (V m c main_arg0) n) (kOf (V m c main_arg1) n) (vOf (V m c main_arg2) n) (n % 8) _) hd.symm)
  refine congrArg _ (funext fun a => Fin.ext ?_)
  match a with
  | ⟨0, _⟩ => show (y 0).val = (((cfg0.win 3).blk t).view.emb y 0).val % 512; omega
  | ⟨1, _⟩ => exact r1.symm

/-- Every index of the result array is in some point's block. -/
theorem covered (i : S32768x512.Idx) : ∃ t : Fin cfg0.N, (cfg0.win 3).flush t = true ∧ i ∈ ((cfg0.win 3).blk t).view.set := by
  have h0 : (i 0).val < 32768 := (i 0).isLt
  have h1 : (i 1).val < 512 := (i 1).isLt
  have hN : cfg0.N = 64 := by decide
  obtain ⟨t, ht⟩ : ∃ t : Fin cfg0.N, t.val = (i 0).val / 512 := ⟨⟨(i 0).val / 512, by rw [hN]; omega⟩, rfl⟩
  refine ⟨t, flush0_3 _, ?_⟩
  obtain ⟨e0, e1⟩ := idx3 t
  show i ∈ ((View.whole main_v0).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 512 ≤ (i 1).val ∧ (i 1).val < win0_3.index t (1 : Fin 2) * 512 + 512
    omega

/-- The result array after the run. -/
theorem final (c : Dev nD) : (dats m 0 c).arrAt 3 cfg0.N
    = result (m ((c : Thread nD τ).loc main_arg0)) (m ((c : Thread nD τ).loc main_arg1)) (m ((c : Thread nD τ).loc main_arg2)) :=
  (dats m 0 c).arrAt_eq_of_cover 3 (result (V m c main_arg0) (V m c main_arg1) (V m c main_arg2)) (fun t _ => flushed_eq m c t) covered

/-- The run: the result array at its function of the arguments, the arguments unchanged. -/
theorem run : θ_run defs (onTc (τ := τ) (main (F := F))) ⟨m, fun _ => 0, ρ⟩ fun r => ∀ c : Dev nD,
      r.2.mem ((c.tc : Thread nD τ).loc main_v0)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (final m c),
      ((h.1 c).1 0).trans ((dats m 0 c).arrAt_in 0 rfl _), ((h.1 c).1 1).trans ((dats m 0 c).arrAt_in 1 rfl _),
      ((h.1 c).1 2).trans ((dats m 0 c).arrAt_in 2 rfl _)⟩) (run_main m ρ)

end Cert.KernelIdeal.Mla

end
-- ==== Proof.Mla.Math.lean ====
/- The running softmax over the extended reals: what its three running values are after any set of keys, and that at the end
   their quotient is the attention of the textbook softmax. Nothing here mentions a program. -/
module

public import Idealize.ShloMosaic.PureOps.Ideal.Laws

@[expose] public section

noncomputable section

namespace Cert.Mla.Math

open Idealize.ShloMosaic

/-- A power of two is not negative. -/
theorem exp2_nonneg (x : EReal) : 0 ≤ Ideal.exp2 x := by
  induction x with
  | bot => simp
  | top => simp
  | coe r => rw [Ideal.exp2_coe]; exact_mod_cast (Real.rpow_nonneg (by norm_num) r)

/-- A real that is not negative distributes over a sum of extended reals. -/
theorem coe_mul_sum {ι : Type*} (r : ℝ) (hr : 0 ≤ r) (J : Finset ι) (f : ι → EReal) :
    (r : EReal) * ∑ j ∈ J, f j = ∑ j ∈ J, (r : EReal) * f j := by
  classical
  induction J using Finset.induction_on with
  | empty => simp
  | insert a J ha ih =>
    rw [Finset.sum_insert ha, Finset.sum_insert ha,
      EReal.left_distrib_of_nonneg_of_ne_top (by exact_mod_cast hr) (EReal.coe_ne_top r), ih]

/-- An infinite maximum takes every weight to zero. -/
theorem exp2_sub_top (x : EReal) : Ideal.exp2 (x - ⊤) = 0 := by
  rw [sub_eq_add_neg, EReal.neg_top, EReal.add_bot, Ideal.exp2_bot]

theorem exp_sub_top (x : EReal) : Ideal.exp (x - ⊤) = 0 := by
  rw [sub_eq_add_neg, EReal.neg_top, EReal.add_bot, Ideal.exp_bot]

theorem exp2_bot_sub (x : EReal) : Ideal.exp2 (⊥ - x) = 0 := by
  rw [sub_eq_add_neg, EReal.bot_add, Ideal.exp2_bot]

theorem exp_bot_sub (x : EReal) : Ideal.exp (⊥ - x) = 0 := by
  rw [sub_eq_add_neg, EReal.bot_add, Ideal.exp_bot]

/-- Weights at one maximum, taken to a later one. -/
theorem exp2_shift (x m m' : EReal) (hm : m ≠ ⊥) (hx : x ≤ m) (hle : m ≤ m') :
    Ideal.exp2 (m - m') * Ideal.exp2 (x - m) = Ideal.exp2 (x - m') := by
  induction m' with
  | top => rw [exp2_sub_top, exp2_sub_top, zero_mul]
  | bot => exact absurd (le_bot_iff.mp hle) hm
  | coe M' =>
    induction m with
    | bot => exact absurd rfl hm
    | top => exact absurd hle (by simp)
    | coe M =>
      induction x with
      | top => exact absurd hx (by simp)
      | bot => rw [exp2_bot_sub, exp2_bot_sub, mul_zero]
      | coe r =>
        rw [← EReal.coe_sub, ← EReal.coe_sub, ← EReal.coe_sub, Ideal.exp2_coe, Ideal.exp2_coe, Ideal.exp2_coe, ← EReal.coe_mul]
        congr 1
        show (2 : ℝ) ^ (M - M') * (2 : ℝ) ^ (r - M) = (2 : ℝ) ^ (r - M')
        rw [← Real.rpow_add (by norm_num)]
        congr 1; ring

/-- The decay of an old sum is a real that is not negative. -/
theorem exp2_decay (m m' : EReal) (hm : m ≠ ⊥) (hle : m ≤ m') : ∃ r : ℝ, 0 ≤ r ∧ Ideal.exp2 (m - m') = (r : EReal) := by
  induction m' with
  | top => exact ⟨0, le_rfl, by rw [exp2_sub_top]; rfl⟩
  | bot => exact absurd (le_bot_iff.mp hle) hm
  | coe M' =>
    induction m with
    | bot => exact absurd rfl hm
    | top => exact absurd hle (by simp)
    | coe M => exact ⟨(2 : ℝ) ^ (M - M'), Real.rpow_nonneg (by norm_num) _, by rw [← EReal.coe_sub, Ideal.exp2_coe]; rfl⟩

/-- A weighted sum at one maximum, taken to a later one. -/
theorem sum_shift {ι : Type*} (J : Finset ι) (s v : ι → EReal) (m m' : EReal) (hm : m ≠ ⊥) (hs : ∀ j ∈ J, s j ≤ m) (hle : m ≤ m') :
    Ideal.exp2 (m - m') * ∑ j ∈ J, v j * Ideal.exp2 (s j - m) = ∑ j ∈ J, v j * Ideal.exp2 (s j - m') := by
  obtain ⟨r, hr, e⟩ := exp2_decay m m' hm hle
  rw [e, coe_mul_sum r hr, ← e]
  refine Finset.sum_congr rfl fun j hj => ?_
  rw [mul_left_comm, exp2_shift (s j) m m' hm (hs j hj) hle]

/-- The running maximum after the keys below `n`, from a real start. -/
def runMax (b : ℝ) (s : ℕ → EReal) (n : ℕ) : EReal := max (b : EReal) ((Finset.range n).sup s)

/-- The running weighted sum after the keys below `n`. -/
def runSum (b : ℝ) (s v : ℕ → EReal) (n : ℕ) : EReal := ∑ j ∈ Finset.range n, v j * Ideal.exp2 (s j - runMax b s n)

theorem runMax_ne_bot (b : ℝ) (s : ℕ → EReal) (n : ℕ) : runMax b s n ≠ ⊥ := by
  unfold runMax
  intro h
  exact absurd (le_bot_iff.mp (h ▸ le_max_left (b : EReal) _)) (EReal.coe_ne_bot b)

/-- The maximum after a chunk more. -/
theorem runMax_add (b : ℝ) (s : ℕ → EReal) (n k : ℕ) :
    runMax b s (n + k) = max (runMax b s n) ((Finset.univ : Finset (Fin k)).sup fun i => s (n + i.val)) := by
  unfold runMax
  rw [max_assoc]
  congr 1
  apply le_antisymm
  · refine Finset.sup_le fun j hj => ?_
    by_cases h : j < n
    · exact le_max_of_le_left (Finset.le_sup (f := s) (Finset.mem_range.mpr h))
    · have hj' := Finset.mem_range.mp hj
      refine le_max_of_le_right ?_
      have := Finset.le_sup (f := fun i : Fin k => s (n + i.val)) (Finset.mem_univ (⟨j - n, by omega⟩ : Fin k))
      simpa [show n + (j - n) = j by omega] using this
  · refine max_le (Finset.sup_le fun j hj => Finset.le_sup (f := s) ?_) (Finset.sup_le fun i _ => Finset.le_sup (f := s) ?_)
    · have := Finset.mem_range.mp hj; exact Finset.mem_range.mpr (by omega)
    · exact Finset.mem_range.mpr (by omega)

theorem le_runMax (b : ℝ) (s : ℕ → EReal) (n : ℕ) : ∀ j ∈ Finset.range n, s j ≤ runMax b s n :=
  fun _ hj => le_max_of_le_right (Finset.le_sup (f := s) hj)

/-- The weighted sum after a chunk more: the old one decayed, and the chunk's. -/
theorem runSum_add (b : ℝ) (s v : ℕ → EReal) (n k : ℕ) :
    runSum b s v (n + k) = Ideal.exp2 (runMax b s n - runMax b s (n + k)) * runSum b s v n
      + ∑ i : Fin k, v (n + i.val) * Ideal.exp2 (s (n + i.val) - runMax b s (n + k)) := by
  have hle : runMax b s n ≤ runMax b s (n + k) := by rw [runMax_add]; exact le_max_left _ _
  unfold runSum
  rw [sum_shift _ _ _ _ _ (runMax_ne_bot b s n) (le_runMax b s n) hle, Finset.sum_range_add, Finset.sum_range (n := k)]

/-- Keys at −∞ add nothing. -/
theorem runMax_mono_bot (b : ℝ) (s : ℕ → EReal) (n N : ℕ) (h : n ≤ N) (hs : ∀ j, n ≤ j → s j = ⊥) : runMax b s n = runMax b s N := by
  obtain ⟨k, rfl⟩ := Nat.exists_eq_add_of_le h
  rw [runMax_add]
  refine (max_eq_left (Finset.sup_le fun i _ => ?_)).symm
  rw [hs _ (by omega)]; exact bot_le

theorem runSum_mono_bot (b : ℝ) (s v : ℕ → EReal) (n N : ℕ) (h : n ≤ N) (hs : ∀ j, n ≤ j → s j = ⊥) : runSum b s v n = runSum b s v N := by
  unfold runSum
  rw [← runMax_mono_bot b s n N h hs]
  refine Finset.sum_subset (Finset.range_mono h) fun j _ hj => ?_
  rw [hs j (by simpa using hj), exp2_bot_sub, mul_zero]

/-- An exponential at base e of a score scaled by the logarithm of two is a power of two. -/
theorem exp_log_two (r S : ℝ) : Real.exp (r * Real.log 2 - S * Real.log 2) = (2 : ℝ) ^ (r - S) := by
  rw [Real.rpow_def_of_pos (by norm_num)]; congr 1; ring

/-- The quotient of the running sums is the attention: the textbook softmax's weights, with the sum clamped from below, applied
    to the values. -/
theorem attention (b : ℝ) (s v : ℕ → EReal) (N : ℕ) (eps : ℝ) (he : 0 < eps) (he1 : eps ≤ 1) :
    runSum b s v N * Ideal.div 1 (runSum b s (fun _ => 1) N)
      = ∑ j ∈ Finset.range N, v j * Ideal.div (Ideal.exp (s j * (Real.log 2 : ℝ) - (Finset.range N).sup fun i => s i * (Real.log 2 : ℝ)))
          (max (∑ i ∈ Finset.range N, Ideal.exp (s i * (Real.log 2 : ℝ) - (Finset.range N).sup fun i => s i * (Real.log 2 : ℝ))) (eps : EReal)) := by
  have hl : 0 < Real.log 2 := Real.log_pos (by norm_num)
  have hb : (⊥ : EReal) * (Real.log 2 : ℝ) = ⊥ := EReal.bot_mul_coe_of_pos hl
  have ht : (⊤ : EReal) * (Real.log 2 : ℝ) = ⊤ := EReal.top_mul_coe_of_pos hl
  -- the case of no weight at all
  have zero : (∀ j ∈ Finset.range N, Ideal.exp2 (s j - runMax b s N) = 0) →
      (∀ j ∈ Finset.range N, Ideal.exp (s j * (Real.log 2 : ℝ) - (Finset.range N).sup fun i => s i * (Real.log 2 : ℝ)) = 0) →
      runSum b s v N * Ideal.div 1 (runSum b s (fun _ => 1) N)
      = ∑ j ∈ Finset.range N, v j * Ideal.div (Ideal.exp (s j * (Real.log 2 : ℝ) - (Finset.range N).sup fun i => s i * (Real.log 2 : ℝ)))
          (max (∑ i ∈ Finset.range N, Ideal.exp (s i * (Real.log 2 : ℝ) - (Finset.range N).sup fun i => s i * (Real.log 2 : ℝ))) (eps : EReal)) := by
    intro h1 h2
    have e1 : runSum b s v N = 0 := Finset.sum_eq_zero fun j hj => by rw [h1 j hj, mul_zero]
    rw [e1, zero_mul, Finset.sum_eq_zero h2, max_eq_right (by exact_mod_cast he.le)]
    refine (Finset.sum_eq_zero fun j hj => ?_).symm
    rw [h2 j hj, Ideal.div_coe he.ne', zero_mul, mul_zero]
  rcases Finset.eq_empty_or_nonempty (Finset.range N) with hE | hne
  · exact zero (by rw [hE]; simp) (by rw [hE]; simp)
  obtain ⟨j0, hj0, hmax⟩ := Finset.exists_mem_eq_sup (Finset.range N) hne s
  have hle : ∀ j ∈ Finset.range N, s j ≤ s j0 := fun j hj => hmax ▸ Finset.le_sup (f := s) hj
  have hT : ((Finset.range N).sup fun i => s i * (Real.log 2 : ℝ)) = s j0 * (Real.log 2 : ℝ) :=
    le_antisymm (Finset.sup_le fun j hj => mul_le_mul_of_nonneg_right (hle j hj) (by exact_mod_cast hl.le))
      (Finset.le_sup (f := fun i => s i * ((Real.log 2 : ℝ) : EReal)) hj0)
  rw [hT] at zero ⊢
  generalize hS : s j0 = S at *
  have hM : runMax b s N = max (b : EReal) S := by unfold runMax; rw [hmax]
  induction S with
  | top =>
    refine zero (fun j _ => ?_) (fun j _ => ?_)
    · rw [hM, max_eq_right le_top, exp2_sub_top]
    · rw [ht, exp_sub_top]
  | bot =>
    refine zero (fun j hj => ?_) (fun j hj => ?_)
    · rw [le_bot_iff.mp (hle j hj), exp2_bot_sub]
    · rw [le_bot_iff.mp (hle j hj), hb, exp_bot_sub]
  | coe S =>
    -- every weight is a real
    have hM' : runMax b s N = ((max b S : ℝ) : EReal) := hM.trans (by norm_cast)
    let w : ℕ → ℝ := fun j => if s j = ⊥ then 0 else (2 : ℝ) ^ ((s j).toReal - S)
    have hw0 : ∀ j, 0 ≤ w j := fun j => by
      show 0 ≤ ite _ _ _
      split
      · exact le_rfl
      · exact Real.rpow_nonneg (by norm_num) _
    have hpos : 0 < (2 : ℝ) ^ (S - max b S) := Real.rpow_pos_of_pos (by norm_num) _
    have hw : ∀ j ∈ Finset.range N, Ideal.exp (s j * (Real.log 2 : ℝ) - (S : EReal) * (Real.log 2 : ℝ)) = (w j : EReal)
        ∧ Ideal.exp2 (s j - runMax b s N) = (((2 : ℝ) ^ (S - max b S) * w j : ℝ) : EReal) := by
      intro j hj
      have hj' := hle j hj
      show _ = ((ite _ _ _ : ℝ) : EReal) ∧ _ = ((_ * ite _ _ _ : ℝ) : EReal)
      generalize s j = x at hj' ⊢
      induction x with
      | top => exact absurd hj' (by simp)
      | bot => rw [hb, exp_bot_sub, exp2_bot_sub, if_pos rfl, mul_zero]; exact ⟨rfl, rfl⟩
      | coe r =>
        rw [if_neg (EReal.coe_ne_bot r), EReal.toReal_coe, hM', ← EReal.coe_mul, ← EReal.coe_mul, ← EReal.coe_sub, ← EReal.coe_sub,
          Ideal.exp_coe, Ideal.exp2_coe, exp_log_two]
        refine ⟨rfl, ?_⟩
        congr 1
        show (2 : ℝ) ^ (r - max b S) = (2 : ℝ) ^ (S - max b S) * (2 : ℝ) ^ (r - S)
        rw [← Real.rpow_add (by norm_num)]
        congr 1; ring
    have hw1 : w j0 = 1 := by
      show ite _ _ _ = _
      rw [hS, if_neg (EReal.coe_ne_bot S), EReal.toReal_coe, sub_self, Real.rpow_zero]
    have hL : 1 ≤ ∑ i ∈ Finset.range N, w i := hw1 ▸ Finset.single_le_sum (f := w) (fun i _ => hw0 i) hj0
    have hL0 : (∑ i ∈ Finset.range N, w i) ≠ 0 := (lt_of_lt_of_le one_pos hL).ne'
    have eD : ∑ i ∈ Finset.range N, Ideal.exp (s i * (Real.log 2 : ℝ) - (S : EReal) * (Real.log 2 : ℝ)) = ((∑ i ∈ Finset.range N, w i : ℝ) : EReal) := by
      rw [Finset.sum_congr rfl fun i hi => (hw i hi).1]
      exact (map_sum (⟨⟨Real.toEReal, EReal.coe_zero⟩, EReal.coe_add⟩ : ℝ →+ EReal) w (Finset.range N)).symm
    have eK : runSum b s (fun _ => 1) N = (((2 : ℝ) ^ (S - max b S) * ∑ i ∈ Finset.range N, w i : ℝ) : EReal) := by
      unfold runSum
      rw [Finset.sum_congr rfl fun i hi => (one_mul _).trans (hw i hi).2, Finset.mul_sum]
      exact (map_sum (⟨⟨Real.toEReal, EReal.coe_zero⟩, EReal.coe_add⟩ : ℝ →+ EReal) _ (Finset.range N)).symm
    rw [eD, eK, max_eq_left (show (eps : EReal) ≤ ((∑ i ∈ Finset.range N, w i : ℝ) : EReal) from by exact_mod_cast he1.trans hL), Ideal.div_coe (mul_ne_zero hpos.ne' hL0), one_mul, mul_comm (runSum b s v N)]
    unfold runSum
    rw [coe_mul_sum _ (by positivity)]
    refine Finset.sum_congr rfl fun j hj => ?_
    rw [(hw j hj).1, (hw j hj).2, Ideal.div_coe hL0, mul_left_comm, ← EReal.coe_mul, ← EReal.coe_mul]
    congr 2
    field_simp

end Cert.Mla.Math

end
-- ==== Proof.Mla.Consts.lean ====
/- The float constants of the two programs, as the extended reals they denote. -/
module

public import Idealize.ShloMosaic.PureOps.Ideal.Laws
public import Idealize.ShloMosaic.Lib.IdealHost

@[expose] public section

noncomputable section

namespace Cert.Mla.Consts

open Idealize.ShloMosaic

/-- The pattern of −∞. -/
theorem bits_bot : Ideal.ofBits .f32 0xFF800000#32 = ⊥ := by
  simp [Ideal.ofBits, Ideal.ieee]

/-- `2.0`. -/
theorem bits_two : Ideal.ofBits .f32 0x40000000#32 = ((2 : ℝ) : EReal) := by
  simp [Ideal.ofBits, Ideal.ieee, -EReal.coe_mul]; norm_num

/-- What the running maximum starts from is a real. -/
theorem bits_start : ∃ b : ℝ, Ideal.ofBits .f32 0xF0C9F2CA#32 = (b : EReal) := by
  refine ⟨-((13234890 : ℝ) * 2 ^ 75), ?_⟩
  simp [Ideal.ofBits, Ideal.ieee, -EReal.coe_mul]

/-- What the sum of weights is clamped to from below is a positive real, and no more than one. -/
theorem bits_eps : ∃ e : ℝ, 0 < e ∧ e ≤ 1 ∧ Ideal.ofBits .f32 0x0DA24260#32 = (e : EReal) := by
  refine ⟨(10633824 : ℝ) * 2 ^ (-123 : ℤ), by positivity, ?_, ?_⟩
  · norm_num
  · simp [Ideal.ofBits, Ideal.ieee, -EReal.coe_mul]

end Cert.Mla.Consts

end
-- ==== Proof.Mla.Read.lean ====
/- The attention kernel's block over the extended reals, element by element. -/
module

public import proofs.«01_k».proof.Proof.Mla.Block
public import proofs.«01_k».proof.Proof.Mla.Math
public import proofs.«01_k».proof.Proof.Mla.Consts
public import Idealize.ShloMosaic.Lib.WordCmp
public import Idealize.ShloMosaic.PureOps.IdealRules
public import Idealize.ShloMosaic.Lib.ValueIdx
public import Idealize.ShloMosaic.Lib.Pointwise
public import Idealize.ShloMosaic.Lib.IdealHost

@[expose] public section

set_option maxRecDepth 16384

noncomputable section

namespace Cert.KernelIdeal.Mla

open Idealize.ShloMosaic Idealize.ShloMosaic.TcCoe Cert.KernelIdeal.Gen

/-- A score: the product of a key and a query. -/
theorem scoresOf_at (K : Vec Ideal S1x1x512x128 .bf16) (Q : Vec Ideal S1x1x128x512 .bf16) (k q : Fin 512) :
    scoresOf K Q (ix2 k q) = ∑ d : Fin 128, (K (ix4 0 0 k d) * Q (ix4 0 0 d q) : EReal) := by
  unfold scoresOf
  pointwise

theorem newMax_at (m : Row Ideal) (s : FVec Ideal S512x512 .f32) (q : Fin 512) :
    newMax m s (ix2 0 q) = max (m (ix2 0 q) : EReal) (Finset.univ.sup fun k : Fin 512 => (s (ix2 k q) : EReal)) := by
  unfold newMax
  pointwise
  rw [Cert.Mla.Consts.bits_bot]; rfl

theorem newSum_at (m l : Row Ideal) (s : FVec Ideal S512x512 .f32) (q : Fin 512) :
    newSum m l s (ix2 0 q) = (Ideal.exp2 (m (ix2 0 q) - newMax m s (ix2 0 q)) * l (ix2 0 q)
      + ∑ k : Fin 512, Ideal.exp2 (s (ix2 k q) - newMax m s (ix2 0 q)) : EReal) := by
  unfold newSum weightsOf decayOf
  pointwise
  rfl

theorem newAcc_at (m : Row Ideal) (a : Ac Ideal) (s : FVec Ideal S512x512 .f32) (v : Vec Ideal S1x1x1x64x512 .bf16) (d : Fin 64) (q : Fin 512) :
    newAcc m a s v (ix3 0 d q) = (Ideal.exp2 (m (ix2 0 q) - newMax m s (ix2 0 q)) * a (ix3 0 d q)
      + ∑ k : Fin 512, v (ix5 0 0 0 d k) * Ideal.exp2 (s (ix2 k q) - newMax m s (ix2 0 q)) : EReal) := by
  unfold newAcc weightsOf decayOf
  pointwise
  rfl

theorem unpack_at (s : Sc Ideal) (k q : Fin 512) : unpack s (ix2 k q) = s (ix3 0 k q) := by
  unfold unpack
  pointwise

theorem pack_at (s : FVec Ideal S512x512 .f32) (k q : Fin 512) : pack s (ix3 0 k q) = s (ix2 k q) := by
  unfold pack
  pointwise

theorem masked_at (s : FVec Ideal S512x512 .f32) (k q : Fin 512) :
    masked s (ix2 k q) = if k.val ≤ q.val then (s (ix2 k q) : EReal) else ⊥ := by
  unfold masked k0_pay314
  pointwise
  have hk : k.val < 2 ^ 31 := lt_trans k.isLt (by norm_num)
  have hq : q.val < 2 ^ 31 := lt_trans q.isLt (by norm_num)
  rw [WordCmp.cmpi_sle_ofNat hk hq, WordCmp.select_decide]
  rfl

theorem normed_at (a : Ac Ideal) (l : Row Ideal) (d : Fin 64) (q : Fin 512) :
    normed a l (ix2 d q) = (a (ix3 0 d q) * Ideal.div 1 (l (ix2 0 q)) : EReal) := by
  unfold normed
  pointwise

theorem merge_at0 (a b : FVec Ideal S64x512 .f32) (q : Fin 512) (d : Fin 64) :
    merge a b (ix2 q ⟨d.val, by omega⟩) = a (ix2 d q) := by
  unfold merge
  pointwise

theorem merge_at1 (a b : FVec Ideal S64x512 .f32) (q : Fin 512) (d : Fin 64) :
    merge a b (ix2 q ⟨64 + d.val, by omega⟩) = b (ix2 d q) := by
  unfold merge
  pointwise

end Cert.KernelIdeal.Mla

end
-- ==== Proof.Mla.BlockRead.lean ====
/- What the attention kernel's block holds over the extended reals: at every query, head and depth the quotient of the running sums
   over the causal keys. -/
module

public import proofs.«01_k».proof.Proof.Mla.Read

@[expose] public section

set_option maxRecDepth 16384

noncomputable section

namespace Cert.KernelIdeal.Mla

open Idealize.ShloMosaic Idealize.ShloMosaic.TcCoe Cert.KernelIdeal.Gen Cert.Mla.Math

/-- The score of key `j` against query `q` of the block, head `h`. -/
def rawAt (x3 : QBlk Ideal) (x4 : KBlk Ideal) (h : Fin 8) (q : Fin 512) (j : ℕ) : EReal :=
  ∑ d : Fin 128, (x4 (ix4 0 h ⟨j % 4096, Nat.mod_lt _ (by decide)⟩ d) * x3 (ix4 0 h d q) : EReal)

/-- The causal score: −∞ at a key after the query, which is query `q` of block `n`. -/
def causalAt (x3 : QBlk Ideal) (x4 : KBlk Ideal) (n : ℕ) (h : Fin 8) (q : Fin 512) (j : ℕ) : EReal :=
  if j ≤ 512 * n + q.val then rawAt x3 x4 h q j else ⊥

/-- The value of key `j`, head `h`, depth `d`. -/
def valAt (x5 : VBlk Ideal) (h : Fin 8) (d : Fin 64) (j : ℕ) : EReal :=
  x5 (ix5 0 h ⟨j / 512 % 8, Nat.mod_lt _ (by decide)⟩ d ⟨j % 512, Nat.mod_lt _ (by decide)⟩)

/-- The three running values of a head are those of the keys before chunk `n`. -/
def Holds (b : ℝ) (s : Fin 512 → ℕ → EReal) (v : Fin 64 → ℕ → EReal) (n : ℕ) (m l : Row Ideal) (a : Ac Ideal) : Prop :=
  ∀ q : Fin 512, m (ix2 0 q) = runMax b (s q) (512 * n) ∧ l (ix2 0 q) = runSum b (s q) (fun _ => 1) (512 * n)
    ∧ ∀ d : Fin 64, a (ix3 0 d q) = runSum b (s q) (v d) (512 * n)

/-- Before any chunk. -/
theorem holds_zero {b : ℝ} (hb : Ideal.ofBits .f32 0xF0C9F2CA#32 = (b : EReal)) (s : Fin 512 → ℕ → EReal) (v : Fin 64 → ℕ → EReal) :
    Holds b s v 0 k0_pay315 k0_pay316 zeroAc := by
  intro q
  refine ⟨?_, ?_, fun d => ?_⟩
  · show Ideal.ofBits .f32 0xF0C9F2CA#32 = _
    rw [hb]; simp [runMax]
  · show Ideal.ofBits .f32 0x00000000#32 = _
    rw [Ideal.ofBits_zero_f32]; simp [runSum]
  · show Ideal.ofBits .f32 0x00000000#32 = _
    rw [Ideal.ofBits_zero_f32]; simp [runSum]

/-- A chunk more. -/
theorem holds_succ {b : ℝ} {s : Fin 512 → ℕ → EReal} {v : Fin 64 → ℕ → EReal} {n : ℕ} {m l : Row Ideal} {a : Ac Ideal} (H : Holds b s v n m l a)
    (t : FVec Ideal S512x512 .f32) (V : Vec Ideal S1x1x1x64x512 .bf16)
    (ht : ∀ (k q : Fin 512), t (ix2 k q) = s q (512 * n + k.val)) (hV : ∀ (d : Fin 64) (k : Fin 512), V (ix5 0 0 0 d k) = v d (512 * n + k.val)) :
    Holds b s v (n + 1) (newMax m t) (newSum m l t) (newAcc m a t V) := by
  intro q
  obtain ⟨hm, hl, ha⟩ := H q
  have e : 512 * (n + 1) = 512 * n + 512 := by ring
  have hM : newMax m t (ix2 0 q) = runMax b (s q) (512 * n + 512) := by
    rw [newMax_at, hm, runMax_add]
    simp only [ht]
  rw [e]
  refine ⟨hM, ?_, fun d => ?_⟩
  · rw [newSum_at, hM, hm, hl, runSum_add]
    simp only [ht, one_mul]
  · rw [newAcc_at, hM, hm, ha d, runSum_add]
    simp only [ht, hV]

theorem scoresAt_read (x3 : QBlk Ideal) (x4 : KBlk Ideal) (h : Fin 8) (n : ℕ) (k q : Fin 512) :
    unpack (scoresAt x3 x4 h n) (ix2 k q) = rawAt x3 x4 h q (512 * n + k.val) := by
  unfold scoresAt
  rw [unpack_at, pack_at, scoresOf_at]
  have hk := k.isLt
  refine Finset.sum_congr rfl fun d _ => congrArg₂ _ (congrArg x4 ?_) (congrArg x3 ?_)
  · refine funext fun a => Fin.ext ?_
    match a with
    | ⟨0, _⟩ => rfl
    | ⟨1, _⟩ => rfl
    | ⟨2, _⟩ => show 512 * (n % 8) + k.val = (512 * n + k.val) % 4096; omega
    | ⟨3, _⟩ => rfl
  · refine funext fun a => Fin.ext ?_
    match a with
    | ⟨0, _⟩ => rfl
    | ⟨1, _⟩ => rfl
    | ⟨2, _⟩ => rfl
    | ⟨3, _⟩ => rfl

theorem vAt_read (x5 : VBlk Ideal) (h : Fin 8) (n : ℕ) (d : Fin 64) (k : Fin 512) :
    vAt x5 h n (ix5 0 0 0 d k) = valAt x5 h d (512 * n + k.val) := by
  have hk := k.isLt
  refine congrArg x5 (funext fun a => Fin.ext ?_)
  match a with
  | ⟨0, _⟩ => rfl
  | ⟨1, _⟩ => rfl
  | ⟨2, _⟩ => show n % 8 = (512 * n + k.val) / 512 % 8; omega
  | ⟨3, _⟩ => rfl
  | ⟨4, _⟩ => show k.val = (512 * n + k.val) % 512; omega

/-- A chunk before the diagonal is causal throughout. -/
theorem causal_before (x3 : QBlk Ideal) (x4 : KBlk Ideal) (h : Fin 8) {n i : ℕ} (hi : i < n) (k q : Fin 512) :
    unpack (scoresAt x3 x4 h i) (ix2 k q) = causalAt x3 x4 n h q (512 * i + k.val) := by
  have hk := k.isLt
  rw [scoresAt_read]; unfold causalAt; rw [if_pos (by omega)]

/-- The diagonal chunk, masked, is causal. -/
theorem causal_diag (x3 : QBlk Ideal) (x4 : KBlk Ideal) (h : Fin 8) (n : ℕ) (k q : Fin 512) :
    masked (unpack (scoresAt x3 x4 h n)) (ix2 k q) = causalAt x3 x4 n h q (512 * n + k.val) := by
  rw [masked_at, scoresAt_read]; unfold causalAt
  simp only [Nat.add_le_add_iff_left]

/-- The pipeline's state after `i` chunks. -/
theorem chunks_holds {b : ℝ} (hb : Ideal.ofBits .f32 0xF0C9F2CA#32 = (b : EReal)) (x3 : QBlk Ideal) (x4 : KBlk Ideal) (x5 : VBlk Ideal)
    (pr : Fin 4) (n : ℕ) : ∀ i, i ≤ n → ∀ t, t = chunks x3 x4 x5 pr 0 i (entry x3 x4 pr) →
      Holds b (causalAt x3 x4 n (head0 pr)) (valAt x5 (head0 pr)) i t.1.1 t.1.2.1 t.2.1
      ∧ Holds b (causalAt x3 x4 n (head1 pr)) (valAt x5 (head1 pr)) i t.1.2.2.1 t.1.2.2.2 t.2.2.1
      ∧ t.2.2.2 = scoresAt x3 x4 (head0 pr) i := by
  intro i
  induction i with
  | zero =>
    rintro - t rfl
    exact ⟨holds_zero hb _ _, holds_zero hb _ _, rfl⟩
  | succ i ih =>
    rintro hi t rfl
    obtain ⟨h0, h1, h2⟩ := ih (by omega) _ rfl
    rw [chunks_succ, Nat.zero_add]
    generalize chunks x3 x4 x5 pr 0 i (entry x3 x4 pr) = t at h0 h1 h2 ⊢
    refine ⟨holds_succ h0 _ _ (fun k q => ?_) (fun d k => vAt_read ..), holds_succ h1 _ _ (fun k q => ?_) (fun d k => vAt_read ..), rfl⟩
    · rw [h2]; exact causal_before x3 x4 _ (by omega) k q
    · exact causal_before x3 x4 _ (by omega) k q

/-- The attention of query `q` of block `n`, head `h`, depth `d`, as the kernel leaves it. -/
def leftAt (b : ℝ) (x3 : QBlk Ideal) (x4 : KBlk Ideal) (x5 : VBlk Ideal) (n : ℕ) (h : Fin 8) (q : Fin 512) (d : Fin 64) : EReal :=
  runSum b (causalAt x3 x4 n h q) (valAt x5 h d) (512 * (n + 1)) * Ideal.div 1 (runSum b (causalAt x3 x4 n h q) (fun _ => 1) (512 * (n + 1)))

/-- The block, read at a query, a head and a depth. -/
theorem outBlock_at {b : ℝ} (hb : Ideal.ofBits .f32 0xF0C9F2CA#32 = (b : EReal)) (x3 : QBlk Ideal) (x4 : KBlk Ideal) (x5 : VBlk Ideal) (n : ℕ)
    (h : Fin 8) (q : Fin 512) (d : Fin 64) :
    outBlock x3 x4 x5 n (ix2 q ⟨64 * h.val + d.val, by omega⟩) = leftAt b x3 x4 x5 n h q d := by
  have hh := h.isLt
  have hd := d.isLt
  obtain ⟨pr, e⟩ : ∃ pr : Fin 4, pr.val = h.val / 2 := ⟨⟨h.val / 2, by omega⟩, rfl⟩
  obtain ⟨h0, h1, h2⟩ := chunks_holds hb x3 x4 x5 pr n n le_rfl _ rfl
  have key : outBlock x3 x4 x5 n (ix2 q ⟨64 * h.val + d.val, by omega⟩)
      = pairOut x3 x4 x5 n pr (ix2 q ⟨(64 * h.val + d.val) % 128, Nat.mod_lt _ (by decide)⟩) := by
    unfold outBlock
    refine congrArg₂ (pairOut x3 x4 x5 n) (Fin.ext ?_) (funext fun a => Fin.ext ?_)
    · show (64 * h.val + d.val) / 128 = pr.val; omega
    · match a with
      | ⟨0, _⟩ => rfl
      | ⟨1, _⟩ => rfl
  rw [key]
  unfold pairOut pairEnd leftAt
  generalize chunks x3 x4 x5 pr 0 n (entry x3 x4 pr) = t at h0 h1 h2 ⊢
  by_cases hodd : h.val % 2 = 0
  · have eh : h = head0 pr := Fin.ext (by show h.val = 2 * pr.val; omega)
    have ec : (⟨(64 * h.val + d.val) % 128, Nat.mod_lt _ (by decide)⟩ : Fin 128) = ⟨d.val, by omega⟩ := Fin.ext (by show (64 * h.val + d.val) % 128 = d.val; omega)
    rw [ec, merge_at0, normed_at, eh, h2]
    obtain ⟨-, hl, ha⟩ := holds_succ h0 (masked (unpack (scoresAt x3 x4 (head0 pr) n))) (vAt x5 (head0 pr) n) (fun k q => causal_diag ..) (fun d k => vAt_read ..) q
    rw [hl, ha d]
  · have eh : h = head1 pr := Fin.ext (by show h.val = 2 * pr.val + 1; omega)
    have ec : (⟨(64 * h.val + d.val) % 128, Nat.mod_lt _ (by decide)⟩ : Fin 128) = ⟨64 + d.val, by omega⟩ :=
      Fin.ext (by show (64 * h.val + d.val) % 128 = 64 + d.val; omega)
    rw [ec, merge_at1, normed_at, eh]
    obtain ⟨-, hl, ha⟩ := holds_succ h1 (masked (unpack (scoresAt x3 x4 (head1 pr) n))) (vAt x5 (head1 pr) n) (fun k q => causal_diag ..) (fun d k => vAt_read ..) q
    rw [hl, ha d]

end Cert.KernelIdeal.Mla

end
-- ==== Proof.Mla.RefRead.lean ====
/- The reference's result over the extended reals: at every query, head and depth the causal softmax of the scores against the values. -/
module

public import proofs.«01_k».proof.Proof.Gen.ReferenceIdeal.Run
public import proofs.«01_k».proof.Proof.Mla.Consts
public import proofs.«01_k».proof.Proof.Mla.Math
public import Idealize.ShloMosaic.Lib.Pointwise
public import Idealize.ShloMosaic.Lib.Tactic.CleanTypes
public import Idealize.ShloMosaic.Lib.WordCmp

@[expose] public section

set_option maxRecDepth 16384

noncomputable section

namespace Cert.ReferenceIdeal.Mla

open Cert.ReferenceIdeal Cert.ReferenceIdeal.Gen Cert.ReferenceIdeal.Value Cert.Mla.Math Cert.Mla.Consts
open Idealize.ShloMosaic Idealize.ShloMosaic.TcCoe Idealize.SL.Sem

/-- The causal score, in bits: key `k` against query `q`, head `h`, batch `B`; −∞ at a key after the query. -/
def score (x0 : S8x8x128x4096.Idx → EReal) (x1 : S8x8x4096x128.Idx → EReal) (B h : Fin 8) (q : Fin 4096) (k : ℕ) : EReal :=
  if k ≤ q.val then ∑ d : Fin 128, x1 (ix4 B h ⟨k % 4096, Nat.mod_lt _ (by decide)⟩ d) * x0 (ix4 B h d q) else ⊥

/-- The value of key `k` at depth `d`. -/
def value (x2 : S8x8x8x64x512.Idx → EReal) (B h : Fin 8) (d : Fin 64) (k : ℕ) : EReal :=
  x2 (ix5 B h ⟨k / 512 % 8, Nat.mod_lt _ (by decide)⟩ d ⟨k % 512, Nat.mod_lt _ (by decide)⟩)

/-- The softmax of scores in bits, its sum clamped from below, against the values. -/
def softmax (s v : ℕ → EReal) (N : ℕ) (eps : EReal) : EReal :=
  ∑ j ∈ Finset.range N, v j * Ideal.div (Ideal.exp (s j * (Real.log 2 : ℝ) - (Finset.range N).sup fun i => s i * (Real.log 2 : ℝ)))
    (max (∑ i ∈ Finset.range N, Ideal.exp (s i * (Real.log 2 : ℝ) - (Finset.range N).sup fun i => s i * (Real.log 2 : ℝ))) eps)

/-- A maximum over the first `n` numbers, taken from −∞. -/
theorem fold_max_range (f : ℕ → EReal) (n : ℕ) : Finset.fold max ⊥ (fun x : Fin n => f x.val) Finset.univ = (Finset.range n).sup f := by
  show Finset.univ.sup (fun x : Fin n => f x.val) = _
  refine le_antisymm (Finset.sup_le fun x _ => Finset.le_sup (f := f) (Finset.mem_range.2 x.isLt)) (Finset.sup_le fun k hk => ?_)
  exact Finset.le_sup (f := fun x : Fin n => f x.val) (Finset.mem_univ ⟨k, Finset.mem_range.1 hk⟩)

/-- The reference's mask: key `k` against query `q`. -/
theorem mask_eq {α : Type} (k q : ℕ) (hk : k < 4096) (hq : q < 4096) (a b : α) :
    Scalar.select (IntOp.cmpi CmpIPredicate.sle (BitVec.ofNat 32 k) (BitVec.ofNat 32 q)) a b = if k ≤ q then a else b := by
  rw [WordCmp.cmpi_sle_ofNat (by omega) (by omega), WordCmp.select_decide]

/-- The logarithm of the literal two. -/
theorem log_two : Ideal.log (Ideal.ofBits .f32 0x40000000#32) = ((Real.log 2 : ℝ) : EReal) := by
  rw [bits_two, Ideal.log_coe, if_neg (by norm_num)]

/-- The reference's masked score. -/
theorem masked_eq (x0 : S8x8x128x4096.Idx → EReal) (x1 : S8x8x4096x128.Idx → EReal) (B h : Fin 8) (q k : Fin 4096) :
    Scalar.select (IntOp.cmpi CmpIPredicate.sle (BitVec.ofNat 32 k.val) (BitVec.ofNat 32 q.val))
      ((∑ d : Fin 128, x0 (ix4 B h d q) * x1 (ix4 B h k d)) * Ideal.log (Ideal.ofBits .f32 0x40000000#32)) (Ideal.ofBits .f32 0xFF800000#32)
    = score x0 x1 B h q k.val * (Real.log 2 : ℝ) := by
  rw [mask_eq _ _ k.isLt q.isLt, log_two, bits_bot]
  unfold score
  have hk : (⟨k.val % 4096, Nat.mod_lt _ (by decide)⟩ : Fin 4096) = k := Fin.ext (Nat.mod_eq_of_lt k.isLt)
  split
  · rw [hk]
    refine congrArg (· * _) (Finset.sum_congr rfl fun d _ => mul_comm _ _)
  · exact (EReal.bot_mul_coe_of_pos (Real.log_pos (by norm_num))).symm

/-- The reference's weight before its division. -/
theorem weight_eq (x0 : S8x8x128x4096.Idx → EReal) (x1 : S8x8x4096x128.Idx → EReal) (B h : Fin 8) (q k : Fin 4096) (M : EReal) :
    Scalar.select (IntOp.cmpi CmpIPredicate.sle (BitVec.ofNat 32 k.val) (BitVec.ofNat 32 q.val))
      (Ideal.exp (score x0 x1 B h q k.val * (Real.log 2 : ℝ) - M)) (Ideal.ofBits .f32 0x00000000#32)
    = Ideal.exp (score x0 x1 B h q k.val * (Real.log 2 : ℝ) - M) := by
  rw [mask_eq _ _ k.isLt q.isLt]
  split
  · rfl
  · rename_i hk
    unfold score
    rw [if_neg hk, EReal.bot_mul_coe_of_pos (Real.log_pos (by norm_num)), exp_bot_sub, Ideal.ofBits_zero_f32]

/-- The reference's masked score, as its operations give it. -/
def refT (x0 : S8x8x128x4096.Idx → EReal) (x1 : S8x8x4096x128.Idx → EReal) (B h : Fin 8) (q k : Fin 4096) : EReal :=
  Scalar.select (IntOp.cmpi CmpIPredicate.sle (BitVec.ofNat 32 k.val) (BitVec.ofNat 32 q.val))
    ((∑ d : Fin 128, x0 (ix4 B h d q) * x1 (ix4 B h k d)) * Ideal.log (Ideal.ofBits .f32 0x40000000#32)) (Ideal.ofBits .f32 0xFF800000#32)

/-- The reference's weight before its division, as its operations give it. -/
def refP (x0 : S8x8x128x4096.Idx → EReal) (x1 : S8x8x4096x128.Idx → EReal) (B h : Fin 8) (q k : Fin 4096) : EReal :=
  Scalar.select (IntOp.cmpi CmpIPredicate.sle (BitVec.ofNat 32 k.val) (BitVec.ofNat 32 q.val))
    (Ideal.exp (refT x0 x1 B h q k - Finset.fold max (Ideal.ofBits .f32 0xFF800000#32) (fun k => refT x0 x1 B h q k) Finset.univ))
    (Ideal.ofBits .f32 0x00000000#32)

/-- The reference's weight is the exponential of the score less the greatest. -/
theorem refP_eq (x0 : S8x8x128x4096.Idx → EReal) (x1 : S8x8x4096x128.Idx → EReal) (B h : Fin 8) (q k : Fin 4096) :
    refP x0 x1 B h q k = Ideal.exp (score x0 x1 B h q k.val * (Real.log 2 : ℝ)
      - (Finset.range 4096).sup fun i => score x0 x1 B h q i * (Real.log 2 : ℝ)) := by
  have hT : (fun k => refT x0 x1 B h q k) = fun k : Fin 4096 => score x0 x1 B h q k.val * (Real.log 2 : ℝ) := funext fun k => masked_eq x0 x1 B h q k
  unfold refP
  rw [hT, bits_bot, fold_max_range (fun i => score x0 x1 B h q i * (Real.log 2 : ℝ)) 4096]
  exact (congrArg (fun t => Scalar.select _ (Ideal.exp (t - _)) _) (congrFun hT k)).trans (weight_eq x0 x1 B h q k _)

/-- The reference's expression at one query, head and depth is the softmax of the scores against the values. -/
theorem expr_eq (x0 : S8x8x128x4096.Idx → EReal) (x1 : S8x8x4096x128.Idx → EReal) (x2 : S8x8x8x64x512.Idx → EReal)
    (B h : Fin 8) (q : Fin 4096) (d : Fin 64) :
    ∑ k : Fin 4096, x2 (ix5 B h ⟨k.val / 512, by have := k.isLt; omega⟩ d ⟨k.val % 512, Nat.mod_lt _ (by decide)⟩)
        * Ideal.div (refP x0 x1 B h q k) (max (∑ i : Fin 4096, refP x0 x1 B h q i) (Ideal.ofBits .f32 0x0DA24260#32))
      = softmax (score x0 x1 B h q) (value x2 B h d) 4096 (Ideal.ofBits .f32 0x0DA24260#32) := by
  have hS : ∑ i : Fin 4096, refP x0 x1 B h q i = ∑ i ∈ Finset.range 4096, Ideal.exp (score x0 x1 B h q i * (Real.log 2 : ℝ)
      - (Finset.range 4096).sup fun i => score x0 x1 B h q i * (Real.log 2 : ℝ)) :=
    (Finset.sum_congr rfl fun i _ => refP_eq x0 x1 B h q i).trans
      (Finset.sum_range fun i => Ideal.exp (score x0 x1 B h q i * (Real.log 2 : ℝ)
        - (Finset.range 4096).sup fun i => score x0 x1 B h q i * (Real.log 2 : ℝ))).symm
  unfold softmax
  refine Eq.trans (Finset.sum_congr rfl fun k _ => ?_) (Finset.sum_range _).symm
  refine congrArg₂ _ (congrArg x2 (funext fun a => Fin.ext ?_)) (congrArg₂ _ (refP_eq x0 x1 B h q k) (congrArg₂ _ hS rfl))
  have := k.isLt
  match a with
  | ⟨0, _⟩ => rfl
  | ⟨1, _⟩ => rfl
  | ⟨2, _⟩ => show k.val / 512 = k.val / 512 % 8; omega
  | ⟨3, _⟩ => rfl
  | ⟨4, _⟩ => rfl

variable (m : (ℓ : Loc nD τ sig) → Buf (Elt Ideal) ℓ)

/-- The reference's result at an index. -/
theorem res_at (c : Dev nD) (j : S32768x512.Idx) : (res_main_v30 m c j : EReal)
    = softmax (score (m ((c.tc : Thread nD τ).loc main_arg0)) (m ((c.tc : Thread nD τ).loc main_arg1))
        ⟨(j 0).val / 4096, by have : (j 0).val < 32768 := (j 0).isLt; omega⟩ ⟨(j 1).val / 64, by have : (j 1).val < 512 := (j 1).isLt; omega⟩
        ⟨(j 0).val % 4096, Nat.mod_lt _ (by decide)⟩)
      (value (m ((c.tc : Thread nD τ).loc main_arg2))
        ⟨(j 0).val / 4096, by have : (j 0).val < 32768 := (j 0).isLt; omega⟩ ⟨(j 1).val / 64, by have : (j 1).val < 512 := (j 1).isLt; omega⟩
        ⟨(j 1).val % 64, Nat.mod_lt _ (by decide)⟩) 4096 (Ideal.ofBits .f32 0x0DA24260#32) := by
  unfold res_main_v30
  clean_types
  pointwise
  have h1 : (id (constant (F := Ideal) S_ .f32 0xFF800000#32)) ix0 = Ideal.ofBits .f32 0xFF800000#32 := rfl
  have h0 : (id (constant (F := Ideal) S_ .f32 0x00000000#32)) ix0 = Ideal.ofBits .f32 0x00000000#32 := rfl
  simp only [h1, h0]
  have H := expr_eq (m ((c.tc : Thread nD τ).loc main_arg0)) (m ((c.tc : Thread nD τ).loc main_arg1)) (m ((c.tc : Thread nD τ).loc main_arg2))
    ⟨(j 0).val / 4096, by have : (j 0).val < 32768 := (j 0).isLt; omega⟩ ⟨(j 1).val / 64, by have : (j 1).val < 512 := (j 1).isLt; omega⟩
    ⟨(j 0).val % 4096, Nat.mod_lt _ (by decide)⟩ ⟨(j 1).val % 64, Nat.mod_lt _ (by decide)⟩
  unfold refP refT at H
  exact H

end Cert.ReferenceIdeal.Mla

end
-- ==== Proof.Mla.Agree.lean ====
/- Over the extended reals the attention kernel's result and the reference's are one array. -/
module

public import proofs.«01_k».proof.Proof.Mla.Final
public import proofs.«01_k».proof.Proof.Mla.BlockRead
public import proofs.«01_k».proof.Proof.Mla.RefRead

@[expose] public section

set_option maxRecDepth 16384

noncomputable section

namespace Cert.KernelIdeal.Mla

open Idealize.ShloMosaic Idealize.ShloMosaic.TcCoe Cert.KernelIdeal.Gen Cert.Mla.Math Cert.Mla.Consts
open Cert.ReferenceIdeal.Mla (score value softmax)

/-- The running quotient over the keys up to a block's end is the softmax over all the keys. -/
theorem left_eq {b e : ℝ} (he : 0 < e) (he1 : e ≤ 1) (x3 : QBlk Ideal) (x4 : KBlk Ideal) (x5 : VBlk Ideal) (n : ℕ) (hn : n < 8) (h : Fin 8)
    (q : Fin 512) (d : Fin 64) :
    leftAt b x3 x4 x5 n h q d = softmax (causalAt x3 x4 n h q) (valAt x5 h d) 4096 (e : EReal) := by
  have hb : ∀ j, 512 * (n + 1) ≤ j → causalAt x3 x4 n h q j = ⊥ := fun j hj => by
    have := q.isLt
    exact if_neg (by omega)
  unfold leftAt
  rw [runSum_mono_bot b _ (valAt x5 h d) (512 * (n + 1)) 4096 (by omega) hb, runSum_mono_bot b _ (fun _ => 1) (512 * (n + 1)) 4096 (by omega) hb]
  exact attention b _ _ 4096 e he he1

/-- The kernel's result at an index. -/
theorem result_at (x0 : S8x8x128x4096.Idx → EReal) (x1 : S8x8x4096x128.Idx → EReal) (x2 : S8x8x8x64x512.Idx → EReal) (j : S32768x512.Idx) :
    (result (F := Ideal) x0 x1 x2 j : EReal)
    = softmax (score x0 x1
        ⟨(j 0).val / 4096, by have : (j 0).val < 32768 := (j 0).isLt; omega⟩ ⟨(j 1).val / 64, by have : (j 1).val < 512 := (j 1).isLt; omega⟩
        ⟨(j 0).val % 4096, Nat.mod_lt _ (by decide)⟩)
      (value x2
        ⟨(j 0).val / 4096, by have : (j 0).val < 32768 := (j 0).isLt; omega⟩ ⟨(j 1).val / 64, by have : (j 1).val < 512 := (j 1).isLt; omega⟩
        ⟨(j 1).val % 64, Nat.mod_lt _ (by decide)⟩) 4096 (Ideal.ofBits .f32 0x0DA24260#32) := by
  obtain ⟨b, hb⟩ := bits_start
  obtain ⟨e, he, he1, hE⟩ := bits_eps
  have h0 : (j 0).val < 32768 := (j 0).isLt
  have h1 : (j 1).val < 512 := (j 1).isLt
  obtain ⟨h, hh⟩ : ∃ h : Fin 8, h.val = (j 1).val / 64 := ⟨⟨(j 1).val / 64, by omega⟩, rfl⟩
  obtain ⟨d, hd⟩ : ∃ d : Fin 64, d.val = (j 1).val % 64 := ⟨⟨(j 1).val % 64, by omega⟩, rfl⟩
  have hj : (ix2 (⟨(j 0).val % 512, Nat.mod_lt _ (by decide)⟩ : Fin 512) (j 1) : S512x512.Idx)
      = ix2 (⟨(j 0).val % 512, Nat.mod_lt _ (by decide)⟩ : Fin 512) ⟨64 * h.val + d.val, by omega⟩ := by
    refine funext fun a => Fin.ext ?_
    match a with
    | ⟨0, _⟩ => rfl
    | ⟨1, _⟩ => show (j 1).val = 64 * h.val + d.val; omega
  have eh : (⟨(j 1).val / 64, by omega⟩ : Fin 8) = h := Fin.ext hh.symm
  have ed : (⟨(j 1).val % 64, Nat.mod_lt _ (by decide)⟩ : Fin 64) = d := Fin.ext hd.symm
  have eB : (⟨(j 0).val / 512 / 8 % 8, Nat.mod_lt _ (by decide)⟩ : Fin 8) = ⟨(j 0).val / 4096, by omega⟩ := Fin.ext (by show _ / 512 / 8 % 8 = _ / 4096; omega)
  rw [eh, ed, hE]
  unfold result
  rw [hj, outBlock_at hb, left_eq he he1 _ _ _ _ (Nat.mod_lt _ (by decide))]
  congr 1
  · funext k
    unfold causalAt score rawAt
    have hc : (k ≤ 512 * ((j 0).val / 512 % 8) + (j 0).val % 512) = (k ≤ (j 0).val % 4096) := by
      congr 1; omega
    show (if k ≤ 512 * ((j 0).val / 512 % 8) + (j 0).val % 512 then _ else _) = if k ≤ (j 0).val % 4096 then _ else _
    simp only [hc]
    refine if_congr Iff.rfl (Finset.sum_congr rfl fun t _ => congrArg₂ _ (congrArg x1 ?_) (congrArg x0 ?_)) rfl
    · refine funext fun a => Fin.ext ?_
      match a with
      | ⟨0, _⟩ => exact congrArg Fin.val eB
      | ⟨1, _⟩ => rfl
      | ⟨2, _⟩ => rfl
      | ⟨3, _⟩ => rfl
    · refine funext fun a => Fin.ext ?_
      match a with
      | ⟨0, _⟩ => exact congrArg Fin.val eB
      | ⟨1, _⟩ => rfl
      | ⟨2, _⟩ => rfl
      | ⟨3, _⟩ => show 512 * ((j 0).val / 512 % 8) + (j 0).val % 512 = (j 0).val % 4096; omega
  · funext k
    unfold valAt value
    refine congrArg x2 (funext fun a => Fin.ext ?_)
    match a with
    | ⟨0, _⟩ => exact congrArg Fin.val eB
    | ⟨1, _⟩ => rfl
    | ⟨2, _⟩ => rfl
    | ⟨3, _⟩ => rfl
    | ⟨4, _⟩ => rfl

/-- The two results are one array, where the arguments are. -/
theorem agree (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v30 m' c
      = result (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) :=
  funext fun j => (Cert.ReferenceIdeal.Mla.res_at m' c j).trans (result_at _ _ _ j).symm

end Cert.KernelIdeal.Mla

end
-- ==== Proof.In.Block.lean ====
/- The input projection's grid point in closed form: what the body leaves in its output block and in the scratch block it keeps
   between points, as functions of its input blocks and of the scratch. -/
module

public import proofs.«01_k».proof.Proof.Gen.KernelInIdeal.Value
public import Idealize.ShloMosaic.Lib.Pipeline.ValueKit

@[expose] public section

set_option maxRecDepth 16384

noncomputable section

namespace Cert.KernelInIdeal.In

open Cert.KernelInIdeal Cert.KernelInIdeal.Gen
open Idealize.ShloMosaic Idealize.ShloMosaic.TcCoe Idealize.SL.Sem

variable {F : FTy → Type} [FloatOps F]

theorem h2 : ∀ a : Fin 2, (![0, 0] : Fin 2 → ℕ) a = 0 := by decide
theorem h3 : ∀ a : Fin 3, (![0, 0, 0] : Fin 3 → ℕ) a = 0 := by decide
theorem hz2 : (![0, 0] : Fin 2 → Nat) = fun _ => 0 := funext h2
theorem hz3 : (![0, 0, 0] : Fin 3 → Nat) = fun _ => 0 := funext h3

variable (c : Dev nD) (i : grid0.Coords) (arg2 : Memref sig .tc .vmem S1024x1024 .f32) (harg2 : arg2.IsWhole) (arg3 : Memref sig .tc .vmem S1x1024 .f32)
  (harg3 : arg3.IsWhole) (arg4 : Memref sig .tc .vmem S1x1x1024 .f32) (harg4 : arg4.IsWhole) (arg5 : Memref sig .tc .vmem S1x1x1024 .f32)
  (harg5 : arg5.IsWhole) (arg6 : Memref sig .tc .vmem S1024x1792 .bf16) (harg6 : arg6.IsWhole) (arg7 : Memref sig .tc .vmem S1024x1792 .bf16)
  (harg7 : arg7.IsWhole) (arg8 : Memref sig .tc .vmem S1024x1024 .bf16) (harg8 : arg8.IsWhole)
  (x0 : Vec F S1024x1024 .f32) (x1 : Vec F S1x1024 .f32) (x2 : Vec F S1x1x1024 .f32) (x3 : Vec F S1x1x1024 .f32) (x4 : Vec F S1024x1792 .bf16)

/-- At the first column block the scratch is filled with the normalized, modulated rows. -/
theorem scratch_first (hc0 : cond0_0 i) :
    sout0_A_0 c i arg2 harg2 arg3 harg3 arg4 harg4 arg5 harg5 arg6 harg6 arg7 harg7 arg8 harg8 hc0 x0 x1 x2 x3 x4 = k0_pay1 x0 x1 x2 x3 := by
  unfold sout0_A_0
  rw [View.read_writes_junk_eq_canon]
  show View.canon ([⟨Rect.unit ![0, 0] S1024x1024.size inb_S1024x1024_S1024x1024_0_0,
      k0_pay1
        (View.readAt (Elt F) arg2.view (Rect.unit (s := S1024x1024) ![0, 0] S1024x1024.size inb_S1024x1024_S1024x1024_0_0).toLoadRect (harg2.unread x0))
        (View.readAt (Elt F) arg3.view (Rect.unit (s := S1x1024) ![0, 0] S1x1024.size inb_S1x1024_S1x1024_0_0).toLoadRect (harg3.unread x1))
        (View.readAt (Elt F) arg4.view (Rect.unit (s := S1x1x1024) ![0, 0, 0] S1x1x1024.size inb_S1x1x1024_S1x1x1024_0_0_0).toLoadRect (harg4.unread x2))
        (View.readAt (Elt F) arg5.view (Rect.unit (s := S1x1x1024) ![0, 0, 0] S1x1x1024.size inb_S1x1x1024_S1x1x1024_0_0_0).toLoadRect (harg5.unread x3))⟩] :
      List (View.Piece (Elt F) S1024x1024 .bf16)) = _
  rw [View.canon_unit_zero hz2, View.readAt_eq_ld, View.readAt_eq_ld, View.readAt_eq_ld, View.readAt_eq_ld, harg2.read_unread, harg3.read_unread,
    harg4.read_unread, harg5.read_unread, View.ld_unit_zero hz2, View.ld_unit_zero hz2, View.ld_unit_zero hz3, View.ld_unit_zero hz3]

/-- At a later column block the output is the product of what the scratch holds and the block's columns of the weights. -/
theorem out_later (hc0 : ¬cond0_0 i) (xs : Vec F S1024x1024 .bf16) :
    out0_B_5 c i arg2 harg2 arg3 harg3 arg4 harg4 arg5 harg5 arg6 harg6 arg7 harg7 arg8 harg8 hc0 x0 x1 x2 x3 x4 xs = k0_pay2 xs x4 := by
  unfold out0_B_5
  rw [View.read_writes_junk_eq_canon]
  show View.canon ([⟨Rect.unit ![0, 0] S1024x1792.size inb_S1024x1792_S1024x1792_0_0,
      k0_pay2
        (View.readAt (Elt F) arg8.view (Rect.unit (s := S1024x1024) ![0, 0] S1024x1024.size inb_S1024x1024_S1024x1024_0_0).toLoadRect (harg8.unread xs))
        (View.readAt (Elt F) arg6.view (Rect.unit (s := S1024x1792) ![0, 0] S1024x1792.size inb_S1024x1792_S1024x1792_0_0).toLoadRect (harg6.unread x4))⟩] :
      List (View.Piece (Elt F) S1024x1792 .bf16)) = _
  rw [View.canon_unit_zero hz2, View.readAt_eq_ld, View.readAt_eq_ld, harg8.read_unread, harg6.read_unread, View.ld_unit_zero hz2, View.ld_unit_zero hz2]

/-- At the first column block the output is the product of the rows just stored and the block's columns of the weights. -/
theorem out_first (hc0 : cond0_0 i) :
    out0_A_5 c i arg2 harg2 arg3 harg3 arg4 harg4 arg5 harg5 arg6 harg6 arg7 harg7 arg8 harg8 hc0 x0 x1 x2 x3 x4 = k0_pay2 (k0_pay1 x0 x1 x2 x3) x4 := by
  unfold out0_A_5
  rw [View.read_writes_junk_eq_canon]
  show View.canon ([⟨Rect.unit ![0, 0] S1024x1792.size inb_S1024x1792_S1024x1792_0_0,
      k0_pay2
        (View.readCov arg8.view [⟨Rect.unit ![0, 0] S1024x1024.size inb_S1024x1024_S1024x1024_0_0,
          k0_pay1
            (View.readAt (Elt F) arg2.view (Rect.unit (s := S1024x1024) ![0, 0] S1024x1024.size inb_S1024x1024_S1024x1024_0_0).toLoadRect (harg2.unread x0))
            (View.readAt (Elt F) arg3.view (Rect.unit (s := S1x1024) ![0, 0] S1x1024.size inb_S1x1024_S1x1024_0_0).toLoadRect (harg3.unread x1))
            (View.readAt (Elt F) arg4.view (Rect.unit (s := S1x1x1024) ![0, 0, 0] S1x1x1024.size inb_S1x1x1024_S1x1x1024_0_0_0).toLoadRect (harg4.unread x2))
            (View.readAt (Elt F) arg5.view (Rect.unit (s := S1x1x1024) ![0, 0, 0] S1x1x1024.size inb_S1x1x1024_S1x1x1024_0_0_0).toLoadRect (harg5.unread x3))⟩]
          (Rect.unit (s := S1024x1024) ![0, 0] S1024x1024.size inb_S1024x1024_S1024x1024_0_0).toLoadRect)
        (View.readAt (Elt F) arg6.view (Rect.unit (s := S1024x1792) ![0, 0] S1024x1792.size inb_S1024x1792_S1024x1792_0_0).toLoadRect (harg6.unread x4))⟩] :
      List (View.Piece (Elt F) S1024x1792 .bf16)) = _
  rw [View.canon_unit_zero hz2, View.readCov_unit_lit _ _ _ h2, View.readAt_eq_ld, View.readAt_eq_ld, View.readAt_eq_ld, View.readAt_eq_ld, View.readAt_eq_ld,
    harg2.read_unread, harg3.read_unread, harg4.read_unread, harg5.read_unread, harg6.read_unread, View.ld_unit_zero hz2, View.ld_unit_zero hz2,
    View.ld_unit_zero hz3, View.ld_unit_zero hz3, View.ld_unit_zero hz2]

end Cert.KernelInIdeal.In

end
-- ==== Proof.In.Final.lean ====
/- The input projection's result array after the run, index by index over the extended reals, and the reference's. -/
module

public import proofs.«01_k».proof.Proof.In.Block
public import proofs.«01_k».proof.Proof.Gen.ReferenceInIdeal.Run
public import Idealize.ShloMosaic.Lib.Pointwise
public import Idealize.ShloMosaic.Lib.Tactic.CleanTypes

@[expose] public section

set_option maxRecDepth 16384

noncomputable section

namespace Cert.KernelInIdeal.In

open Cert.KernelInIdeal Cert.KernelInIdeal.Gen Cert.KernelInIdeal.Value
open Idealize.ShloMosaic Idealize.ShloMosaic.TcCoe Idealize.SL.Sem
open Idealize.ShloMosaic.Pipeline (Dat)

/-- A row's factor: the reciprocal root of its mean square, the small constant added. -/
def factor (x : S32768x1024.Idx → EReal) (r : Fin 32768) : EReal :=
  Ideal.rsqrt (Ideal.div (∑ k : Fin 1024, x (ix2 r k) * x (ix2 r k)) (Ideal.ofBits .f32 0x44800000#32) + Ideal.ofBits .f32 0x358637BD#32)

/-- The batch of a row. -/
def batch (r : Fin 32768) : Fin 8 := ⟨r.val / 4096 % 8, Nat.mod_lt _ (by decide)⟩

/-- An entry of the normalized, modulated activations. -/
def normed (x : S32768x1024.Idx → EReal) (g : S1024.Idx → EReal) (sc sh : S8x1x1024.Idx → EReal) (r : Fin 32768) (k : Fin 1024) : EReal :=
  x (ix2 r k) * factor x r * g (ix1 k) * (1 + sc (ix3 (batch r) 0 k)) + sh (ix3 (batch r) 0 k)

/-- The result array: the product of the normalized, modulated activations and the weights. -/
def result (x : S32768x1024.Idx → EReal) (g : S1024.Idx → EReal) (sc sh : S8x1x1024.Idx → EReal) (w : S1024x7168.Idx → EReal) :
    S32768x7168.Idx → EReal := fun j => ∑ k : Fin 1024, normed x g sc sh (j 0) k * w (ix2 k (j 1))

/-- An entry of the rows the body normalizes. -/
theorem pay_at (v8 : Vec Ideal S1024x1024 .f32) (v19 : Vec Ideal S1x1024 .f32) (v23 v29 : Vec Ideal S1x1x1024 .f32) (p k : Fin 1024) :
    k0_pay1 v8 v19 v23 v29 (ix2 p k) = v8 (ix2 p k)
      * Ideal.rsqrt (Ideal.div (∑ x, v8 (ix2 p x) * v8 (ix2 p x)) (Ideal.ofBits .f32 0x44800000#32) + Ideal.ofBits .f32 0x358637BD#32)
      * v19 (ix2 0 k) * (1 + v23 (ix3 0 0 k)) + v29 (ix3 0 0 k) := by
  unfold k0_pay1
  pointwise

/-- An entry of the product the body stores. -/
theorem prod_at (h : Vec Ideal S1024x1024 .bf16) (w : Vec Ideal S1024x1792 .bf16) (p : Fin 1024) (q : Fin 1792) :
    k0_pay2 h w (ix2 p q) = ∑ k, h (ix2 p k) * w (ix2 k q) := by
  unfold k0_pay2
  pointwise

/-- Which blocks of the arrays a point works on. -/
theorem idx0 : ∀ t : Fin cfg0.N, win0_0.index t (0 : Fin 2) = t.val / 4 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = t.val % 4 := (by decide +kernel : ∀ t : Fin grid0.N, _)
theorem idx5 : ∀ t : Fin cfg0.N, win0_5.index t (0 : Fin 2) = t.val / 4 ∧ win0_5.index t (1 : Fin 2) = t.val % 4 := (by decide +kernel : ∀ t : Fin grid0.N, _)

variable (m : (ℓ : Loc nD τ sig) → Buf (Elt Ideal) ℓ) (ρ : Dev nD → PrngReg)

theorem lt128 (t : Fin cfg0.N) : t.val < 128 := t.isLt

/-- The row of the arrays a block's row is, by the point's row of blocks. -/
def row (n : ℕ) (p : Fin 1024) : Fin 32768 := ⟨(1024 * (n / 4) + p.val) % 32768, Nat.mod_lt _ (by decide)⟩

/-- The column of the arrays a block's column is. -/
def col (n : ℕ) (q : Fin 1792) : Fin 7168 := ⟨1792 * (n % 4) + q.val, by have := Nat.mod_lt n (by decide : 0 < 4); have := q.isLt; omega⟩

theorem blk0 (c : Dev nD) (t : Fin cfg0.N) (p k : Fin 1024) : iblk m c 0 t (ix2 p k) = V m c main_arg0 (ix2 (row t.val p) k) := by
  obtain ⟨e0, e1⟩ := idx0 t
  have ht := lt128 t
  show V m c main_arg0 (((cfg0.win 0).blk t).view.emb (ix2 p k)) = _
  refine congrArg _ (funext fun a => Fin.ext ?_)
  match a with
  | ⟨0, _⟩ => show win0_0.index t (0 : Fin 2) * 1024 + 1 * p.val = (1024 * (t.val / 4) + p.val) % 32768; omega
  | ⟨1, _⟩ => show win0_0.index t (1 : Fin 2) * 1024 + 1 * k.val = k.val; omega

/-- The gain's array, at the region, is its argument with a leading axis of size one. -/
theorem V_gain (c : Dev nD) (q : Fin 1024) : V m c main_v0 (ix2 0 q) = V m c main_arg1 (ix1 q) := by
  have h : V m c main_v0 = shapeCast S1x1024 (m ((c : Thread nD τ).loc main_arg1)) shapeCasts_S1024_S1x1024 := by
    show StableHlo.after hostOps0 (fun b => m (c, b)) main_v0 = _
    after_results <;> rfl
  rw [h, V_main_arg1]
  pointwise

theorem blk1 (c : Dev nD) (t : Fin cfg0.N) (q : Fin 1024) : iblk m c 1 t (ix2 0 q) = V m c main_arg1 (ix1 q) := by
  obtain ⟨e0, e1⟩ := idx1 t
  rw [← V_gain]
  show V m c main_v0 (((cfg0.win 1).blk t).view.emb (ix2 0 q)) = _
  refine congrArg _ (funext fun a => Fin.ext ?_)
  match a with
  | ⟨0, _⟩ => show win0_1.index t (0 : Fin 2) * 1 + 1 * 0 = 0; omega
  | ⟨1, _⟩ => show win0_1.index t (1 : Fin 2) * 1024 + 1 * q.val = q.val; omega

theorem blk2 (c : Dev nD) (t : Fin cfg0.N) (p q : Fin 1024) :
    iblk m c 2 t (ix3 0 0 q) = V m c main_arg2 (ix3 (batch (row t.val p)) 0 q) := by
  obtain ⟨e0, e1, e2⟩ := idx2 t
  have ht := lt128 t
  have hp := p.isLt
  show V m c main_arg2 (((cfg0.win 2).blk t).view.emb (ix3 0 0 q)) = _
  refine congrArg _ (funext fun a => Fin.ext ?_)
  match a with
  | ⟨0, _⟩ => show win0_2.index t (0 : Fin 3) * 1 + 1 * 0 = (1024 * (t.val / 4) + p.val) % 32768 / 4096 % 8; omega
  | ⟨1, _⟩ => show win0_2.index t (1 : Fin 3) * 1 + 1 * 0 = 0; omega
  | ⟨2, _⟩ => show win0_2.index t (2 : Fin 3) * 1024 + 1 * q.val = q.val; omega

theorem blk3 (c : Dev nD) (t : Fin cfg0.N) (p q : Fin 1024) :
    iblk m c 3 t (ix3 0 0 q) = V m c main_arg3 (ix3 (batch (row t.val p)) 0 q) := by
  obtain ⟨e0, e1, e2⟩ := idx3 t
  have ht := lt128 t
  have hp := p.isLt
  show V m c main_arg3 (((cfg0.win 3).blk t).view.emb (ix3 0 0 q)) = _
  refine congrArg _ (funext fun a => Fin.ext ?_)
  match a with
  | ⟨0, _⟩ => show win0_3.index t (0 : Fin 3) * 1 + 1 * 0 = (1024 * (t.val / 4) + p.val) % 32768 / 4096 % 8; omega
  | ⟨1, _⟩ => show win0_3.index t (1 : Fin 3) * 1 + 1 * 0 = 0; omega
  | ⟨2, _⟩ => show win0_3.index t (2 : Fin 3) * 1024 + 1 * q.val = q.val; omega

theorem blk4 (c : Dev nD) (t : Fin cfg0.N) (k : Fin 1024) (q : Fin 1792) : iblk m c 4 t (ix2 k q) = V m c main_arg4 (ix2 k (col t.val q)) := by
  obtain ⟨e0, e1⟩ := idx4 t
  show V m c main_arg4 (((cfg0.win 4).blk t).view.emb (ix2 k q)) = _
  refine congrArg _ (funext fun a => Fin.ext ?_)
  match a with
  | ⟨0, _⟩ => show win0_4.index t (0 : Fin 2) * 1024 + 1 * k.val = k.val; omega
  | ⟨1, _⟩ => show win0_4.index t (1 : Fin 2) * 1792 + 1 * q.val = 1792 * (t.val % 4) + q.val; omega

/-- The normalized, modulated rows of the point's row of blocks. -/
def rows (c : Dev nD) (n : ℕ) : Vec Ideal S1024x1024 .bf16 := fun y =>
  normed (V m c main_arg0) (V m c main_arg1) (V m c main_arg2) (V m c main_arg3) (row n (y 0)) (y 1)

/-- What the body computes at the first column block are those rows. -/
theorem pay_rows (c : Dev nD) (t : Fin cfg0.N) : k0_pay1 (iblk m c 0 t) (iblk m c 1 t) (iblk m c 2 t) (iblk m c 3 t) = rows m c t.val := by
  funext y
  obtain ⟨p, k, rfl⟩ : ∃ (p : Fin 1024) (k : Fin 1024), y = ix2 p k := ⟨y 0, y 1, funext fun a => by match a with | ⟨0, _⟩ => rfl | ⟨1, _⟩ => rfl⟩
  rw [pay_at, blk1, blk2 m c t p, blk3 m c t p]
  simp only [blk0]
  rfl

/-- A later column block has the rows of the first. -/
theorem rows_pred (c : Dev nD) (n : ℕ) (h : ¬n % 4 = 0) : rows m c (n - 1) = rows m c n := by
  have e : (n - 1) / 4 = n / 4 := by omega
  have hr : ∀ p, row (n - 1) p = row n p := fun p => Fin.ext (by
    show (1024 * ((n - 1) / 4) + p.val) % 32768 = (1024 * (n / 4) + p.val) % 32768
    rw [e])
  exact funext fun y => congrArg (fun r => normed (V m c main_arg0) (V m c main_arg1) (V m c main_arg2) (V m c main_arg3) r (y 1)) (hr (y 0))

/-- At every point the scratch holds the point's rows, the output block their product with the block's columns. -/
theorem outs_eq (c : Dev nD) : ∀ (n : ℕ) (hn : n < cfg0.N), outsAt0 m c n hn = (k0_pay2 (rows m c n) (iblk m c 4 ⟨n, hn⟩), rows m c n) := by
  intro n
  induction n using Nat.strong_induction_on with
  | _ n ih =>
    intro hn
    by_cases h0 : n % 4 = 0
    · refine (outsAt0_A m c ⟨n, hn⟩ h0).trans ?_
      rw [out_first, scratch_first, pay_rows]
    · refine (outsAt0_B m c ⟨n, hn⟩ h0).trans ?_
      have hp := ih (n - 1) (by omega) (Nat.lt_of_le_of_lt (Nat.sub_le _ _) hn)
      rw [rows_pred m c n h0] at hp
      rw [out_later]
      unfold sout0_B_0
      rw [hp]

/-- The entries a point stores are the result array's. -/
theorem out_at (c : Dev nD) (t : Fin cfg0.N) (p : Fin 1024) (q : Fin 1792) : (outsAt0 m c t.val t.isLt).1 (ix2 p q)
    = result (V m c main_arg0) (V m c main_arg1) (V m c main_arg2) (V m c main_arg3) (V m c main_arg4) (ix2 (row t.val p) (col t.val q)) := by
  rw [outs_eq]
  refine (prod_at _ _ p q).trans ?_
  exact Finset.sum_congr rfl fun k _ => congrArg (_ * ·) (blk4 m c t k q)

/-- A block's index is this index of the array. -/
theorem emb5 (t : Fin cfg0.N) (p : Fin 1024) (q : Fin 1792) : ((cfg0.win 5).blk t).view.emb (ix2 p q) = ix2 (row t.val p) (col t.val q) := by
  obtain ⟨e0, e1⟩ := idx5 t
  have ht := lt128 t
  have hp := p.isLt
  funext a
  refine Fin.ext ?_
  match a with
  | ⟨0, _⟩ => show win0_5.index t (0 : Fin 2) * 1024 + 1 * p.val = (1024 * (t.val / 4) + p.val) % 32768; omega
  | ⟨1, _⟩ => show win0_5.index t (1 : Fin 2) * 1792 + 1 * q.val = 1792 * (t.val % 4) + q.val; omega

/-- What a point writes back is its block of the result array. -/
theorem flushed_eq (c : Dev nD) (t : Fin cfg0.N) : (dats m 0 c).flushed 5 t
    = ((cfg0.win 5).blk t).view.read (Elt Ideal) (result (V m c main_arg0) (V m c main_arg1) (V m c main_arg2) (V m c main_arg3) (V m c main_arg4)) := by
  rw [flushed5]
  funext y
  refine Eq.trans (?_ : _ = (outsAt0 m c t.val t.isLt).1 y) ?_
  · rfl
  obtain ⟨p, q, rfl⟩ : ∃ (p : Fin 1024) (q : Fin 1792), y = ix2 p q := ⟨y 0, y 1, funext fun a => by match a with | ⟨0, _⟩ => rfl | ⟨1, _⟩ => rfl⟩
  rw [out_at]
  exact congrArg (result _ _ _ _ _) (emb5 t p q).symm

/-- Every index of the result array is in some point's block. -/
theorem covered (i : S32768x7168.Idx) : ∃ t : Fin cfg0.N, (cfg0.win 5).flush t = true ∧ i ∈ ((cfg0.win 5).blk t).view.set := by
  have h0 : (i 0).val < 32768 := (i 0).isLt
  have h1 : (i 1).val < 7168 := (i 1).isLt
  have hN : cfg0.N = 128 := by decide
  obtain ⟨t, ht⟩ : ∃ t : Fin cfg0.N, t.val = 4 * ((i 0).val / 1024) + (i 1).val / 1792 :=
    ⟨⟨4 * ((i 0).val / 1024) + (i 1).val / 1792, by rw [hN]; omega⟩, rfl⟩
  refine ⟨t, flush0_5 _, ?_⟩
  obtain ⟨e0, e1⟩ := idx5 t
  show i ∈ ((View.whole main_v1).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1792 ≤ (i 1).val ∧ (i 1).val < win0_5.index t (1 : Fin 2) * 1792 + 1792
    omega

/-- The result array after the run. -/
theorem final (c : Dev nD) : (dats m 0 c).arrAt 5 cfg0.N = result (m ((c : Thread nD τ).loc main_arg0)) (m ((c : Thread nD τ).loc main_arg1))
    (m ((c : Thread nD τ).loc main_arg2)) (m ((c : Thread nD τ).loc main_arg3)) (m ((c : Thread nD τ).loc main_arg4)) := by
  have h := (dats m 0 c).arrAt_eq_of_cover 5 _ (fun t _ => flushed_eq m c t) covered
  rw [V_main_arg0, V_main_arg1, V_main_arg2, V_main_arg3, V_main_arg4] at h
  exact h

end Cert.KernelInIdeal.In

namespace Cert.ReferenceInIdeal.In

open Cert.ReferenceInIdeal Cert.ReferenceInIdeal.Gen
open Idealize.ShloMosaic Idealize.ShloMosaic.TcCoe Idealize.SL.Sem

/-- The reference's row factors. -/
def root (x : FVec Ideal S8x4096x1024 .f32) : FVec Ideal S8x4096x1 .f32 :=
  Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))

/-- The reference's normalized, modulated activations. -/
def cube (x : FVec Ideal S8x4096x1024 .f32) (g : FVec Ideal S1024 .f32) (sc sh : FVec Ideal S8x1x1024 .f32) : FVec Ideal S8x4096x1024 .bf16 :=
  truncf .bf16 (addf (mulf (mulf (mulf x (broadcastInDim S8x4096x1024 ![0, 1, 2] bcast_S8x4096x1_S8x4096x1024_0_1_2 (root x))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh)) bitsLt_bf16_f32

/-- The reference's product. -/
def proj (h : FVec Ideal S8x4096x1024 .bf16) (w : FVec Ideal S1024x7168 .bf16) : FVec Ideal S8x4096x7168 .f32 :=
  Host.dotGeneral dot_S8x4096x1024_S1024x7168_S8x4096x7168_2_0_01_1_n_n none h w

/-- The reference's result as the run leaves it. -/
def value (a0 : Vec Ideal S32768x1024 .f32) (a1 : Vec Ideal S1024 .f32) (a2 a3 : Vec Ideal S8x1x1024 .f32) (a4 : Vec Ideal S1024x7168 .bf16) :
    Vec Ideal S32768x7168 .bf16 :=
  truncf .bf16 (show FVec Ideal S32768x7168 .f32 from shapeCast S32768x7168
    (proj (cube (shapeCast S8x4096x1024 a0 shapeCasts_S32768x1024_S8x4096x1024) a1 a2 a3) a4) shapeCasts_S8x4096x7168_S32768x7168) bitsLt_bf16_f32

/-- An entry of the reference's result. -/
theorem value_at (a0 : Vec Ideal S32768x1024 .f32) (a1 : Vec Ideal S1024 .f32) (a2 a3 : Vec Ideal S8x1x1024 .f32) (a4 : Vec Ideal S1024x7168 .bf16)
    (r : Fin 32768) (q : Fin 7168) : value a0 a1 a2 a3 a4 (ix2 r q) = Cert.KernelInIdeal.In.result a0 a1 a2 a3 a4 (ix2 r q) := by
  unfold value proj cube root
  pointwise
  have hb : (⟨r.val / 4096, by have := r.isLt; omega⟩ : Fin 8) = Cert.KernelInIdeal.In.batch r := Fin.ext (by
    have hr := r.isLt
    show r.val / 4096 = r.val / 4096 % 8
    omega)
  exact Finset.sum_congr rfl fun k _ => congrArg (fun b : Fin 8 =>
    (a0 (ix2 r k) * Cert.KernelInIdeal.In.factor a0 r * a1 (ix1 k) * ((1 : EReal) + a2 (ix3 b 0 k)) + a3 (ix3 b 0 k)) * a4 (ix2 k q)) hb

/-- The reference's result is the kernel's. -/
theorem value_eq (a0 : Vec Ideal S32768x1024 .f32) (a1 : Vec Ideal S1024 .f32) (a2 a3 : Vec Ideal S8x1x1024 .f32) (a4 : Vec Ideal S1024x7168 .bf16) :
    value a0 a1 a2 a3 a4 = Cert.KernelInIdeal.In.result a0 a1 a2 a3 a4 := by
  funext j
  obtain ⟨r, q, rfl⟩ : ∃ (r : Fin 32768) (q : Fin 7168), j = ix2 r q := ⟨j 0, j 1, funext fun a => by match a with | ⟨0, _⟩ => rfl | ⟨1, _⟩ => rfl⟩
  exact value_at a0 a1 a2 a3 a4 r q

/-- The reference's run leaves `value` of its arguments. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = value (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) :=
  (θ_run defs _ _).mono (fun r h c => (h c).1) (Cert.ReferenceInIdeal.Value.run m ρ)

end Cert.ReferenceInIdeal.In

end
-- ==== Proof.Down.Final.lean ====
/- The last projection's result array after the run, index by index over the extended reals, and the reference's. -/
module

public import proofs.«01_k».proof.Proof.Gen.KernelDownIdeal.Value
public import proofs.«01_k».proof.Proof.Gen.ReferenceDownIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.KernelDownIdeal.Down

open Cert.KernelDownIdeal Cert.KernelDownIdeal.Gen Cert.KernelDownIdeal.Value
open Idealize.ShloMosaic Idealize.ShloMosaic.TcCoe Idealize.SL.Sem
open Idealize.ShloMosaic.Pipeline (Dat)

/-- An entry of the product of the activations and the weights. -/
def dot {n : ℕ} (a : Shape.Idx ⟨2, ![n, 2816]⟩ → EReal) (w : S2816x1024.Idx → EReal) (r : Fin n) (q : Fin 1024) : EReal :=
  ∑ k : Fin 2816, a (ix2 r k) * w (ix2 k q)

/-- The row's factor: the reciprocal root of the mean square of the product's row, the small constant added. -/
def factor {n : ℕ} (a : Shape.Idx ⟨2, ![n, 2816]⟩ → EReal) (w : S2816x1024.Idx → EReal) (r : Fin n) : EReal :=
  Ideal.rsqrt (Ideal.div (∑ s, dot a w r s * dot a w r s) (Ideal.ofBits .f32 0x44800000#32) + Ideal.ofBits .f32 0x358637BD#32)

/-- The result array: the residual stream plus the gate of its batch times the normalized product. -/
def result (a : S32768x2816.Idx → EReal) (w : S2816x1024.Idx → EReal) (x : S32768x1024.Idx → EReal) (g : S1024.Idx → EReal)
    (t : S8x1x1024.Idx → EReal) : S32768x1024.Idx → EReal := fun j =>
  x j + t (ix3 ⟨(j 0).val / 4096 % 8, Nat.mod_lt _ (by decide)⟩ 0 (j 1)) * (dot a w (j 0) (j 1) * factor a w (j 0) * g (ix1 (j 1)))

/-- A block's entry. -/
theorem pay_at (v0 : Vec Ideal S512x2816 .bf16) (v1 : Vec Ideal S2816x1024 .bf16) (v13 : Vec Ideal S1x1024 .f32) (v17 : Vec Ideal S512x1024 .f32)
    (v18 : Vec Ideal S1x1x1024 .f32) (p : Fin 512) (q : Fin 1024) :
    k0_pay1 v0 v1 v13 v17 v18 (ix2 p q) = v17 (ix2 p q) + v18 (ix3 0 0 q) * (dot v0 v1 p q * factor v0 v1 p * v13 (ix2 0 q)) := by
  unfold k0_pay1 factor dot
  pointwise

/-- What the body stores is its payload at the whole blocks. -/
theorem out_eq (x0 : Vec Ideal S512x2816 .bf16) (x1 : Vec Ideal S2816x1024 .bf16) (x2 : Vec Ideal S512x1024 .f32) (x3 : Vec Ideal S1x1024 .f32)
    (x4 : Vec Ideal S1x1x1024 .f32) : out0_5 x0 x1 x2 x3 x4 = k0_pay1 x0 x1 x3 x2 x4 := by
  have h2 : ∀ a : Fin 2, (![0, 0] : Fin 2 → ℕ) a = 0 := by decide
  have h3 : ∀ a : Fin 3, (![0, 0, 0] : Fin 3 → ℕ) a = 0 := by decide
  unfold out0_5 r0_0 r0_1 r0_2 r0_3 r0_4
  rw [View.canon_cons_unit_lit _ _ _ h2, View.ld_unit_lit _ _ h2, View.ld_unit_lit _ _ h2, View.ld_unit_lit _ _ h2, View.ld_unit_lit _ _ h2, View.ld_unit_lit _ _ h3]

/-- Which blocks of the arrays a point works on. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 3) = t.val / 8 ∧ win0_4.index t (1 : Fin 3) = 0 ∧ win0_4.index t (2 : Fin 3) = 0 :=
  (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

variable (m : (ℓ : Loc nD τ sig) → Buf (Elt Ideal) ℓ) (ρ : Dev nD → PrngReg)

theorem lt64 (t : Fin cfg0.N) : t.val < 64 := t.isLt

/-- The row of the arrays a block's row is. -/
def row (t : Fin cfg0.N) (p : Fin 512) : Fin 32768 := ⟨512 * t.val + p.val, by have := lt64 t; have := p.isLt; omega⟩

theorem blk0 (c : Dev nD) (t : Fin cfg0.N) (p : Fin 512) (k : Fin 2816) : iblk m c 0 t (ix2 p k) = V m c main_arg0 (ix2 (row t p) k) := by
  obtain ⟨e0, e1⟩ := idx0 t
  show V m c main_arg0 (((cfg0.win 0).blk t).view.emb (ix2 p k)) = _
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 2816 + 1 * k.val = k.val; omega

theorem blk1 (c : Dev nD) (t : Fin cfg0.N) : iblk m c 1 t = V m c main_arg1 := by
  obtain ⟨e0, e1⟩ := idx1 t
  funext y
  show V m c main_arg1 (((cfg0.win 1).blk t).view.emb y) = _
  refine congrArg _ (funext fun a => Fin.ext ?_)
  match a with
  | ⟨0, _⟩ => show win0_1.index t (0 : Fin 2) * 2816 + 1 * (y 0).val = (y 0).val; omega
  | ⟨1, _⟩ => show win0_1.index t (1 : Fin 2) * 1024 + 1 * (y 1).val = (y 1).val; omega

theorem blk2 (c : Dev nD) (t : Fin cfg0.N) (p : Fin 512) (q : Fin 1024) : iblk m c 2 t (ix2 p q) = V m c main_arg2 (ix2 (row t p) q) := by
  obtain ⟨e0, e1⟩ := idx2 t
  show V m c main_arg2 (((cfg0.win 2).blk t).view.emb (ix2 p q)) = _
  refine congrArg _ (funext fun a => Fin.ext ?_)
  match a with
  | ⟨0, _⟩ => show win0_2.index t (0 : Fin 2) * 512 + 1 * p.val = 512 * t.val + p.val; omega
  | ⟨1, _⟩ => show win0_2.index t (1 : Fin 2) * 1024 + 1 * q.val = q.val; omega

/-- The gain's array, at the region, is its argument with a leading axis of size one. -/
theorem V_gain (c : Dev nD) (q : Fin 1024) : V m c main_v0 (ix2 0 q) = V m c main_arg3 (ix1 q) := by
  have h : V m c main_v0 = shapeCast S1x1024 (m ((c : Thread nD τ).loc main_arg3)) shapeCasts_S1024_S1x1024 := by
    show StableHlo.after hostOps0 (fun b => m (c, b)) main_v0 = _
    after_results <;> rfl
  rw [h, V_main_arg3]
  pointwise

theorem blk3 (c : Dev nD) (t : Fin cfg0.N) (q : Fin 1024) : iblk m c 3 t (ix2 0 q) = V m c main_arg3 (ix1 q) := by
  obtain ⟨e0, e1⟩ := idx3 t
  rw [← V_gain]
  show V m c main_v0 (((cfg0.win 3).blk t).view.emb (ix2 0 q)) = _
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = q.val; omega

theorem blk4 (c : Dev nD) (t : Fin cfg0.N) (q : Fin 1024) :
    iblk m c 4 t (ix3 0 0 q) = V m c main_arg4 (ix3 ⟨t.val / 8, by have := lt64 t; omega⟩ 0 q) := by
  obtain ⟨e0, e1, e2⟩ := idx4 t
  show V m c main_arg4 (((cfg0.win 4).blk t).view.emb (ix3 0 0 q)) = _
  refine congrArg _ (funext fun a => Fin.ext ?_)
  match a with
  | ⟨0, _⟩ => show win0_4.index t (0 : Fin 3) * 1 + 1 * 0 = t.val / 8; omega
  | ⟨1, _⟩ => show win0_4.index t (1 : Fin 3) * 1 + 1 * 0 = 0; omega
  | ⟨2, _⟩ => show win0_4.index t (2 : Fin 3) * 1024 + 1 * q.val = q.val; omega

/-- The product's entries in a block are the array's. -/
theorem dot_blk (c : Dev nD) (t : Fin cfg0.N) (p : Fin 512) (q : Fin 1024) :
    dot (iblk m c 0 t) (iblk m c 1 t) p q = dot (V m c main_arg0) (V m c main_arg1) (row t p) q := by
  rw [blk1]
  exact Finset.sum_congr rfl fun k _ => congrArg (· * _) (blk0 m c t p k)

theorem factor_blk (c : Dev nD) (t : Fin cfg0.N) (p : Fin 512) :
    factor (iblk m c 0 t) (iblk m c 1 t) p = factor (V m c main_arg0) (V m c main_arg1) (row t p) := by
  unfold factor
  simp only [dot_blk]

/-- The entries a point stores are the result array's. -/
theorem out_at (c : Dev nD) (t : Fin cfg0.N) (p : Fin 512) (q : Fin 1024) :
    out0_5 (iblk m c 0 t) (iblk m c 1 t) (iblk m c 2 t) (iblk m c 3 t) (iblk m c 4 t) (ix2 p q)
      = result (V m c main_arg0) (V m c main_arg1) (V m c main_arg2) (V m c main_arg3) (V m c main_arg4) (ix2 (row t p) q) := by
  rw [out_eq, pay_at, dot_blk, factor_blk, blk2, blk3, blk4]
  have hb : (⟨t.val / 8, by have := lt64 t; omega⟩ : Fin 8) = ⟨(row t p).val / 4096 % 8, Nat.mod_lt _ (by decide)⟩ := Fin.ext (by
    have ht := lt64 t
    have hp := p.isLt
    show t.val / 8 = (512 * t.val + p.val) / 4096 % 8
    omega)
  rw [hb]
  rfl

/-- A block's index is this index of the array. -/
theorem emb5 (t : Fin cfg0.N) (p : Fin 512) (q : Fin 1024) : ((cfg0.win 5).blk t).view.emb (ix2 p q) = ix2 (row t p) q := by
  obtain ⟨e0, e1⟩ := idx5 t
  funext a
  refine Fin.ext ?_
  match a with
  | ⟨0, _⟩ => show win0_5.index t (0 : Fin 2) * 512 + 1 * p.val = 512 * t.val + p.val; omega
  | ⟨1, _⟩ => show win0_5.index t (1 : Fin 2) * 1024 + 1 * q.val = q.val; omega

/-- What a point writes back is its block of the result array. -/
theorem flushed_eq (c : Dev nD) (t : Fin cfg0.N) : (dats m 0 c).flushed 5 t
    = ((cfg0.win 5).blk t).view.read (Elt Ideal) (result (V m c main_arg0) (V m c main_arg1) (V m c main_arg2) (V m c main_arg3) (V m c main_arg4)) := by
  rw [flushed5]
  funext y
  refine Eq.trans (?_ : _ = out0_5 (iblk m c 0 t) (iblk m c 1 t) (iblk m c 2 t) (iblk m c 3 t) (iblk m c 4 t) y) ?_
  · rfl
  obtain ⟨p, q, rfl⟩ : ∃ (p : Fin 512) (q : Fin 1024), y = ix2 p q := ⟨y 0, y 1, funext fun a => by match a with | ⟨0, _⟩ => rfl | ⟨1, _⟩ => rfl⟩
  rw [out_at]
  exact congrArg (result _ _ _ _ _) (emb5 t p q).symm

/-- Every index of the result array is in some point's block. -/
theorem covered (i : S32768x1024.Idx) : ∃ t : Fin cfg0.N, (cfg0.win 5).flush t = true ∧ i ∈ ((cfg0.win 5).blk t).view.set := by
  have h0 : (i 0).val < 32768 := (i 0).isLt
  have h1 : (i 1).val < 1024 := (i 1).isLt
  have hN : cfg0.N = 64 := by decide
  obtain ⟨t, ht⟩ : ∃ t : Fin cfg0.N, t.val = (i 0).val / 512 := ⟨⟨(i 0).val / 512, by rw [hN]; omega⟩, rfl⟩
  refine ⟨t, flush0_5 _, ?_⟩
  obtain ⟨e0, e1⟩ := idx5 t
  show i ∈ ((View.whole main_v1).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- The result array after the run. -/
theorem final (c : Dev nD) : (dats m 0 c).arrAt 5 cfg0.N = result (m ((c : Thread nD τ).loc main_arg0)) (m ((c : Thread nD τ).loc main_arg1))
    (m ((c : Thread nD τ).loc main_arg2)) (m ((c : Thread nD τ).loc main_arg3)) (m ((c : Thread nD τ).loc main_arg4)) := by
  have h := (dats m 0 c).arrAt_eq_of_cover 5 _ (fun t _ => flushed_eq m c t) covered
  rw [V_main_arg0, V_main_arg1, V_main_arg2, V_main_arg3, V_main_arg4] at h
  exact h

end Cert.KernelDownIdeal.Down

namespace Cert.ReferenceDownIdeal.Down

open Cert.ReferenceDownIdeal Cert.ReferenceDownIdeal.Gen
open Idealize.ShloMosaic Idealize.ShloMosaic.TcCoe Idealize.SL.Sem
open Cert.KernelDownIdeal.Down (dot factor)

/-- The reference's product. -/
def proj (a0 : Vec Ideal S32768x2816 .bf16) (a1 : Vec Ideal S2816x1024 .bf16) : FVec Ideal S8x4096x1024 .f32 :=
  Host.dotGeneral dot_S8x4096x2816_S2816x1024_S8x4096x1024_2_0_01_1_n_n none (show FVec Ideal S8x4096x2816 .bf16 from shapeCast S8x4096x2816 a0 shapeCasts_S32768x2816_S8x4096x2816) (show FVec Ideal S2816x1024 .bf16 from a1)

/-- The reference's row factors. -/
def root (f : FVec Ideal S8x4096x1024 .f32) : FVec Ideal S8x4096x1 .f32 :=
  Host.rsqrt (addf (Host.divf (broadcastInDim S8x4096x1 ![0, 1] bcast_S8x4096_S8x4096x1_0_1 (Host.reduceAdd (mulf f f) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))

/-- The reference's result, by batch and row. -/
def cube (f x : FVec Ideal S8x4096x1024 .f32) (g : FVec Ideal S1024 .f32) (t : FVec Ideal S8x1x1024 .f32) : FVec Ideal S8x4096x1024 .f32 :=
  addf x (mulf (broadcastInDim S8x4096x1024 ![0, 1, 2] bcast_S8x1x1024_S8x4096x1024_0_1_2 t) (mulf (mulf f (broadcastInDim S8x4096x1024 ![0, 1, 2] bcast_S8x4096x1_S8x4096x1024_0_1_2 (root f))) (broadcastInDim S8x4096x1024 ![0, 1, 2] bcast_S1x1x1024_S8x4096x1024_0_1_2 (broadcastInDim S1x1x1024 ![2] bcast_S1024_S1x1x1024_2 g))))

/-- The reference's result as the run leaves it. -/
def value (a0 : Vec Ideal S32768x2816 .bf16) (a1 : Vec Ideal S2816x1024 .bf16) (a2 : Vec Ideal S32768x1024 .f32) (a3 : Vec Ideal S1024 .f32)
    (a4 : Vec Ideal S8x1x1024 .f32) : Vec Ideal S32768x1024 .f32 :=
  shapeCast S32768x1024 (cube (proj a0 a1) (shapeCast S8x4096x1024 a2 shapeCasts_S32768x1024_S8x4096x1024) a3 a4) shapeCasts_S8x4096x1024_S32768x1024

/-- An entry of the reference's result. -/
theorem value_at (a0 : Vec Ideal S32768x2816 .bf16) (a1 : Vec Ideal S2816x1024 .bf16) (a2 : Vec Ideal S32768x1024 .f32) (a3 : Vec Ideal S1024 .f32)
    (a4 : Vec Ideal S8x1x1024 .f32) (r : Fin 32768) (q : Fin 1024) : value a0 a1 a2 a3 a4 (ix2 r q) = Cert.KernelDownIdeal.Down.result a0 a1 a2 a3 a4 (ix2 r q) := by
  unfold value cube root proj
  pointwise
  have hb : (⟨r.val / 4096, by have := r.isLt; omega⟩ : Fin 8) = ⟨r.val / 4096 % 8, Nat.mod_lt _ (by decide)⟩ := Fin.ext (by
    have hr := r.isLt
    show r.val / 4096 = r.val / 4096 % 8
    omega)
  rw [hb]
  rfl

/-- The reference's result is the kernel's. -/
theorem value_eq (a0 : Vec Ideal S32768x2816 .bf16) (a1 : Vec Ideal S2816x1024 .bf16) (a2 : Vec Ideal S32768x1024 .f32) (a3 : Vec Ideal S1024 .f32)
    (a4 : Vec Ideal S8x1x1024 .f32) : value a0 a1 a2 a3 a4 = Cert.KernelDownIdeal.Down.result a0 a1 a2 a3 a4 := by
  funext j
  obtain ⟨r, q, rfl⟩ : ∃ (r : Fin 32768) (q : Fin 1024), j = ix2 r q := ⟨j 0, j 1, funext fun a => by match a with | ⟨0, _⟩ => rfl | ⟨1, _⟩ => rfl⟩
  exact value_at a0 a1 a2 a3 a4 r q

/-- The reference's run leaves `value` of its arguments. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = value (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) :=
  (θ_run defs _ _).mono (fun r h c => (h c).1) (Cert.ReferenceDownIdeal.Value.run m ρ)

end Cert.ReferenceDownIdeal.Down

end
-- ==== Proof.Up.FrameBody.lean ====
/- The gated up-projection's body as printed, run once on any staging buffers: it only overwrites its result and its two carried blocks. -/
module

public import proofs.«01_k».proof.Proof.Gen.KernelUp.Frame
public import proofs.«01_k».proof.Proof.Gen.KernelUp.Skeleton
public import Idealize.ShloMosaic.Lib.Tactic

@[expose] public section

set_option maxRecDepth 16384

noncomputable section

namespace Cert.KernelUp.Up

open Idealize.ShloMosaic Idealize.ShloMosaic.TcCoe Idealize.ShloMosaic.Tactic Cert.KernelUp Cert.KernelUp.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- A buffer held is a buffer holding something. -/
theorem some_contents (c : Dev nD) {s : Shape} {e : EltTy} (arg : Memref sig .tc .vmem s e) (f : BufTy.Contents (Elt F) arg.view.ty) :
    (iprop(arg.view.loc (c : Thread nD τ) ↦[arg.view.set]{fullShare} f) : sProp 𝕄G)
      ⊢ iprop(∃ d, ∃ f', ⌜arg.view.read (Elt F) f' = d⌝ ∗ (arg.view.loc (c : Thread nD τ) ↦[arg.view.set]{fullShare} f')) := by
  iintro H
  iexists (arg.view.read (Elt F) f)
  iexists f
  isplitr
  · ipureintro; exact rfl
  · iexact H

/-- A buffer held at contents that read as a block is owned at that block. -/
theorem at_block (c : Dev nD) {s : Shape} {e : EltTy} (arg : Memref sig .tc .vmem s e) (f : BufTy.Contents (Elt F) arg.view.ty)
    (x : s.Idx → Elt F e) (h : arg.view.read (Elt F) f = x) :
    (iprop(arg.view.loc (c : Thread nD τ) ↦[arg.view.set]{fullShare} f) : sProp 𝕄G)
      ⊢ iprop(∃ f', ⌜arg.view.read (Elt F) f' = x⌝ ∗ (arg.view.loc (c : Thread nD τ) ↦[arg.view.set]{fullShare} f')) := by
  iintro H
  iexists f
  isplitr
  · ipureintro; exact h
  · iexact H

set_option maxHeartbeats 40000000 in
/-- The body: it leaves the eight blocks it reads as they are. -/
theorem kernelRun (c : Dev nD) (i : grid0.Coords)
    (arg1 : Memref sig .tc .vmem S256x1024 .f32) (harg1 : arg1.IsWhole) (arg2 : Memref sig .tc .vmem S1x1024 .f32) (harg2 : arg2.IsWhole)
    (arg3 : Memref sig .tc .vmem S1x1x1024 .f32) (harg3 : arg3.IsWhole) (arg4 : Memref sig .tc .vmem S1x1x1024 .f32) (harg4 : arg4.IsWhole)
    (arg5 : Memref sig .tc .vmem S1024x2816 .bf16) (harg5 : arg5.IsWhole) (arg6 : Memref sig .tc .vmem S1024x2816 .bf16) (harg6 : arg6.IsWhole)
    (arg7 : Memref sig .tc .vmem S3x5632 .f32) (harg7 : arg7.IsWhole) (arg8 : Memref sig .tc .vmem S1x5632 .f32) (harg8 : arg8.IsWhole)
    (arg9 : Memref sig .tc .vmem S256x2816 .bf16) (harg9 : arg9.IsWhole) (arg10 : Memref sig .tc .vmem S8x2816 .f32) (harg10 : arg10.IsWhole)
    (arg11 : Memref sig .tc .vmem S8x2816 .f32) (harg11 : arg11.IsWhole)
    (x1 : S256x1024.Idx → Elt F .f32) (x2 : S1x1024.Idx → Elt F .f32) (x3 : S1x1x1024.Idx → Elt F .f32) (x4 : S1x1x1024.Idx → Elt F .f32)
    (x5 : S1024x2816.Idx → Elt F .bf16) (x6 : S1024x2816.Idx → Elt F .bf16) (x7 : S3x5632.Idx → Elt F .f32) (x8 : S1x5632.Idx → Elt F .f32)
    (K : PUnit → sProp 𝕄G) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ (∃ d, owns (c : Thread nD τ) arg9 fullShare d) ∗ (∃ d, owns (c : Thread nD τ) arg10 fullShare d)
            ∗ (∃ d, owns (c : Thread nD τ) arg11 fullShare d)) -∗ K ⟨⟩))
      ⊢ wp frame (wpE (defs₀ (F := F)) Variants.none c none) Set.univ
          (cc0_ffn_up i arg1 harg1 arg2 harg2 arg3 harg3 arg4 harg4 arg5 harg5 arg6 harg6 arg7 harg7 arg8 harg8 arg9 harg9 arg10 harg10 arg11 harg11) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, Hk⟩
  simp only [cc0_ffn_up_eq_skeleton]; unfold cc0_ffn_up_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part31_eq_skeleton, k0_part32_eq_skeleton]
  sl_exec
  sl_step
  iapply Hk
  isplitl [H1]; · iapply (at_block c arg1 _ x1 h1); iexact H1
  isplitl [H2]; · iapply (at_block c arg2 _ x2 h2); iexact H2
  isplitl [H3]; · iapply (at_block c arg3 _ x3 h3); iexact H3
  isplitl [H4]; · iapply (at_block c arg4 _ x4 h4); iexact H4
  isplitl [H5]; · iapply (at_block c arg5 _ x5 h5); iexact H5
  isplitl [H6]; · iapply (at_block c arg6 _ x6 h6); iexact H6
  isplitl [H7]; · iapply (at_block c arg7 _ x7 h7); iexact H7
  isplitl [H8]; · iapply (at_block c arg8 _ x8 h8); iexact H8
  isplitl [H9]; · iapply (some_contents c arg9 _); iexact H9
  isplitl [H10]; · iapply (some_contents c arg10 _); iexact H10
  · iapply (some_contents c arg11 _); iexact H11

end Cert.KernelUp.Up

end
-- ==== Proof.Up.FrameRun.lean ====
/- The pipeline's data of the gated up-projection and the whole program's run. -/
module

public import proofs.«01_k».proof.Proof.Up.FrameBody
public import proofs.«01_k».proof.Proof.Gen.KernelUp.Frame
public import Idealize.ShloMosaic.Lib.Tactic

@[expose] public section

set_option maxRecDepth 16384

noncomputable section

namespace Cert.KernelUp.Up

open Cert.KernelUp Cert.KernelUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra of the frame kit. -/
local notation "𝕄G" => MT nD τ sig Unit (Elt F) ℕ (UR sig nD τ) ℕ

variable (m : (ℓ : Loc nD τ sig) → Buf (Elt F) ℓ) (ρ : Dev nD → PrngReg)

/-- What the body leaves in the result is not said. -/
def forgets0 : Fin 9 → Bool := fun w => w == 8

/-- The pipeline's data: the arrays as found; after the body the inputs' buffers at their blocks; of the result's nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
  Φ _ := Pipeline.ΦA spec0 c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The invariant between points: the two scratch buffers at anything, and the generator's register. -/
theorem inv_eq (c : Dev nD) : (Pipeline.ΦA spec0 c : sProp 𝕄G)
    = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA
  rw [scopedRest0_eq]; simp only [owns_whole]; try rfl

/-- The body at every point does what the data say. -/
theorem body_obligation (c : Dev nD) : BodyObligation (dats (F := F) m 0 c) (defs₀ (F := F)) Variants.none () Set.univ forgets0 := fun t => by
  rw [bigSep_W0, bigSep_W0]
  sl_whnfR [defs₀, Defs.onTc]
  simp only [show forgets0 0 = false from rfl, show forgets0 1 = false from rfl, show forgets0 2 = false from rfl, show forgets0 3 = false from rfl, show forgets0 4 = false from rfl, show forgets0 5 = false from rfl, show forgets0 6 = false from rfl, show forgets0 7 = false from rfl,
    show forgets0 8 = true from rfl, before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq, after0_0, after0_1, after0_2, after0_3, after0_4, after0_5, after0_6, after0_7]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (kernelRun c (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]; · iexact HS0
      iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
/-- The whole program's run: every weakly fair execution ends, with every array but the result as found and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := fun _ _ => rfl) (hΦ := fun _ _ => rfl)

variable {m ρ}

/-- After the run every input array holds what it held. -/
theorem final_in {r : PUnit × MemSt nD τ sig (Elt F)}
    (h : Pipeline.RDat.FramePost (cfgs 0) (fun c => (dats (F := F) m 0 c).toRForget forgets0) (V m) r) (c : Dev nD) (w : Fin 9)
    (hf : forgets0 w = false) (hw : ((cfgs 0).win w).isOut = false) :
    r.2.mem (((cfgs 0).spec w).arr.view.loc (c.tc : Thread nD τ)) = V m c (Pipeline.arrRef spec0 w) :=
  (((dats m 0 c).toRForget_arrAt_iff hf _ _).mp ((h c).1 w)).trans ((dats m 0 c).arrAt_in w hw _)

end Cert.KernelUp.Up

end
-- ==== Proof.Up.Body.lean ====
/- The gated up-projection's body, run once on any staging buffers: what it leaves in its result and its two carried blocks. -/
module

public import proofs.«01_k».proof.Proof.Gen.KernelUpIdeal.Frame
public import proofs.«01_k».proof.Proof.Gen.KernelUpIdeal.Skeleton
public import Idealize.ShloMosaic.Lib.Tactic
public import Idealize.ShloMosaic.Lib.Pointwise

@[expose] public section

set_option maxRecDepth 16384

noncomputable section

namespace Cert.KernelUpIdeal.Up

open Idealize.ShloMosaic Idealize.ShloMosaic.TcCoe Idealize.ShloMosaic.Tactic Cert.KernelUpIdeal Cert.KernelUpIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- A buffer held at contents that read as a block is owned at that block. -/
theorem at_block (c : Dev nD) {s : Shape} {e : EltTy} (arg : Memref sig .tc .vmem s e) (f : BufTy.Contents (Elt F) arg.view.ty)
    (x : s.Idx → Elt F e) (h : arg.view.read (Elt F) f = x) :
    (iprop(arg.view.loc (c : Thread nD τ) ↦[arg.view.set]{fullShare} f) : sProp 𝕄G)
      ⊢ iprop(∃ f', ⌜arg.view.read (Elt F) f' = x⌝ ∗ (arg.view.loc (c : Thread nD τ) ↦[arg.view.set]{fullShare} f')) := by
  iintro H
  iexists f
  isplitr
  · ipureintro; exact h
  · iexact H

/-! ## One column block -/

/-- The windows a column block reads and stores: 256 columns of the weights, of a carried block, of the result, of the taps, of the bias. -/
abbrev rW (c : Fin 11) : Rect S1024x2816 := Rect.unit (s := S1024x2816) ![0, 256 * c.val] S1024x256.size fun a => by
  have := c.isLt; match a with | ⟨0, _⟩ => exact Nat.le_refl _ | ⟨1, _⟩ => show 256 * c.val + 256 ≤ 2816; omega
abbrev rS (c : Fin 11) : Rect S8x2816 := Rect.unit (s := S8x2816) ![0, 256 * c.val] S8x256.size fun a => by
  have := c.isLt; match a with | ⟨0, _⟩ => exact Nat.le_refl _ | ⟨1, _⟩ => show 256 * c.val + 256 ≤ 2816; omega
abbrev rO (c : Fin 11) : Rect S256x2816 := Rect.unit (s := S256x2816) ![0, 256 * c.val] S256x256.size fun a => by
  have := c.isLt; match a with | ⟨0, _⟩ => exact Nat.le_refl _ | ⟨1, _⟩ => show 256 * c.val + 256 ≤ 2816; omega
abbrev rT (k : Fin 3) (d : Fin 22) : Rect S3x5632 := Rect.unit (s := S3x5632) ![k.val, 256 * d.val] S1x256.size fun a => by
  have := d.isLt; have := k.isLt
  match a with | ⟨0, _⟩ => show k.val + 1 ≤ 3; omega | ⟨1, _⟩ => show 256 * d.val + 256 ≤ 5632; omega
abbrev rB (d : Fin 22) : Rect S1x5632 := Rect.unit (s := S1x5632) ![0, 256 * d.val] S1x256.size fun a => by
  have := d.isLt; match a with | ⟨0, _⟩ => exact Nat.le_refl _ | ⟨1, _⟩ => show 256 * d.val + 256 ≤ 5632; omega

/-- The gate's column block and the value's, among the 22 of the taps. -/
abbrev gateCol (c : Fin 11) : Fin 22 := ⟨c.val, by have := c.isLt; omega⟩
abbrev valCol (c : Fin 11) : Fin 22 := ⟨11 + c.val, by have := c.isLt; omega⟩

/-- Whether the point is a batch's first, as the body computes it. -/
def first (i : grid0.Coords) : BitVec 1 :=
  let v0 : BitVec 1 := Scalar.cmpi .eq 16#32 0#32
  let v1 : BitVec 32 := Scalar.select v0 1#32 16#32
  let v2 : BitVec 32 := Scalar.remsi (BitVec.ofNat 32 (i 0).val) v1
  let v3 : BitVec 1 := Scalar.cmpi .ne v2 0#32
  let v4 : BitVec 1 := Scalar.cmpi .slt v2 0#32
  let v5 : BitVec 1 := Scalar.cmpi .slt v1 0#32
  Scalar.cmpi .eq (Scalar.select (Scalar.andi (Scalar.xori v4 v5) v3) (Scalar.addi v2 v1) v2) 0#32

/-- A column block of the projection. -/
def up (h : FVec F S256x1024 .bf16) (w : Vec F S1024x256 .bf16) : FVec F S256x256 .f32 :=
  matmul dot_S256x1024_S1024x256_S256x256_1_0_0_1_n_n none h w (constant S256x256 .f32 0x00000000#32)

/-- The rows carried to the next point. -/
def tail (u : FVec F S256x256 .f32) : FVec F S8x256 .f32 :=
  shapeCast S8x256 (extractStridedSlice S8x256 ![248, 0] u slices_S256x256_o248_0_S8x256) shapeCasts_S8x256_S8x256

/-- A carried row, zero at a batch's first point. -/
def carried (f : BitVec 1) (r : FVec F S1x256 .f32) : FVec F S8x256 .f32 :=
  broadcastTo S8x256 (shapeCast S1x256 (Scalar.select f (broadcast S1x256 (Scalar.ofBits .f32 0x00000000#32 : F .f32)) r : FVec F S1x256 .f32) shapeCasts_S1x256_S1x256) broadcasts_S1x256_S8x256

/-- Which row of eight is row `n`. -/
def isRow (n : BitVec 32) : IVec S8x256 1 := cmpi .eq (iota .tc S8x256 32 [0] iota_S8x256_d0_w32) (broadcast S8x256 n)

/-- The first eight rows replaced. -/
def patch (t : FVec F S8x256 .f32) (r : FVec F S256x256 .f32) : FVec F S256x256 .f32 :=
  concatenate S256x256 0 [⟨S8x256, t⟩, ⟨S248x256, extractStridedSlice S248x256 ![8, 0] r slices_S256x256_o8_0_S248x256⟩] concatenates_S8x256_S248x256_S256x256_d0

/-- The rows one up. -/
def back1 (f : BitVec 1) (u : FVec F S256x256 .f32) (p : Vec F S8x256 .f32) : FVec F S256x256 .f32 :=
  patch (select (isRow 0#32) (carried f (extractStridedSlice S1x256 ![7, 0] p slices_S8x256_o7_0_S1x256))
    (extractStridedSlice S8x256 ![0, 0] (dynamicRotate 0 1#32 none u rotates_S256x256_d0) slices_S256x256_o0_0_S8x256)) (dynamicRotate 0 1#32 none u rotates_S256x256_d0)

/-- The rows two up. -/
def back2 (f : BitVec 1) (u : FVec F S256x256 .f32) (p : Vec F S8x256 .f32) : FVec F S256x256 .f32 :=
  patch (select (isRow 0#32) (carried f (extractStridedSlice S1x256 ![6, 0] p slices_S8x256_o6_0_S1x256))
    (select (isRow 1#32) (carried f (extractStridedSlice S1x256 ![7, 0] p slices_S8x256_o7_0_S1x256))
      (extractStridedSlice S8x256 ![0, 0] (dynamicRotate 0 2#32 none u rotates_S256x256_d0) slices_S256x256_o0_0_S8x256))) (dynamicRotate 0 2#32 none u rotates_S256x256_d0)

/-- A row of taps or of the bias under every row. -/
def rows (w : Vec F S1x256 .f32) : FVec F S256x256 .f32 := broadcastTo S256x256 w broadcasts_S1x256_S256x256

/-- The convolution of a column block. -/
def conv (f : BitVec 1) (u : FVec F S256x256 .f32) (p : Vec F S8x256 .f32) (w0 w1 w2 b : Vec F S1x256 .f32) : FVec F S256x256 .f32 :=
  addf (addf (addf (mulf (rows w0) (back2 f u p)) (mulf (rows w1) (back1 f u p))) (mulf (rows w2) u)) (rows (shapeCast S1x256 b shapeCasts_S1x256_S1x256))

/-- The GELU, as the body computes it. -/
def gelu (x : FVec F S256x256 .f32) : FVec F S256x256 .f32 :=
  mulf (mulf (broadcast S256x256 (Scalar.ofBits .f32 0x3F000000#32)) x) (addf (broadcast S256x256 (Scalar.ofBits .f32 0x3F800000#32)) (tanh (mulf (broadcast S256x256 (Scalar.ofBits .f32 0x3F4C422A#32))
    (addf x (mulf (broadcast S256x256 (Scalar.ofBits .f32 0x3D372713#32)) (mulf (mulf x x) x))))))

/-- The normed and modulated rows. -/
def normed (x1 : Vec F S256x1024 .f32) (x2 : Vec F S1x1024 .f32) (x3 x4 : Vec F S1x1x1024 .f32) : FVec F S256x1024 .bf16 :=
  k0_pay2 (View.ld x1 (Rect.unit (s := S256x1024) ![0, 0] S256x1024.size inb_S256x1024_S256x1024_0_0)) (View.ld x2 (Rect.unit (s := S1x1024) ![0, 0] S1x1024.size inb_S1x1024_S1x1024_0_0))
    (View.ld x3 (Rect.unit (s := S1x1x1024) ![0, 0, 0] S1x1x1024.size inb_S1x1x1024_S1x1x1024_0_0_0)) (View.ld x4 (Rect.unit (s := S1x1x1024) ![0, 0, 0] S1x1x1024.size inb_S1x1x1024_S1x1x1024_0_0_0))

/-- A half's column block after the convolution. -/
def half (f : BitVec 1) (h : FVec F S256x1024 .bf16) (w : Vec F S1024x2816 .bf16) (x7 : Vec F S3x5632 .f32) (x8 : Vec F S1x5632 .f32) (s : Vec F S8x2816 .f32)
    (c : Fin 11) (d : Fin 22) : FVec F S256x256 .f32 :=
  conv f (up h (View.ld w (rW c))) (View.ld s (rS c)) (View.ld x7 (rT 0 d)) (View.ld x7 (rT 1 d)) (View.ld x7 (rT 2 d)) (View.ld x8 (rB d))

/-- What the body stores of its result in a column block. -/
def sub (f : BitVec 1) (h : FVec F S256x1024 .bf16) (x5 x6 : Vec F S1024x2816 .bf16) (x7 : Vec F S3x5632 .f32) (x8 : Vec F S1x5632 .f32) (s0 s1 : Vec F S8x2816 .f32)
    (c : Fin 11) : FVec F S256x256 .bf16 :=
  truncf .bf16 (mulf (gelu (half f h x5 x7 x8 s0 c (gateCol c))) (half f h x6 x7 x8 s1 c (valCol c))) bitsLt_bf16_f32

/-- What it stores of a carried block there. -/
def keep (h : FVec F S256x1024 .bf16) (w : Vec F S1024x2816 .bf16) (c : Fin 11) : FVec F S8x256 .f32 := tail (up h (View.ld w (rW c)))

/-- Eleven column blocks side by side. -/
def glue {α : Type} {n : ℕ} (f : Fin 11 → Shape.Idx ⟨2, ![n, 256]⟩ → α) : Shape.Idx ⟨2, ![n, 2816]⟩ → α := fun y =>
  f ⟨(y 1).val / 256, by have : (y 1).val < 2816 := (y 1).isLt; omega⟩ (ix2 (y 0) ⟨(y 1).val % 256, Nat.mod_lt _ (by decide)⟩)

/-- An entry of a column block, placed. -/
theorem glue_at {α : Type} {n : ℕ} (f : Fin 11 → Shape.Idx ⟨2, ![n, 256]⟩ → α) (c : Fin 11) (x : Shape.Idx ⟨2, ![n, 256]⟩) (y : Shape.Idx ⟨2, ![n, 2816]⟩)
    (h0 : (y 0).val = (x 0).val) (h1 : (y 1).val = 256 * c.val + (x 1).val) : f c x = glue f y := by
  have hx : (x 1).val < 256 := (x 1).isLt
  unfold glue
  refine congrArg₂ f (Fin.ext ?_) (funext fun a => Fin.ext ?_)
  · show c.val = (y 1).val / 256
    omega
  · match a with
    | ⟨0, _⟩ => exact h0.symm
    | ⟨1, _⟩ => show (x 1).val = (y 1).val % 256; omega

/-- An entry of the result's column block, where it is stored. -/
theorem glue_out {α : Type} (f : Fin 11 → S256x256.Idx → α) (c : Fin 11) (x : S256x256.Idx) : f c x = glue f ((rO c).emb x) :=
  glue_at f c x _ (show 0 + 1 * (x 0).val = (x 0).val by omega) (show 256 * c.val + 1 * (x 1).val = 256 * c.val + (x 1).val by omega)

/-- An entry of a carried column block, where it is stored. -/
theorem glue_keep {α : Type} (f : Fin 11 → S8x256.Idx → α) (c : Fin 11) (x : S8x256.Idx) : f c x = glue f ((rS c).emb x) :=
  glue_at f c x _ (show 0 + 1 * (x 0).val = (x 0).val by omega) (show 256 * c.val + 1 * (x 1).val = 256 * c.val + (x 1).val by omega)

set_option maxHeartbeats 40000000 in
/-- The body: its result's column blocks and what it carries, the eight blocks it reads left as they are. -/
theorem kernelRun (c : Dev nD) (i : grid0.Coords)
    (arg1 : Memref sig .tc .vmem S256x1024 .f32) (harg1 : arg1.IsWhole) (arg2 : Memref sig .tc .vmem S1x1024 .f32) (harg2 : arg2.IsWhole)
    (arg3 : Memref sig .tc .vmem S1x1x1024 .f32) (harg3 : arg3.IsWhole) (arg4 : Memref sig .tc .vmem S1x1x1024 .f32) (harg4 : arg4.IsWhole)
    (arg5 : Memref sig .tc .vmem S1024x2816 .bf16) (harg5 : arg5.IsWhole) (arg6 : Memref sig .tc .vmem S1024x2816 .bf16) (harg6 : arg6.IsWhole)
    (arg7 : Memref sig .tc .vmem S3x5632 .f32) (harg7 : arg7.IsWhole) (arg8 : Memref sig .tc .vmem S1x5632 .f32) (harg8 : arg8.IsWhole)
    (arg9 : Memref sig .tc .vmem S256x2816 .bf16) (harg9 : arg9.IsWhole) (arg10 : Memref sig .tc .vmem S8x2816 .f32) (harg10 : arg10.IsWhole)
    (arg11 : Memref sig .tc .vmem S8x2816 .f32) (harg11 : arg11.IsWhole)
    (x1 : S256x1024.Idx → Elt F .f32) (x2 : S1x1024.Idx → Elt F .f32) (x3 : S1x1x1024.Idx → Elt F .f32) (x4 : S1x1x1024.Idx → Elt F .f32)
    (x5 : S1024x2816.Idx → Elt F .bf16) (x6 : S1024x2816.Idx → Elt F .bf16) (x7 : S3x5632.Idx → Elt F .f32) (x8 : S1x5632.Idx → Elt F .f32)
    (s0 s1 : S8x2816.Idx → Elt F .f32) (K : PUnit → sProp 𝕄G) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d) ∗ owns (c : Thread nD τ) arg10 fullShare s0 ∗ owns (c : Thread nD τ) arg11 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (glue (sub (first i) (normed x1 x2 x3 x4) x5 x6 x7 x8 s0 s1))
            ∗ owns (c : Thread nD τ) arg10 fullShare (glue (keep (normed x1 x2 x3 x4) x5))
            ∗ owns (c : Thread nD τ) arg11 fullShare (glue (keep (normed x1 x2 x3 x4) x6))) -∗ K ⟨⟩))
      ⊢ wp frame (wpE (defs₀ (F := F)) Variants.none c none) Set.univ
          (cc0_ffn_up i arg1 harg1 arg2 harg2 arg3 harg3 arg4 harg4 arg5 harg5 arg6 harg6 arg7 harg7 arg8 harg8 arg9 harg9 arg10 harg10 arg11 harg11) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%f10, %h10, H10⟩, ⟨%f11, %h11, H11⟩, Hk⟩
  subst h1 h2 h3 h4 h5 h6 h7 h8 h10 h11
  simp only [cc0_ffn_up_eq_skeleton]; unfold cc0_ffn_up_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part31_eq_skeleton, k0_part32_eq_skeleton]
  sl_exec
  sl_step
  iapply Hk
  isplitl [H1]; · iapply (at_block c arg1 _ _ rfl); iexact H1
  isplitl [H2]; · iapply (at_block c arg2 _ _ rfl); iexact H2
  isplitl [H3]; · iapply (at_block c arg3 _ _ rfl); iexact H3
  isplitl [H4]; · iapply (at_block c arg4 _ _ rfl); iexact H4
  isplitl [H5]; · iapply (at_block c arg5 _ _ rfl); iexact H5
  isplitl [H6]; · iapply (at_block c arg6 _ _ rfl); iexact H6
  isplitl [H7]; · iapply (at_block c arg7 _ _ rfl); iexact H7
  isplitl [H8]; · iapply (at_block c arg8 _ _ rfl); iexact H8
  isplitl [H9]
  · iexists _; isplitr
    rotate_left
    · iexact H9
    · ipureintro
      funext y
      refine View.read_writes_apply_of_pieces _ _ _ _ ?_ y ?_
      · simp only [List.forall_mem_cons]
        have g := glue_out (sub (first i) (normed (arg1.view.read (Elt F) f1) (arg2.view.read (Elt F) f2) (arg3.view.read (Elt F) f3) (arg4.view.read (Elt F) f4)) (arg5.view.read (Elt F) f5) (arg6.view.read (Elt F) f6) (arg7.view.read (Elt F) f7) (arg8.view.read (Elt F) f8) (arg10.view.read (Elt F) f10) (arg11.view.read (Elt F) f11))
        exact ⟨g 10, g 9, g 8, g 7, g 6, g 5, g 4, g 3, g 2, g 1, g 0, fun _ h => absurd h List.not_mem_nil⟩
      · exact View.cover_of_tiledL (s := S256x2816) _ ![256, 256] rfl y
  isplitl [H10]
  · iexists _; isplitr
    rotate_left
    · iexact H10
    · ipureintro
      funext y
      refine View.read_writes_apply_of_pieces _ _ _ _ ?_ y ?_
      · simp only [List.forall_mem_cons]
        have g := glue_keep (keep (normed (arg1.view.read (Elt F) f1) (arg2.view.read (Elt F) f2) (arg3.view.read (Elt F) f3) (arg4.view.read (Elt F) f4)) (arg5.view.read (Elt F) f5))
        exact ⟨g 10, g 9, g 8, g 7, g 6, g 5, g 4, g 3, g 2, g 1, g 0, fun _ h => absurd h List.not_mem_nil⟩
      · exact View.cover_of_tiledL (s := S8x2816) _ ![8, 256] rfl y
  · iexists _; isplitr
    rotate_left
    · iexact H11
    · ipureintro
      funext y
      refine View.read_writes_apply_of_pieces _ _ _ _ ?_ y ?_
      · simp only [List.forall_mem_cons]
        have g := glue_keep (keep (normed (arg1.view.read (Elt F) f1) (arg2.view.read (Elt F) f2) (arg3.view.read (Elt F) f3) (arg4.view.read (Elt F) f4)) (arg6.view.read (Elt F) f6))
        exact ⟨g 10, g 9, g 8, g 7, g 6, g 5, g 4, g 3, g 2, g 1, g 0, fun _ h => absurd h List.not_mem_nil⟩
      · exact View.cover_of_tiledL (s := S8x2816) _ ![8, 256] rfl y

end Cert.KernelUpIdeal.Up

end
-- ==== Proof.Up.Run.lean ====
/- The pipeline's data of the gated up-projection, with what its two carried blocks hold between points, and the whole program's run. -/
module

public import proofs.«01_k».proof.Proof.Up.Body
public import Idealize.ShloMosaic.Lib.Tactic

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra of the frame kit. -/
local notation "𝕄G" => MT nD τ sig Unit (Elt F) ℕ (UR sig nD τ) ℕ

variable (m : (ℓ : Loc nD τ sig) → Buf (Elt F) ℓ) (ρ : Dev nD → PrngReg)

/-- A batch's first point is the one at a multiple of sixteen. -/
theorem first_eq : ∀ t : Fin cfg0.N, first (grid0.coords t) = if t.val % 16 = 0 then 1#1 else 0#1 :=
  (by decide +kernel : ∀ t : Fin grid0.N, _)

/-- A batch's first point does not see the carried blocks. -/
theorem carried_first (r r' : FVec F S1x256 .f32) : carried 1#1 r = carried 1#1 r' := by
  funext j; unfold carried; rfl

theorem conv_first (u : FVec F S256x256 .f32) (p p' : Vec F S8x256 .f32) (w0 w1 w2 b : Vec F S1x256 .f32) :
    conv 1#1 u p w0 w1 w2 b = conv 1#1 u p' w0 w1 w2 b := by
  unfold conv back1 back2
  rw [carried_first (extractStridedSlice S1x256 ![7, 0] p slices_S8x256_o7_0_S1x256) (extractStridedSlice S1x256 ![7, 0] p' slices_S8x256_o7_0_S1x256),
    carried_first (extractStridedSlice S1x256 ![6, 0] p slices_S8x256_o6_0_S1x256) (extractStridedSlice S1x256 ![6, 0] p' slices_S8x256_o6_0_S1x256)]

theorem sub_first (h : Vec F S256x1024 .bf16) (x5 x6 : S1024x2816.Idx → Elt F .bf16) (x7 : S3x5632.Idx → Elt F .f32)
    (x8 : S1x5632.Idx → Elt F .f32) (s0 s1 s0' s1' : S8x2816.Idx → Elt F .f32) :
    sub 1#1 h x5 x6 x7 x8 s0 s1 = sub 1#1 h x5 x6 x7 x8 s0' s1' := by
  funext c
  unfold sub half
  rw [conv_first _ (View.ld s0 (rS c)) (View.ld s0' (rS c)), conv_first _ (View.ld s1 (rS c)) (View.ld s1' (rS c))]

/-- The rows' normed and modulated activations at a point. -/
def hidden (c : Dev nD) (t : Fin cfg0.N) : Vec F S256x1024 .bf16 := normed (iblk m c 0 t) (iblk m c 1 t) (iblk m c 2 t) (iblk m c 3 t)

/-- What the two carried blocks hold after a point: the last rows of the gate's product and of the value's. -/
def gateKept (c : Dev nD) (t : Fin cfg0.N) : S8x2816.Idx → Elt F .f32 := glue (keep (hidden m c t) (iblk m c 4 t))
def valKept (c : Dev nD) (t : Fin cfg0.N) : S8x2816.Idx → Elt F .f32 := glue (keep (hidden m c t) (iblk m c 5 t))

/-- What a carried block holds before a point: what the point before left; before the first, a zero block nothing reads. -/
def prev (f : Fin cfg0.N → S8x2816.Idx → Elt F .f32) (t : Fin cfg0.N) : S8x2816.Idx → Elt F .f32 :=
  if t.val = 0 then fun _ => Scalar.ofBits .f32 0#32 else f ⟨t.val - 1, lt_of_le_of_lt (Nat.sub_le _ _) t.isLt⟩

/-- The block of the result a point leaves. -/
def outv (c : Dev nD) (t : Fin cfg0.N) : S256x2816.Idx → Elt F .bf16 :=
  glue (sub (first (grid0.coords t)) (hidden m c t) (iblk m c 4 t) (iblk m c 5 t) (iblk m c 6 t) (iblk m c 7 t)
    (prev (gateKept m c) t) (prev (valKept m c) t))

/-- The invariant before position `n`: at first every scratch at anything; afterwards the carried blocks at what the point before left. -/
def PhiS (c : Dev nD) : (n : ℕ) → n ≤ cfg0.N → sProp 𝕄G
  | 0, _ => Pipeline.ΦA spec0 c
  | n + 1, hn => iprop((owns (c : Thread nD τ) (Memref.whole cc0_scratch0) fullShare (gateKept m c ⟨n, hn⟩)
      ∗ owns (c : Thread nD τ) (Memref.whole cc0_scratch1) fullShare (valKept m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop((owns (c : Thread nD τ) (Memref.whole cc0_scratch0) fullShare (gateKept m c ⟨n - 1, by omega⟩)
      ∗ owns (c : Thread nD τ) (Memref.whole cc0_scratch1) fullShare (valKept m c ⟨n - 1, by omega⟩)) ∗ (∃ r, prngReg c r)) := by
  cases n with
  | zero => exact absurd rfl hz
  | succ n => rfl

/-- The pipeline's data: the arrays as found; after the body the inputs' buffers at their blocks and the result's at the point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outv m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outv m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Before the first point: the two scratch buffers at anything, and the generator's register. -/
theorem inv_eq (c : Dev nD) : (Pipeline.ΦA spec0 c : sProp 𝕄G)
    = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA
  rw [scopedRest0_eq]; simp only [owns_whole]; try rfl

/-- Before any point the carried blocks hold something from which the body computes the point's block. -/
theorem carried_in (c : Dev nD) (t : Fin cfg0.N) : (dats (F := F) m 0 c).Φ t.castSucc
    ⊢ iprop(∃ s0, ∃ s1, ⌜glue (sub (first (grid0.coords t)) (hidden m c t) (iblk m c 4 t) (iblk m c 5 t) (iblk m c 6 t) (iblk m c 7 t) s0 s1) = outv m c t⌝
      ∗ (owns (c : Thread nD τ) (Memref.whole cc0_scratch0) fullShare s0 ∗ owns (c : Thread nD τ) (Memref.whole cc0_scratch1) fullShare s1)
      ∗ (∃ r, prngReg c r)) := by
  rw [PhiS_castSucc]
  by_cases hz : t.val = 0
  · rw [PhiS_zero m c _ _ hz, inv_eq]
    iintro ⟨⟨⟨%s0, H0⟩, ⟨%s1, H1⟩⟩, Hg⟩
    iexists s0
    iexists s1
    isplitr
    · ipureintro
      unfold outv
      rw [show first (grid0.coords t) = 1#1 by rw [first_eq, hz]; rfl, sub_first _ _ _ _ _ s0 s1]
    isplitl [H0 H1]
    · isplitl [H0]; · iexact H0
      iexact H1
    · iexact Hg
  · rw [PhiS_pos m c _ _ hz]
    iintro ⟨HS, Hg⟩
    iexists _
    iexists _
    isplitr
    rotate_left
    · isplitl [HS]; · iexact HS
      iexact Hg
    · ipureintro
      unfold outv prev
      rw [if_neg hz, if_neg hz]

/-- The body at every point does what the data say. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4, before0_5, before0_6, before0_7]
  rw [show (dats m 0 c).Φ t.succ = iprop((owns (c : Thread nD τ) (Memref.whole cc0_scratch0) fullShare (gateKept m c t)
      ∗ owns (c : Thread nD τ) (Memref.whole cc0_scratch1) fullShare (valKept m c t)) ∗ (∃ r, prngReg c r)) from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ' := (carried_in m c t) $$ HΦ
  icases HΦ' with ⟨%s0, %s1, %hs, ⟨HS0, HS1⟩, Hg⟩
  rw [← hs]
  iapply (kernelRun c (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]; · iexact HS0
      iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- What the launch hands over is the invariant before the first point. -/
theorem hin (c : Dev nD) : Pipeline.ΦA spec0 c ⊢ (dats (F := F) m 0 c).Φ 0 := by
  rw [show (dats m 0 c).Φ 0 = PhiS m c 0 (Nat.zero_le _) from rfl, PhiS_zero m c 0 _ rfl]

/-- After the last point the carried blocks' contents are forgotten. -/
theorem hout (c : Dev nD) : (dats (F := F) m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 128 := N_0; omega), inv_eq]
  iintro ⟨⟨H0, H1⟩, Hg⟩
  isplitl [H0 H1]
  · isplitl [H0]
    · iexists _; iexact H0
    · iexists _; iexact H1
  · iexact Hg

set_option backward.isDefEq.respectTransparency.types false in
/-- The whole program's run: every weakly fair execution ends, with every array at what the data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.KernelUpIdeal.Up

end
-- ==== Proof.Up.Read.lean ====
/- The gated up-projection's body, read over the extended reals: the entries of the block it leaves. -/
module

public import proofs.«01_k».proof.Proof.Up.Run
public import proofs.«01_k».proof.Proof.In.Final
public import Idealize.ShloMosaic.Lib.Tactic
public import Idealize.ShloMosaic.Lib.Pointwise
public import Idealize.ShloMosaic.Lib.Pipeline

@[expose] public section

set_option maxRecDepth 16384

noncomputable section

namespace Cert.KernelUpIdeal.Up

open Cert.KernelUpIdeal Cert.KernelUpIdeal.Gen
open Idealize.ShloMosaic Idealize.ShloMosaic.TcCoe Idealize.SL.Sem
open Idealize.ShloMosaic.Pipeline (Dat)

/-- An entry of a column block of the projection. -/
theorem up_at (h : Vec Ideal S256x1024 .bf16) (w : Vec Ideal S1024x256 .bf16) (p q : Fin 256) :
    up h w (ix2 p q) = ∑ k, h (ix2 p k) * w (ix2 k q) := by
  unfold up
  pointwise

/-- A carried row is one of the last eight. -/
theorem tail_at (u : FVec Ideal S256x256 .f32) (e : Fin 8) (q : Fin 256) : tail u (ix2 e q) = u (ix2 ⟨248 + e.val, by have := e.isLt; omega⟩ q) := by
  unfold tail
  pointwise

/-- A carried row, at a batch's first point zero. -/
theorem carried_at (f : BitVec 1) (r : FVec Ideal S1x256 .f32) (e : Fin 8) (q : Fin 256) :
    carried f r (ix2 e q) = if f = 1#1 then (0 : EReal) else r (ix2 0 q) := by
  unfold carried
  pointwise
  rfl

/-- A choice by the row. -/
theorem select_row (e : Fin 8) (q : Fin 256) (a b : EReal) :
    Scalar.select (isRow 0#32 (ix2 e q)) a b = (if e.val = 0 then a else b) ∧ Scalar.select (isRow 1#32 (ix2 e q)) a b = (if e.val = 1 then a else b) := by
  have h0 : ∀ e : Fin 8, IntOp.cmpi .eq (BitVec.ofNat 32 e.val) 0#32 = if e.val = 0 then 1#1 else 0#1 := by decide
  have h1 : ∀ e : Fin 8, IntOp.cmpi .eq (BitVec.ofNat 32 e.val) 1#32 = if e.val = 1 then 1#1 else 0#1 := by decide
  unfold isRow
  pointwise
  rw [h0, h1]
  constructor
  · by_cases h : e.val = 0
    · rw [if_pos h, if_pos h]; rfl
    · rw [if_neg h, if_neg h]; rfl
  · by_cases h : e.val = 1
    · rw [if_pos h, if_pos h]; rfl
    · rw [if_neg h, if_neg h]; rfl

/-- The rows one up: the first is the last carried. -/
theorem back1_at (f : BitVec 1) (u : FVec Ideal S256x256 .f32) (s : FVec Ideal S8x256 .f32) (p q : Fin 256) :
    back1 f u s (ix2 p q) = if p.val = 0 then (if f = 1#1 then (0 : EReal) else s (ix2 7 q)) else u (ix2 ⟨p.val - 1, by have := p.isLt; omega⟩ q) := by
  have hp := p.isLt
  unfold back1 patch
  pointwise
  by_cases h : p.val < 8
  · rw [dif_pos h, (select_row _ _ _ _).1, carried_at]
    by_cases h0 : p.val = 0
    · rw [if_pos h0, if_pos h0]
      pointwise
    · rw [if_neg h0, if_neg h0]
      exact congrArg (fun e : Fin 256 => u (ix2 e q)) (Fin.ext (by show (p.val + 256 - 1) % 256 = p.val - 1; omega))
  · have h0 : ¬p.val = 0 := by omega
    rw [dif_neg h]
    refine Eq.trans ?_ (if_neg h0).symm
    exact congrArg (fun e : Fin 256 => u (ix2 e q)) (Fin.ext (by show (8 + (p.val - 8) + 256 - 1) % 256 = p.val - 1; omega))

/-- The rows two up: the first two are the last two carried. -/
theorem back2_at (f : BitVec 1) (u : FVec Ideal S256x256 .f32) (s : FVec Ideal S8x256 .f32) (p q : Fin 256) :
    back2 f u s (ix2 p q) = if p.val = 0 then (if f = 1#1 then (0 : EReal) else s (ix2 6 q))
      else if p.val = 1 then (if f = 1#1 then (0 : EReal) else s (ix2 7 q)) else u (ix2 ⟨p.val - 2, by have := p.isLt; omega⟩ q) := by
  have hp := p.isLt
  unfold back2 patch
  pointwise
  by_cases h : p.val < 8
  · rw [dif_pos h, (select_row _ _ _ _).1, (select_row _ _ _ _).2, carried_at, carried_at]
    by_cases h0 : p.val = 0
    · rw [if_pos h0, if_pos h0]
      pointwise
    · rw [if_neg h0, if_neg h0]
      by_cases h1 : p.val = 1
      · rw [if_pos h1, if_pos h1]
        pointwise
      · rw [if_neg h1, if_neg h1]
        exact congrArg (fun e : Fin 256 => u (ix2 e q)) (Fin.ext (by show (p.val + 256 - 2) % 256 = p.val - 2; omega))
  · have h0 : ¬p.val = 0 := by omega
    have h1 : ¬p.val = 1 := by omega
    rw [dif_neg h]
    refine Eq.trans ?_ ((if_neg h0).trans (if_neg h1)).symm
    exact congrArg (fun e : Fin 256 => u (ix2 e q)) (Fin.ext (by show (8 + (p.val - 8) + 256 - 2) % 256 = p.val - 2; omega))

/-- The GELU of a number, by the hyperbolic tangent. -/
def act (x : EReal) : EReal :=
  Ideal.ofBits .f32 0x3F000000#32 * x
    * (1 + Ideal.tanh (Ideal.ofBits .f32 0x3F4C422A#32 * (x + Ideal.ofBits .f32 0x3D372713#32 * (x * x * x))))

theorem gelu_at (x : FVec Ideal S256x256 .f32) (p q : Fin 256) : gelu x (ix2 p q) = act (x (ix2 p q)) := by
  unfold gelu act
  pointwise

/-- An entry of what the body stores, from the two halves. -/
theorem sub_entry (f : BitVec 1) (h : Vec Ideal S256x1024 .bf16) (x5 x6 : Vec Ideal S1024x2816 .bf16) (x7 : Vec Ideal S3x5632 .f32) (x8 : Vec Ideal S1x5632 .f32)
    (s0 s1 : Vec Ideal S8x2816 .f32) (c : Fin 11) (p q : Fin 256) : sub f h x5 x6 x7 x8 s0 s1 c (ix2 p q)
      = act (half f h x5 x7 x8 s0 c (gateCol c) (ix2 p q)) * half f h x6 x7 x8 s1 c (valCol c) (ix2 p q) := by
  rw [← gelu_at]
  unfold sub
  pointwise

theorem conv_at (f : BitVec 1) (u : FVec Ideal S256x256 .f32) (s : FVec Ideal S8x256 .f32) (w0 w1 w2 b : FVec Ideal S1x256 .f32) (p q : Fin 256) :
    conv f u s w0 w1 w2 b (ix2 p q) = w0 (ix2 0 q) * back2 f u s (ix2 p q) + w1 (ix2 0 q) * back1 f u s (ix2 p q) + w2 (ix2 0 q) * u (ix2 p q) + b (ix2 0 q) := by
  unfold conv rows
  pointwise

/-- An entry of the normed and modulated rows. -/
theorem normed_at (x1 : Vec Ideal S256x1024 .f32) (x2 : Vec Ideal S1x1024 .f32) (x3 x4 : Vec Ideal S1x1x1024 .f32) (p : Fin 256) (k : Fin 1024) :
    normed x1 x2 x3 x4 (ix2 p k) = x1 (ix2 p k)
      * Ideal.rsqrt (Ideal.div (∑ x, x1 (ix2 p x) * x1 (ix2 p x)) (Ideal.ofBits .f32 0x44800000#32) + Ideal.ofBits .f32 0x358637BD#32)
      * x2 (ix2 0 k) * (1 + x3 (ix3 0 0 k)) + x4 (ix3 0 0 k) := by
  have h2 : ∀ a : Fin 2, (![0, 0] : Fin 2 → ℕ) a = 0 := by decide
  have h3 : ∀ a : Fin 3, (![0, 0, 0] : Fin 3 → ℕ) a = 0 := by decide
  unfold normed
  rw [View.ld_unit_lit _ _ h2, View.ld_unit_lit _ _ h2, View.ld_unit_lit _ _ h3, View.ld_unit_lit _ _ h3]
  unfold k0_pay2
  pointwise

/-! ## The rows of the arrays -/

/-- The row of the arrays a block's row is, by the point. -/
def row (n : ℕ) (p : Fin 256) : Fin 32768 := ⟨(256 * n + p.val) % 32768, Nat.mod_lt _ (by decide)⟩

/-- A column of the 22 column blocks. -/
def col (d : Fin 22) (q : Fin 256) : Fin 5632 := ⟨256 * d.val + q.val, by have := d.isLt; have := q.isLt; omega⟩

/-- The rows `n` up, zero where there is none in the batch. -/
def lag (u : Fin 32768 → EReal) (n : ℕ) (r : Fin 32768) : EReal :=
  if r.val % 4096 < n then 0 else u ⟨r.val - n, lt_of_le_of_lt (Nat.sub_le _ _) r.isLt⟩

/-- The convolution of one column over the rows. -/
def mix (u : Fin 32768 → EReal) (w0 w1 w2 b : EReal) (r : Fin 32768) : EReal := w0 * lag u 2 r + w1 * lag u 1 r + w2 * u r + b

/-- A column's entry after the convolution. -/
def column (x : S32768x1024.Idx → EReal) (g : S1024.Idx → EReal) (sc sh : S8x1x1024.Idx → EReal) (w : S1024x5632.Idx → EReal)
    (taps : S3x5632.Idx → EReal) (b : S5632.Idx → EReal) (r : Fin 32768) (q : Fin 5632) : EReal :=
  mix (fun r => ∑ k : Fin 1024, Cert.KernelInIdeal.In.normed x g sc sh r k * w (ix2 k q)) (taps (ix2 0 q)) (taps (ix2 1 q)) (taps (ix2 2 q)) (b (ix1 q)) r

/-- The result array: the gate's GELU times the value, from the two halves of the columns of the convolved product. -/
def result (x : S32768x1024.Idx → EReal) (g : S1024.Idx → EReal) (sc sh : S8x1x1024.Idx → EReal) (w : S1024x5632.Idx → EReal)
    (taps : S3x5632.Idx → EReal) (b : S5632.Idx → EReal) : S32768x2816.Idx → EReal := fun j =>
  act (column x g sc sh w taps b (j 0) ⟨(j 1).val, by have : (j 1).val < 2816 := (j 1).isLt; omega⟩)
    * column x g sc sh w taps b (j 0) ⟨2816 + (j 1).val, by have : (j 1).val < 2816 := (j 1).isLt; omega⟩

/-- The row one up is the block's, or the last of the point before. -/
theorem lag_one (u : Fin 32768 → EReal) (n : ℕ) (hn : n < 128) (s : EReal) (hs : ¬n % 16 = 0 → s = u (row (n - 1) 255)) (p : Fin 256) :
    (if p.val = 0 then (if (if n % 16 = 0 then 1#1 else 0#1) = 1#1 then (0 : EReal) else s) else u (row n ⟨p.val - 1, by have := p.isLt; omega⟩))
      = lag u 1 (row n p) := by
  have hp := p.isLt
  have hr : (row n p).val = 256 * n + p.val := by show (256 * n + p.val) % 32768 = _; omega
  unfold lag
  by_cases h0 : p.val = 0
  · rw [if_pos h0]
    by_cases h : n % 16 = 0
    · rw [if_pos h, if_pos rfl, if_pos (by omega)]
    · rw [if_neg h, if_neg (by decide), if_neg (by omega), hs h]
      exact congrArg u (Fin.ext (by show (256 * (n - 1) + 255) % 32768 = (row n p).val - 1; omega))
  · rw [if_neg h0, if_neg (by omega)]
    exact congrArg u (Fin.ext (by show (256 * n + (p.val - 1)) % 32768 = (row n p).val - 1; omega))

/-- The row two up. -/
theorem lag_two (u : Fin 32768 → EReal) (n : ℕ) (hn : n < 128) (s s' : EReal) (hs : ¬n % 16 = 0 → s = u (row (n - 1) 254))
    (hs' : ¬n % 16 = 0 → s' = u (row (n - 1) 255)) (p : Fin 256) :
    (if p.val = 0 then (if (if n % 16 = 0 then 1#1 else 0#1) = 1#1 then (0 : EReal) else s)
      else if p.val = 1 then (if (if n % 16 = 0 then 1#1 else 0#1) = 1#1 then (0 : EReal) else s') else u (row n ⟨p.val - 2, by have := p.isLt; omega⟩))
      = lag u 2 (row n p) := by
  have hp := p.isLt
  have hr : (row n p).val = 256 * n + p.val := by show (256 * n + p.val) % 32768 = _; omega
  unfold lag
  by_cases h0 : p.val = 0
  · rw [if_pos h0]
    by_cases h : n % 16 = 0
    · rw [if_pos h, if_pos rfl, if_pos (by omega)]
    · rw [if_neg h, if_neg (by decide), if_neg (by omega), hs h]
      exact congrArg u (Fin.ext (by show (256 * (n - 1) + 254) % 32768 = (row n p).val - 2; omega))
  · rw [if_neg h0]
    by_cases h1 : p.val = 1
    · rw [if_pos h1]
      by_cases h : n % 16 = 0
      · rw [if_pos h, if_pos rfl, if_pos (by omega)]
      · rw [if_neg h, if_neg (by decide), if_neg (by omega), hs' h]
        exact congrArg u (Fin.ext (by show (256 * (n - 1) + 255) % 32768 = (row n p).val - 2; omega))
    · rw [if_neg h1, if_neg (by omega)]
      exact congrArg u (Fin.ext (by show (256 * n + (p.val - 2)) % 32768 = (row n p).val - 2; omega))

/-- An entry of the taps and of the bias, loaded. -/
theorem tap_at (x7 : Vec Ideal S3x5632 .f32) (k : Fin 3) (d : Fin 22) (q : Fin 256) : View.ld x7 (rT k d) (ix2 0 q) = x7 (ix2 k (col d q)) :=
  congrArg x7 (funext fun a => Fin.ext (by
    match a with
    | ⟨0, _⟩ => show k.val + 1 * 0 = k.val; omega
    | ⟨1, _⟩ => show 256 * d.val + 1 * q.val = 256 * d.val + q.val; omega))
theorem bias_at (x8 : Vec Ideal S1x5632 .f32) (d : Fin 22) (q : Fin 256) : View.ld x8 (rB d) (ix2 0 q) = x8 (ix2 0 (col d q)) :=
  congrArg x8 (funext fun a => Fin.ext (by
    match a with
    | ⟨0, _⟩ => show 0 + 1 * 0 = 0; omega
    | ⟨1, _⟩ => show 256 * d.val + 1 * q.val = 256 * d.val + q.val; omega))

/-- An entry of a half's column block, where the product's column is known over all rows. -/
theorem half_at (n : ℕ) (hn : n < 128) (h : Vec Ideal S256x1024 .bf16) (w : Vec Ideal S1024x2816 .bf16) (x7 : Vec Ideal S3x5632 .f32) (x8 : Vec Ideal S1x5632 .f32)
    (s : Vec Ideal S8x2816 .f32) (c : Fin 11) (d : Fin 22) (u : Fin 32768 → EReal) (q : Fin 256)
    (hu : ∀ p, up h (View.ld w (rW c)) (ix2 p q) = u (row n p))
    (hs : ¬n % 16 = 0 → ∀ e : Fin 8, View.ld s (rS c) (ix2 e q) = u (row (n - 1) ⟨248 + e.val, by have := e.isLt; omega⟩)) (p : Fin 256) :
    half (if n % 16 = 0 then 1#1 else 0#1) h w x7 x8 s c d (ix2 p q)
      = mix u (x7 (ix2 0 (col d q))) (x7 (ix2 1 (col d q))) (x7 (ix2 2 (col d q))) (x8 (ix2 0 (col d q))) (row n p) := by
  unfold half mix
  rw [conv_at, back1_at, back2_at, tap_at, tap_at, tap_at, bias_at]
  simp only [hu]
  rw [lag_one u n hn _ (fun h => hs h 7), lag_two u n hn _ _ (fun h => hs h 6) (fun h => hs h 7)]

end Cert.KernelUpIdeal.Up

end
-- ==== Proof.Up.Final.lean ====
/- The gated up-projection's result array, index by index, and the reference's. -/
module

public import proofs.«01_k».proof.Proof.Up.Read
public import proofs.«01_k».proof.Proof.Gen.ReferenceUpIdeal.Run
public import Idealize.ShloMosaic.Lib.Tactic
public import Idealize.ShloMosaic.Lib.Pointwise
public import Idealize.ShloMosaic.Lib.Pipeline

@[expose] public section

set_option maxRecDepth 16384

noncomputable section

namespace Cert.KernelUpIdeal.Up

open Cert.KernelUpIdeal Cert.KernelUpIdeal.Gen
open Idealize.ShloMosaic Idealize.ShloMosaic.TcCoe Idealize.SL.Sem
open Idealize.ShloMosaic.Pipeline (Dat)
open Cert.KernelInIdeal.In (batch factor)

/-- Which blocks of the arrays a point works on. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 1 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)

variable (m : (ℓ : Loc nD τ sig) → Buf (Elt Ideal) ℓ) (ρ : Dev nD → PrngReg)

theorem lt128 (t : Fin cfg0.N) : t.val < 128 := t.isLt

theorem blk0 (c : Dev nD) (t : Fin cfg0.N) (p : Fin 256) (k : Fin 1024) : iblk m c 0 t (ix2 p k) = V m c main_arg0 (ix2 (row t.val p) k) := by
  obtain ⟨e0, e1⟩ := idx0 t
  have ht := lt128 t
  have hp := p.isLt
  show V m c main_arg0 (((cfg0.win 0).blk t).view.emb (ix2 p k)) = _
  refine congrArg _ (funext fun a => Fin.ext ?_)
  match a with
  | ⟨0, _⟩ => show win0_0.index t (0 : Fin 2) * 256 + 1 * p.val = (256 * t.val + p.val) % 32768; omega
  | ⟨1, _⟩ => show win0_0.index t (1 : Fin 2) * 1024 + 1 * k.val = k.val; omega

/-- The gain's array and the bias's, at the region, are their arguments with a leading axis of size one. -/
theorem V_gain (c : Dev nD) (q : Fin 1024) : V m c main_v0 (ix2 0 q) = V m c main_arg1 (ix1 q) := by
  have h : V m c main_v0 = shapeCast S1x1024 (m ((c : Thread nD τ).loc main_arg1)) shapeCasts_S1024_S1x1024 := by
    show StableHlo.after hostOps0 (fun b => m (c, b)) main_v0 = _
    after_results <;> rfl
  rw [h, V_main_arg1]
  pointwise
theorem V_bias (c : Dev nD) (q : Fin 5632) : V m c main_v1 (ix2 0 q) = V m c main_arg6 (ix1 q) := by
  have h : V m c main_v1 = shapeCast S1x5632 (m ((c : Thread nD τ).loc main_arg6)) shapeCasts_S5632_S1x5632 := by
    show StableHlo.after hostOps0 (fun b => m (c, b)) main_v1 = _
    after_results <;> rfl
  rw [h, V_main_arg6]
  exact shapeCast_apply (s := S5632) (m ((c : Thread nD τ).loc main_arg6)) shapeCasts_S5632_S1x5632 (ix2 0 q) (ix1 q)
    (by rw [Shape.rowMajor_val_one, Shape.rowMajor_val_two]; show q.val = 0 * 5632 + q.val; omega)

theorem blk1 (c : Dev nD) (t : Fin cfg0.N) (q : Fin 1024) : iblk m c 1 t (ix2 0 q) = V m c main_arg1 (ix1 q) := by
  obtain ⟨e0, e1⟩ := idx1 t
  rw [← V_gain]
  show V m c main_v0 (((cfg0.win 1).blk t).view.emb (ix2 0 q)) = _
  refine congrArg _ (funext fun a => Fin.ext ?_)
  match a with
  | ⟨0, _⟩ => show win0_1.index t (0 : Fin 2) * 1 + 1 * 0 = 0; omega
  | ⟨1, _⟩ => show win0_1.index t (1 : Fin 2) * 1024 + 1 * q.val = q.val; omega

theorem blk2 (c : Dev nD) (t : Fin cfg0.N) (p : Fin 256) (q : Fin 1024) :
    iblk m c 2 t (ix3 0 0 q) = V m c main_arg2 (ix3 (batch (row t.val p)) 0 q) := by
  obtain ⟨e0, e1, e2⟩ := idx2 t
  have ht := lt128 t
  have hp := p.isLt
  show V m c main_arg2 (((cfg0.win 2).blk t).view.emb (ix3 0 0 q)) = _
  refine congrArg _ (funext fun a => Fin.ext ?_)
  match a with
  | ⟨0, _⟩ => show win0_2.index t (0 : Fin 3) * 1 + 1 * 0 = (256 * t.val + p.val) % 32768 / 4096 % 8; omega
  | ⟨1, _⟩ => show win0_2.index t (1 : Fin 3) * 1 + 1 * 0 = 0; omega
  | ⟨2, _⟩ => show win0_2.index t (2 : Fin 3) * 1024 + 1 * q.val = q.val; omega

theorem blk3 (c : Dev nD) (t : Fin cfg0.N) (p : Fin 256) (q : Fin 1024) :
    iblk m c 3 t (ix3 0 0 q) = V m c main_arg3 (ix3 (batch (row t.val p)) 0 q) := by
  obtain ⟨e0, e1, e2⟩ := idx3 t
  have ht := lt128 t
  have hp := p.isLt
  show V m c main_arg3 (((cfg0.win 3).blk t).view.emb (ix3 0 0 q)) = _
  refine congrArg _ (funext fun a => Fin.ext ?_)
  match a with
  | ⟨0, _⟩ => show win0_3.index t (0 : Fin 3) * 1 + 1 * 0 = (256 * t.val + p.val) % 32768 / 4096 % 8; omega
  | ⟨1, _⟩ => show win0_3.index t (1 : Fin 3) * 1 + 1 * 0 = 0; omega
  | ⟨2, _⟩ => show win0_3.index t (2 : Fin 3) * 1024 + 1 * q.val = q.val; omega

/-- The two halves of the weights, read at a column block. -/
theorem blk4 (c : Dev nD) (t : Fin cfg0.N) (b : Fin 11) (k : Fin 1024) (q : Fin 256) :
    View.ld (iblk m c 4 t) (rW b) (ix2 k q) = V m c main_arg4 (ix2 k (col (gateCol b) q)) := by
  obtain ⟨e0, e1⟩ := idx4 t
  show V m c main_arg4 (((cfg0.win 4).blk t).view.emb ((rW b).emb (ix2 k q))) = _
  refine congrArg _ (funext fun a => Fin.ext ?_)
  match a with
  | ⟨0, _⟩ => show win0_4.index t (0 : Fin 2) * 1024 + 1 * (0 + 1 * k.val) = k.val; omega
  | ⟨1, _⟩ => show win0_4.index t (1 : Fin 2) * 2816 + 1 * (256 * b.val + 1 * q.val) = 256 * b.val + q.val; omega
theorem blk5 (c : Dev nD) (t : Fin cfg0.N) (b : Fin 11) (k : Fin 1024) (q : Fin 256) :
    View.ld (iblk m c 5 t) (rW b) (ix2 k q) = V m c main_arg4 (ix2 k (col (valCol b) q)) := by
  obtain ⟨e0, e1⟩ := idx5 t
  show V m c main_arg4 (((cfg0.win 5).blk t).view.emb ((rW b).emb (ix2 k q))) = _
  refine congrArg _ (funext fun a => Fin.ext ?_)
  match a with
  | ⟨0, _⟩ => show win0_5.index t (0 : Fin 2) * 1024 + 1 * (0 + 1 * k.val) = k.val; omega
  | ⟨1, _⟩ => show win0_5.index t (1 : Fin 2) * 2816 + 1 * (256 * b.val + 1 * q.val) = 256 * (11 + b.val) + q.val; omega

theorem blk6 (c : Dev nD) (t : Fin cfg0.N) (k : Fin 3) (q : Fin 5632) : iblk m c 6 t (ix2 k q) = V m c main_arg5 (ix2 k q) := by
  obtain ⟨e0, e1⟩ := idx6 t
  show V m c main_arg5 (((cfg0.win 6).blk t).view.emb (ix2 k q)) = _
  refine congrArg _ (funext fun a => Fin.ext ?_)
  match a with
  | ⟨0, _⟩ => show win0_6.index t (0 : Fin 2) * 3 + 1 * k.val = k.val; omega
  | ⟨1, _⟩ => show win0_6.index t (1 : Fin 2) * 5632 + 1 * q.val = q.val; omega

theorem blk7 (c : Dev nD) (t : Fin cfg0.N) (q : Fin 5632) : iblk m c 7 t (ix2 0 q) = V m c main_arg6 (ix1 q) := by
  obtain ⟨e0, e1⟩ := idx7 t
  rw [← V_bias]
  show V m c main_v1 (((cfg0.win 7).blk t).view.emb (ix2 0 q)) = _
  refine congrArg _ (funext fun a => Fin.ext ?_)
  match a with
  | ⟨0, _⟩ => show win0_7.index t (0 : Fin 2) * 1 + 1 * 0 = 0; omega
  | ⟨1, _⟩ => show win0_7.index t (1 : Fin 2) * 5632 + 1 * q.val = q.val; omega

/-- What the body normalizes are the rows of the activations. -/
theorem hidden_at (c : Dev nD) (t : Fin cfg0.N) (p : Fin 256) (k : Fin 1024) : hidden m c t (ix2 p k)
    = Cert.KernelInIdeal.In.normed (V m c main_arg0) (V m c main_arg1) (V m c main_arg2) (V m c main_arg3) (row t.val p) k := by
  unfold hidden
  rw [normed_at, blk1, blk2 m c t p, blk3 m c t p]
  simp only [blk0]
  rfl

/-- A column of the product over all rows. -/
def prod (c : Dev nD) (q : Fin 5632) (r : Fin 32768) : EReal :=
  ∑ k : Fin 1024, Cert.KernelInIdeal.In.normed (V m c main_arg0) (V m c main_arg1) (V m c main_arg2) (V m c main_arg3) r k * V m c main_arg4 (ix2 k q)

theorem gate_at (c : Dev nD) (t : Fin cfg0.N) (b : Fin 11) (p q : Fin 256) :
    up (hidden m c t) (View.ld (iblk m c 4 t) (rW b)) (ix2 p q) = prod m c (col (gateCol b) q) (row t.val p) := by
  refine (up_at _ _ p q).trans (Finset.sum_congr rfl fun k _ => ?_)
  rw [hidden_at]
  exact congrArg (_ * ·) (blk4 m c t b k q)
theorem val_at (c : Dev nD) (t : Fin cfg0.N) (b : Fin 11) (p q : Fin 256) :
    up (hidden m c t) (View.ld (iblk m c 5 t) (rW b)) (ix2 p q) = prod m c (col (valCol b) q) (row t.val p) := by
  refine (up_at _ _ p q).trans (Finset.sum_congr rfl fun k _ => ?_)
  rw [hidden_at]
  exact congrArg (_ * ·) (blk5 m c t b k q)

/-- What a carried block holds before a point that is not the first: the last eight rows of the point before. -/
theorem gatePrev_at (c : Dev nD) (t : Fin cfg0.N) (h : ¬t.val % 16 = 0) (b : Fin 11) (e : Fin 8) (q : Fin 256) :
    View.ld (prev (gateKept m c) t) (rS b) (ix2 e q) = prod m c (col (gateCol b) q) (row (t.val - 1) ⟨248 + e.val, by have := e.isLt; omega⟩) := by
  unfold prev
  rw [if_neg (by omega)]
  refine Eq.trans (glue_keep _ b (ix2 e q)).symm ?_
  exact (tail_at _ e q).trans (gate_at m c ⟨t.val - 1, _⟩ b _ q)
theorem valPrev_at (c : Dev nD) (t : Fin cfg0.N) (h : ¬t.val % 16 = 0) (b : Fin 11) (e : Fin 8) (q : Fin 256) :
    View.ld (prev (valKept m c) t) (rS b) (ix2 e q) = prod m c (col (valCol b) q) (row (t.val - 1) ⟨248 + e.val, by have := e.isLt; omega⟩) := by
  unfold prev
  rw [if_neg (by omega)]
  refine Eq.trans (glue_keep _ b (ix2 e q)).symm ?_
  exact (tail_at _ e q).trans (val_at m c ⟨t.val - 1, _⟩ b _ q)

/-- The result array over the arrays as the region finds them. -/
def array (c : Dev nD) : S32768x2816.Idx → EReal :=
  result (V m c main_arg0) (V m c main_arg1) (V m c main_arg2) (V m c main_arg3) (V m c main_arg4) (V m c main_arg5) (V m c main_arg6)

/-- The entries a point stores are the result array's. -/
theorem sub_at (c : Dev nD) (t : Fin cfg0.N) (b : Fin 11) (p q : Fin 256) :
    sub (first (grid0.coords t)) (hidden m c t) (iblk m c 4 t) (iblk m c 5 t) (iblk m c 6 t) (iblk m c 7 t) (prev (gateKept m c) t) (prev (valKept m c) t) b (ix2 p q)
      = array m c (ix2 (row t.val p) ⟨256 * b.val + q.val, by have := b.isLt; have := q.isLt; omega⟩) := by
  have hg := half_at t.val (lt128 t) (hidden m c t) (iblk m c 4 t) (iblk m c 6 t) (iblk m c 7 t) (prev (gateKept m c) t) b (gateCol b)
    (prod m c (col (gateCol b) q)) q (fun p => gate_at m c t b p q) (fun h e => gatePrev_at m c t h b e q) p
  have hv := half_at t.val (lt128 t) (hidden m c t) (iblk m c 5 t) (iblk m c 6 t) (iblk m c 7 t) (prev (valKept m c) t) b (valCol b)
    (prod m c (col (valCol b) q)) q (fun p => val_at m c t b p q) (fun h e => valPrev_at m c t h b e q) p
  rw [blk6, blk6, blk6, blk7] at hg hv
  rw [first_eq]
  rw [sub_entry, hg, hv]
  have ev : col (valCol b) q = ⟨2816 + (256 * b.val + q.val), by have := b.isLt; have := q.isLt; omega⟩ :=
    Fin.ext (by show 256 * (11 + b.val) + q.val = 2816 + (256 * b.val + q.val); omega)
  rw [ev]
  rfl

theorem out_at (c : Dev nD) (t : Fin cfg0.N) (p : Fin 256) (q : Fin 2816) : outv m c t (ix2 p q) = array m c (ix2 (row t.val p) q) := by
  have hq := q.isLt
  refine (sub_at m c t ⟨q.val / 256, by omega⟩ p ⟨q.val % 256, Nat.mod_lt _ (by decide)⟩).trans ?_
  exact congrArg (fun q : Fin 2816 => array m c (ix2 (row t.val p) q)) (Fin.ext (by show 256 * (q.val / 256) + q.val % 256 = q.val; omega))

/-- A block's index is this index of the array. -/
theorem emb8 (t : Fin cfg0.N) (p : Fin 256) (q : Fin 2816) : ((cfg0.win 8).blk t).view.emb (ix2 p q) = ix2 (row t.val p) q := by
  obtain ⟨e0, e1⟩ := idx8 t
  have ht := lt128 t
  have hp := p.isLt
  funext a
  refine Fin.ext ?_
  match a with
  | ⟨0, _⟩ => show win0_8.index t (0 : Fin 2) * 256 + 1 * p.val = (256 * t.val + p.val) % 32768; omega
  | ⟨1, _⟩ => show win0_8.index t (1 : Fin 2) * 2816 + 1 * q.val = q.val; omega

/-- What a point writes back is its block of the result array. -/
theorem flushed_eq (c : Dev nD) (t : Fin cfg0.N) : (dats m 0 c).flushed 8 t = ((cfg0.win 8).blk t).view.read (Elt Ideal) (array m c) := by
  show (cfg0.win 8).cut (grid0.coords t) ((dats m 0 c).after 8 t) = _
  rw [after0_8]
  funext y
  refine Eq.trans (?_ : _ = outv m c t y) ?_
  · rfl
  obtain ⟨p, q, rfl⟩ : ∃ (p : Fin 256) (q : Fin 2816), y = ix2 p q := ⟨y 0, y 1, funext fun a => by match a with | ⟨0, _⟩ => rfl | ⟨1, _⟩ => rfl⟩
  rw [out_at]
  exact congrArg (array m c) (emb8 t p q).symm

/-- Every index of the result array is in some point's block. -/
theorem covered (i : S32768x2816.Idx) : ∃ t : Fin cfg0.N, (cfg0.win 8).flush t = true ∧ i ∈ ((cfg0.win 8).blk t).view.set := by
  have h0 : (i 0).val < 32768 := (i 0).isLt
  have h1 : (i 1).val < 2816 := (i 1).isLt
  have hN : cfg0.N = 128 := by decide
  obtain ⟨t, ht⟩ : ∃ t : Fin cfg0.N, t.val = (i 0).val / 256 := ⟨⟨(i 0).val / 256, by rw [hN]; omega⟩, rfl⟩
  refine ⟨t, flush0_8 _, ?_⟩
  obtain ⟨e0, e1⟩ := idx8 t
  show i ∈ ((View.whole main_v2).slice (win0_8.rect t)).set
  rw [View.set_slice_whole, Rect.mem_set_unit]
  intro a
  match a with
  | ⟨0, _⟩ =>
    show win0_8.index t (0 : Fin 2) * 256 ≤ (i 0).val ∧ (i 0).val < win0_8.index t (0 : Fin 2) * 256 + 256
    omega
  | ⟨1, _⟩ =>
    show win0_8.index t (1 : Fin 2) * 2816 ≤ (i 1).val ∧ (i 1).val < win0_8.index t (1 : Fin 2) * 2816 + 2816
    omega

/-- The result array after the run. -/
theorem final (c : Dev nD) : (dats m 0 c).arrAt 8 cfg0.N = result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  have h := (dats m 0 c).arrAt_eq_of_cover 8 _ (fun t _ => flushed_eq m c t) covered
  unfold array at h
  rw [V_main_arg0, V_main_arg1, V_main_arg2, V_main_arg3, V_main_arg4, V_main_arg5, V_main_arg6] at h
  exact h

/-- The run: the result array, and the arguments as found. -/
theorem run_result : θ_run defs (onTc (τ := τ) (main (F := Ideal))) ⟨m, fun _ => 0, ρ⟩ fun r => ∀ c : Dev nD,
      r.2.mem ((c : Thread nD τ).loc main_v2) = result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).1 8).trans (final m c),
      ((h.1 c).1 0).trans (((dats m 0 c).arrAt_in 0 rfl _).trans (V_main_arg0 m c)),
      ((h.1 c).2 main_arg1 (Pipeline.mem_restRefs_of main_arg1 (by decide) (by decide))).trans (V_main_arg1 m c),
      ((h.1 c).1 2).trans (((dats m 0 c).arrAt_in 2 rfl _).trans (V_main_arg2 m c)),
      ((h.1 c).1 3).trans (((dats m 0 c).arrAt_in 3 rfl _).trans (V_main_arg3 m c)),
      ((h.1 c).1 5).trans (((dats m 0 c).arrAt_in 5 rfl _).trans (V_main_arg4 m c)),
      ((h.1 c).1 6).trans (((dats m 0 c).arrAt_in 6 rfl _).trans (V_main_arg5 m c)),
      ((h.1 c).2 main_arg6 (Pipeline.mem_restRefs_of main_arg6 (by decide) (by decide))).trans (V_main_arg6 m c)⟩) (run_main m ρ)

end Cert.KernelUpIdeal.Up

end
-- ==== Proof.Up.Agree.lean ====
/- The gated up-projection's reference, read over the extended reals. -/
module

public import proofs.«01_k».proof.Proof.Up.Read
public import proofs.«01_k».proof.Proof.Gen.ReferenceUpIdeal.Run
public import Idealize.ShloMosaic.Lib.Tactic
public import Idealize.ShloMosaic.Lib.Pointwise

@[expose] public section

set_option maxRecDepth 16384

noncomputable section

namespace Cert.ReferenceUpIdeal.Up

open Cert.ReferenceUpIdeal Cert.ReferenceUpIdeal.Gen
open Idealize.ShloMosaic Idealize.ShloMosaic.TcCoe Idealize.SL.Sem
open Cert.KernelInIdeal.In (batch factor normed)
open Cert.KernelUpIdeal.Up (act lag mix column result)

/-- The reference's row factors. -/
def root (x : FVec Ideal S8x4096x1024 .f32) : FVec Ideal S8x4096x1 .f32 :=
  Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))

/-- The reference's normalized, modulated activations. -/
def cube (x : FVec Ideal S8x4096x1024 .f32) (g : FVec Ideal S1024 .f32) (sc sh : FVec Ideal S8x1x1024 .f32) : FVec Ideal S8x4096x1024 .bf16 :=
  truncf .bf16 (addf (mulf (mulf (mulf x (broadcastInDim S8x4096x1024 ![0, 1, 2] bcast_S8x4096x1_S8x4096x1024_0_1_2 (root x))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh)) bitsLt_bf16_f32

/-- The reference's product. -/
def proj (h : FVec Ideal S8x4096x1024 .bf16) (w : FVec Ideal S1024x5632 .bf16) : FVec Ideal S8x4096x5632 .f32 :=
  Host.dotGeneral dot_S8x4096x1024_S1024x5632_S8x4096x5632_2_0_01_1_n_n none h w

/-- The product with two rows of zeros before each batch. -/
def padded (u : FVec Ideal S8x4096x5632 .f32) : FVec Ideal S8x4098x5632 .f32 :=
  pad S8x4098x5632 ![0, 2, 0] ![0, 0, 0] ![0, 0, 0] u (sitofp .f32 (constantI S_ 32 0#32)) pads_S8x4096x5632_S8x4098x5632_000_200_000 h_S_

/-- A row of taps or the bias, along the columns of every batch and row. -/
def spread (w : FVec Ideal S5632 .f32) : FVec Ideal S8x4096x5632 .f32 :=
  broadcastInDim S8x4096x5632 ![0, 1, 2] bcast_S1x1x5632_S8x4096x5632_0_1_2 (broadcastInDim S1x1x5632 ![2] bcast_S5632_S1x1x5632_2 w)

/-- The three rows of taps. -/
def tap0 (w : FVec Ideal S3x5632 .f32) : FVec Ideal S5632 .f32 := shapeCast S5632 (extractStridedSlice S1x5632 ![0, 0] w slices_S3x5632_S1x5632_0_0) shapeCasts_S1x5632_S5632
def tap1 (w : FVec Ideal S3x5632 .f32) : FVec Ideal S5632 .f32 := shapeCast S5632 (extractStridedSlice S1x5632 ![1, 0] w slices_S3x5632_S1x5632_1_0) shapeCasts_S1x5632_S5632
def tap2 (w : FVec Ideal S3x5632 .f32) : FVec Ideal S5632 .f32 := shapeCast S5632 (extractStridedSlice S1x5632 ![2, 0] w slices_S3x5632_S1x5632_2_0) shapeCasts_S1x5632_S5632

/-- The reference's convolution. -/
def conv (u : FVec Ideal S8x4098x5632 .f32) (w : FVec Ideal S3x5632 .f32) (b : FVec Ideal S5632 .f32) : FVec Ideal S8x4096x5632 .f32 :=
  addf (addf (addf (addf (broadcastInDim S8x4096x5632 ![] bcast_S_S8x4096x5632 (constant S_ .f32 0x00000000#32))
    (mulf (spread (tap0 w)) (extractStridedSlice S8x4096x5632 ![0, 0, 0] u slices_S8x4098x5632_S8x4096x5632_0_0_0)))
    (mulf (spread (tap1 w)) (extractStridedSlice S8x4096x5632 ![0, 1, 0] u slices_S8x4098x5632_S8x4096x5632_0_1_0)))
    (mulf (spread (tap2 w)) (extractStridedSlice S8x4096x5632 ![0, 2, 0] u slices_S8x4098x5632_S8x4096x5632_0_2_0))) (spread b)

/-- The reference's GELU. -/
def gelu (x : FVec Ideal S8x4096x2816 .f32) : FVec Ideal S8x4096x2816 .f32 :=
  mulf x (mulf (broadcastInDim S8x4096x2816 ![] bcast_S_S8x4096x2816 (constant S_ .f32 0x3F000000#32)) (addf (broadcastInDim S8x4096x2816 ![] bcast_S_S8x4096x2816 (constant S_ .f32 0x3F800000#32))
    (Host.tanh (mulf (broadcastInDim S8x4096x2816 ![] bcast_S_S8x4096x2816 (constant S_ .f32 0x3F4C422A#32))
      (addf x (mulf (broadcastInDim S8x4096x2816 ![] bcast_S_S8x4096x2816 (constant S_ .f32 0x3D372713#32)) (mulf (mulf x x) x)))))))

/-- The gated result, by batch and row. -/
def gated (y : FVec Ideal S8x4096x5632 .f32) : FVec Ideal S8x4096x2816 .f32 :=
  mulf (gelu (extractStridedSlice S8x4096x2816 ![0, 0, 0] y slices_S8x4096x5632_S8x4096x2816_0_0_0))
    (extractStridedSlice S8x4096x2816 ![0, 0, 2816] y slices_S8x4096x5632_S8x4096x2816_0_0_2816)

/-- The reference's result as the run leaves it. -/
def value (a0 : Vec Ideal S32768x1024 .f32) (a1 : Vec Ideal S1024 .f32) (a2 a3 : Vec Ideal S8x1x1024 .f32) (a4 : Vec Ideal S1024x5632 .bf16)
    (a5 : Vec Ideal S3x5632 .f32) (a6 : Vec Ideal S5632 .f32) : Vec Ideal S32768x2816 .bf16 :=
  truncf .bf16 (show FVec Ideal S32768x2816 .f32 from shapeCast S32768x2816
    (gated (conv (padded (proj (cube (shapeCast S8x4096x1024 a0 shapeCasts_S32768x1024_S8x4096x1024) a1 a2 a3) a4)) a5 a6)) shapeCasts_S8x4096x2816_S32768x2816) bitsLt_bf16_f32

/-- The run's result is `value`. -/
theorem res_eq (m : (ℓ : Loc nD τ sig) → Buf (Elt Ideal) ℓ) (c : Dev nD) : Value.res_main_v65 m c
    = value (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

/-- An entry of the product. -/
theorem proj_at (a0 : Vec Ideal S32768x1024 .f32) (a1 : Vec Ideal S1024 .f32) (a2 a3 : Vec Ideal S8x1x1024 .f32) (a4 : Vec Ideal S1024x5632 .bf16)
    (r : Fin 32768) (q : Fin 5632) (e : Fin 8) (s : Fin 4096) (hr : r.val = e.val * 4096 + s.val) :
    proj (cube (shapeCast S8x4096x1024 a0 shapeCasts_S32768x1024_S8x4096x1024) a1 a2 a3) a4 (ix3 e s q) = ∑ k : Fin 1024, normed a0 a1 a2 a3 r k * a4 (ix2 k q) := by
  have hs := s.isLt
  have he := e.isLt
  have hb : e = batch r := Fin.ext (by show e.val = r.val / 4096 % 8; omega)
  have hv : ∀ h, (⟨e.val * 4096 + s.val, h⟩ : Fin 32768) = r := fun h => Fin.ext hr.symm
  unfold proj cube root
  pointwise
  simp only [hv]
  exact Finset.sum_congr rfl fun k _ => congrArg (fun b : Fin 8 =>
    (a0 (ix2 r k) * factor a0 r * a1 (ix1 k) * ((1 : EReal) + a2 (ix3 b 0 k)) + a3 (ix3 b 0 k)) * a4 (ix2 k q)) hb

/-- The integer zero as a float. -/
theorem zero_float : (FloatOps.sitofp .f32 (0#32 : BitVec 32) : Ideal .f32) = (0 : EReal) := by
  show (((0#32 : BitVec 32).toInt : ℝ) : EReal) = 0
  simp

/-- An entry of the padded product. -/
theorem padded_at (u : FVec Ideal S8x4096x5632 .f32) (e : Fin 8) (s : Fin 4098) (q : Fin 5632) :
    padded u (ix3 e s q) = if h : s.val < 2 then (0 : EReal) else u (ix3 e ⟨s.val - 2, by have := s.isLt; omega⟩ q) := by
  have hs := s.isLt
  unfold padded
  pointwise
  by_cases h : s.val < 2
  · rw [dif_pos h, dif_neg (by omega), zero_float]
  · rw [dif_neg h, dif_pos (by omega)]

/-- The three rows of taps, read. -/
theorem tap_at (w : FVec Ideal S3x5632 .f32) (q : Fin 5632) : tap0 w (ix1 q) = w (ix2 0 q) ∧ tap1 w (ix1 q) = w (ix2 1 q) ∧ tap2 w (ix1 q) = w (ix2 2 q) := by
  unfold tap0 tap1 tap2
  pointwise

theorem conv_at (u : FVec Ideal S8x4098x5632 .f32) (w : FVec Ideal S3x5632 .f32) (b : FVec Ideal S5632 .f32) (e : Fin 8) (s : Fin 4096) (q : Fin 5632) :
    conv u w b (ix3 e s q) = w (ix2 0 q) * u (ix3 e ⟨s.val, by have := s.isLt; omega⟩ q) + w (ix2 1 q) * u (ix3 e ⟨1 + s.val, by have := s.isLt; omega⟩ q)
      + w (ix2 2 q) * u (ix3 e ⟨2 + s.val, by have := s.isLt; omega⟩ q) + b (ix1 q) := by
  obtain ⟨h0, h1, h2⟩ := tap_at w q
  rw [← h0, ← h1, ← h2]
  unfold conv spread
  pointwise

theorem gelu_at (x : FVec Ideal S8x4096x2816 .f32) (i : S8x4096x2816.Idx) : gelu x i = act (x i) := by
  unfold gelu act
  pointwise
  exact (mul_left_comm (x i) _ _).trans (mul_assoc _ _ _).symm

/-- A row of the padded product, counted from the last. -/
theorem pad_lag (u : FVec Ideal S8x4096x5632 .f32) (f : Fin 32768 → EReal) (q : Fin 5632)
    (hu : ∀ (r : Fin 32768) (e : Fin 8) (s : Fin 4096), r.val = e.val * 4096 + s.val → u (ix3 e s q) = f r)
    (n : ℕ) (r : Fin 32768) (e : Fin 8) (s : Fin 4096) (hr : r.val = e.val * 4096 + s.val) (z : Fin 4098) (hz : z.val + n = s.val + 2) :
    padded u (ix3 e z q) = lag f n r := by
  have hs := s.isLt
  rw [padded_at]
  unfold lag
  by_cases h : z.val < 2
  · rw [dif_pos h, if_pos (by omega)]
  · rw [dif_neg h, if_neg (by omega)]
    exact hu _ _ _ (by show r.val - n = e.val * 4096 + (z.val - 2); omega)

/-- A column of the reference's convolution. -/
theorem line_at (a0 : Vec Ideal S32768x1024 .f32) (a1 : Vec Ideal S1024 .f32) (a2 a3 : Vec Ideal S8x1x1024 .f32) (a4 : Vec Ideal S1024x5632 .bf16)
    (a5 : Vec Ideal S3x5632 .f32) (a6 : Vec Ideal S5632 .f32) (r : Fin 32768) (q : Fin 5632) (e : Fin 8) (s : Fin 4096) (hr : r.val = e.val * 4096 + s.val) :
    conv (padded (proj (cube (shapeCast S8x4096x1024 a0 shapeCasts_S32768x1024_S8x4096x1024) a1 a2 a3) a4)) a5 a6 (ix3 e s q) = column a0 a1 a2 a3 a4 a5 a6 r q := by
  have hp := pad_lag _ _ q fun r e s h => proj_at a0 a1 a2 a3 a4 r q e s h
  have h0 : ∀ f : Fin 32768 → EReal, lag f 0 r = f r := fun f => if_neg (Nat.not_lt_zero _)
  unfold column mix
  rw [conv_at, hp 2 r e s hr _ rfl, hp 1 r e s hr _ (by show 1 + s.val + 1 = s.val + 2; omega), hp 0 r e s hr _ (by show 2 + s.val + 0 = s.val + 2; omega), h0]

/-- An entry of the reference's result. -/
theorem value_at (a0 : Vec Ideal S32768x1024 .f32) (a1 : Vec Ideal S1024 .f32) (a2 a3 : Vec Ideal S8x1x1024 .f32) (a4 : Vec Ideal S1024x5632 .bf16)
    (a5 : Vec Ideal S3x5632 .f32) (a6 : Vec Ideal S5632 .f32)
    (r : Fin 32768) (q : Fin 2816) : value a0 a1 a2 a3 a4 a5 a6 (ix2 r q) = result a0 a1 a2 a3 a4 a5 a6 (ix2 r q) := by
  have hr := r.isLt
  have hl : ∀ q he hs, _ := fun q he hs => line_at a0 a1 a2 a3 a4 a5 a6 r q ⟨r.val / 4096, he⟩ ⟨r.val % 4096, hs⟩
    (by show r.val = r.val / 4096 * 4096 + r.val % 4096; omega)
  unfold value gated
  pointwise
  rw [gelu_at]
  pointwise
  rw [hl, hl]
  rfl

/-- The reference's result is the kernel's. -/
theorem value_eq (a0 : Vec Ideal S32768x1024 .f32) (a1 : Vec Ideal S1024 .f32) (a2 a3 : Vec Ideal S8x1x1024 .f32) (a4 : Vec Ideal S1024x5632 .bf16)
    (a5 : Vec Ideal S3x5632 .f32) (a6 : Vec Ideal S5632 .f32) : value a0 a1 a2 a3 a4 a5 a6 = result a0 a1 a2 a3 a4 a5 a6 := by
  funext j
  obtain ⟨r, q, rfl⟩ : ∃ (r : Fin 32768) (q : Fin 2816), j = ix2 r q := ⟨j 0, j 1, funext fun a => by match a with | ⟨0, _⟩ => rfl | ⟨1, _⟩ => rfl⟩
  exact value_at a0 a1 a2 a3 a4 a5 a6 r q

end Cert.ReferenceUpIdeal.Up

end
-- ==== Proof.lean ====
module

public import proofs.«01_k».proof.Defs
public import proofs.«01_k».proof.Proof.Mla.FrameRun
public import proofs.«01_k».proof.Proof.Mla.Run
public import proofs.«01_k».proof.Proof.Mla.Agree
public import proofs.«01_k».proof.Proof.Gen.ReferenceIdeal.Run
public import proofs.«01_k».proof.Proof.In.Final
public import proofs.«01_k».proof.Proof.Down.Final
public import proofs.«01_k».proof.Proof.Gen.KernelIn.Frame
public import proofs.«01_k».proof.Proof.Gen.KernelDown.Frame
public import proofs.«01_k».proof.Proof.Up.FrameRun
public import proofs.«01_k».proof.Proof.Up.Final
public import proofs.«01_k».proof.Proof.Up.Agree
public import proofs.«01_k».proof.Proof.Gen.ReferenceUpIdeal.Run
public import Idealize.ShloMosaic.Lib.Quiescent

@[expose] public section

noncomputable section

namespace Cert.Proof

open Idealize.ShloMosaic Idealize.ShloMosaic.TcCoe Idealize.SL.Sem

/-- The printed kernel runs to the end, leaves its arguments unchanged and every counter at zero. -/
theorem frame_p : Cert.quiescent_Kernel := fun m ρ _ =>
  (θ_run Cert.Kernel.defs _ _).mono (fun r h => ⟨fun c =>
      ⟨(Cert.Kernel.Mla.final_in h.1 c 0 rfl rfl).trans (Cert.Kernel.Gen.V_main_arg0 m c),
       (Cert.Kernel.Mla.final_in h.1 c 1 rfl rfl).trans (Cert.Kernel.Gen.V_main_arg1 m c),
       (Cert.Kernel.Mla.final_in h.1 c 2 rfl rfl).trans (Cert.Kernel.Gen.V_main_arg2 m c)⟩, h.2⟩)
    (Cert.Kernel.Mla.run_main m ρ)

/-- The idealized kernel runs to the end, leaves its arguments unchanged and every counter at zero. -/
theorem frame_pi : Cert.quiescent_KernelIdeal := fun m ρ _ =>
  θ_run_with_sems (Cert.KernelIdeal.Gen.frame_of m ρ (Cert.KernelIdeal.Mla.dats m) fun _ _ => rfl)
    (Cert.KernelIdeal.Mla.run_main m ρ)

/-- The reference runs to the end, leaves its arguments unchanged and every counter at zero. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- The mask literal is named, and its name denotes −∞. -/
theorem preserves : Cert.preserves_Kernel_KernelIdeal :=
  IdealRules.named_const.statement Cert.KernelIdeal.κ "mask" .f32 0xF149F2CA#32 ⊥ rfl

/-- Over the extended reals the idealized kernel and the reference, run from the same arguments, end with the same result array. -/
theorem algebraic : Cert.algebraic_KernelIdeal_ReferenceIdeal := by
  intro m g m' g' _ hargs
  refine ⟨fun c => Cert.KernelIdeal.Mla.result (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), Cert.KernelIdeal.Mla.run m g, ?_⟩
  refine (θ_run Cert.ReferenceIdeal.defs _ _).mono (fun r h c => ⟨?_, (h c).2⟩) (Cert.ReferenceIdeal.Value.run m' g')
  obtain ⟨h0, h1, h2⟩ := hargs c
  refine (h c).1.trans ((Cert.KernelIdeal.Mla.agree m' c).trans ?_)
  rw [h0, h1, h2]

/-- The input projection: the printed kernel's frame. -/
theorem frame_p_in : Cert.quiescent_KernelIn := fun m ρ _ => Cert.KernelIn.Gen.frame m ρ

/-- The input projection: the idealized kernel's frame. -/
theorem frame_pi_in : Cert.quiescent_KernelInIdeal := fun m ρ _ => Cert.KernelInIdeal.Gen.frame m ρ

/-- The input projection: the reference's frame. -/
theorem frame_ri_in : Cert.quiescent_ReferenceInIdeal := fun m ρ _ =>
  (θ_run Cert.ReferenceInIdeal.defs _ _).mono (fun r h => ⟨fun c => (h c).2,
      Idealize.ShloMosaic.sem_eq_zero_of_no_sems (by decide) r.2⟩)
    (Cert.ReferenceInIdeal.Value.run m ρ)

/-- The input projection: the idealized kernel and the reference, run from the same arguments, end with the same result array. -/
theorem algebraic_in : Cert.algebraic_KernelInIdeal_ReferenceInIdeal := by
  intro m g m' g' _ hargs
  refine ⟨fun c => Cert.KernelInIdeal.In.result
      (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2))
      (m ((c.tc : Thread Cert.KernelInIdeal.nD Cert.KernelInIdeal.τ).loc Cert.KernelInIdeal.main_arg3))
      (m ((c.tc : Thread Cert.KernelInIdeal.nD Cert.KernelInIdeal.τ).loc Cert.KernelInIdeal.main_arg4)),
    (θ_run Cert.KernelInIdeal.defs _ _).mono (fun r h c => ⟨(h c).1.trans (Cert.KernelInIdeal.In.final m c), (h c).2⟩)
      (Cert.KernelInIdeal.Value.run_blocks m g), ?_⟩
  refine (θ_run Cert.ReferenceInIdeal.defs _ _).mono (fun r h c => ⟨?_, (h c).2⟩) (Cert.ReferenceInIdeal.Value.run m' g')
  obtain ⟨h0, h1, h2, h3, h4⟩ := hargs c
  refine (h c).1.trans ((Cert.ReferenceInIdeal.In.value_eq _ _ _ _ _).trans ?_)
  rw [h0, h1, h2, h3, h4]

/-- The last projection: the printed kernel's frame. -/
theorem frame_p_down : Cert.quiescent_KernelDown := fun m ρ _ => Cert.KernelDown.Gen.frame m ρ

/-- The last projection: the idealized kernel's frame. -/
theorem frame_pi_down : Cert.quiescent_KernelDownIdeal := fun m ρ _ => Cert.KernelDownIdeal.Gen.frame m ρ

/-- The last projection: the reference's frame. -/
theorem frame_ri_down : Cert.quiescent_ReferenceDownIdeal := fun m ρ _ =>
  (θ_run Cert.ReferenceDownIdeal.defs _ _).mono (fun r h => ⟨fun c => (h c).2,
      Idealize.ShloMosaic.sem_eq_zero_of_no_sems (by decide) r.2⟩)
    (Cert.ReferenceDownIdeal.Value.run m ρ)

/-- The last projection: the idealized kernel and the reference, run from the same arguments, end with the same result array. -/
theorem algebraic_down : Cert.algebraic_KernelDownIdeal_ReferenceDownIdeal := by
  intro m g m' g' _ hargs
  refine ⟨fun c => Cert.KernelDownIdeal.Down.result
      (m ((c.tc : Thread Cert.KernelDownIdeal.nD Cert.KernelDownIdeal.τ).loc Cert.KernelDownIdeal.main_arg0))
      (m ((c.tc : Thread Cert.KernelDownIdeal.nD Cert.KernelDownIdeal.τ).loc Cert.KernelDownIdeal.main_arg1))
      (m ((c.tc : Thread Cert.KernelDownIdeal.nD Cert.KernelDownIdeal.τ).loc Cert.KernelDownIdeal.main_arg2))
      (m ((c.tc : Thread Cert.KernelDownIdeal.nD Cert.KernelDownIdeal.τ).loc Cert.KernelDownIdeal.main_arg3))
      (m ((c.tc : Thread Cert.KernelDownIdeal.nD Cert.KernelDownIdeal.τ).loc Cert.KernelDownIdeal.main_arg4)),
    (θ_run Cert.KernelDownIdeal.defs _ _).mono (fun r h c => ⟨(h c).1.trans (Cert.KernelDownIdeal.Down.final m c), (h c).2⟩)
      (Cert.KernelDownIdeal.Value.run_blocks m g), ?_⟩
  refine (θ_run Cert.ReferenceDownIdeal.defs _ _).mono (fun r h c => ⟨?_, (h c).2⟩) (Cert.ReferenceDownIdeal.Value.run m' g')
  obtain ⟨h0, h1, h2, h3, h4⟩ := hargs c
  refine (h c).1.trans ((Cert.ReferenceDownIdeal.Down.value_eq _ _ _ _ _).trans ?_)
  rw [h0, h1, h2, h3, h4]

/-- The gated up-projection: the printed kernel's frame. -/
theorem frame_p_up : Cert.quiescent_KernelUp := fun m ρ _ =>
  (θ_run Cert.KernelUp.defs _ _).mono (fun r h => ⟨fun c => ⟨
      (Cert.KernelUp.Up.final_in h.1 c 0 rfl rfl).trans (Cert.KernelUp.Gen.V_main_arg0 m c),
      ((h.1 c).2 Cert.KernelUp.main_arg1 (Pipeline.mem_restRefs_of Cert.KernelUp.main_arg1 (by decide) (by decide))).trans (Cert.KernelUp.Gen.V_main_arg1 m c),
      (Cert.KernelUp.Up.final_in h.1 c 2 rfl rfl).trans (Cert.KernelUp.Gen.V_main_arg2 m c),
      (Cert.KernelUp.Up.final_in h.1 c 3 rfl rfl).trans (Cert.KernelUp.Gen.V_main_arg3 m c),
      (Cert.KernelUp.Up.final_in h.1 c 4 rfl rfl).trans (Cert.KernelUp.Gen.V_main_arg4 m c),
      (Cert.KernelUp.Up.final_in h.1 c 6 rfl rfl).trans (Cert.KernelUp.Gen.V_main_arg5 m c),
      ((h.1 c).2 Cert.KernelUp.main_arg6 (Pipeline.mem_restRefs_of Cert.KernelUp.main_arg6 (by decide) (by decide))).trans (Cert.KernelUp.Gen.V_main_arg6 m c)⟩, h.2⟩)
    (Cert.KernelUp.Up.run_main m ρ)

/-- The gated up-projection: the idealized kernel's frame. -/
theorem frame_pi_up : Cert.quiescent_KernelUpIdeal := fun m ρ _ =>
  θ_run_with_sems (Cert.KernelUpIdeal.Gen.frame_of m ρ (Cert.KernelUpIdeal.Up.dats m) fun _ _ => rfl) (Cert.KernelUpIdeal.Up.run_main m ρ)

/-- The gated up-projection: the reference's frame. -/
theorem frame_ri_up : Cert.quiescent_ReferenceUpIdeal := fun m ρ _ =>
  (θ_run Cert.ReferenceUpIdeal.defs _ _).mono (fun r h => ⟨fun c => (h c).2,
      Idealize.ShloMosaic.sem_eq_zero_of_no_sems (by decide) r.2⟩)
    (Cert.ReferenceUpIdeal.Value.run m ρ)

/-- The gated up-projection: the idealized kernel and the reference, run from the same arguments, end with the same result array. -/
theorem algebraic_up : Cert.algebraic_KernelUpIdeal_ReferenceUpIdeal := by
  intro m g m' g' _ hargs
  refine ⟨fun c => Cert.KernelUpIdeal.Up.result
      (m ((c.tc : Thread Cert.KernelUpIdeal.nD Cert.KernelUpIdeal.τ).loc Cert.KernelUpIdeal.main_arg0))
      (m ((c.tc : Thread Cert.KernelUpIdeal.nD Cert.KernelUpIdeal.τ).loc Cert.KernelUpIdeal.main_arg1))
      (m ((c.tc : Thread Cert.KernelUpIdeal.nD Cert.KernelUpIdeal.τ).loc Cert.KernelUpIdeal.main_arg2))
      (m ((c.tc : Thread Cert.KernelUpIdeal.nD Cert.KernelUpIdeal.τ).loc Cert.KernelUpIdeal.main_arg3))
      (m ((c.tc : Thread Cert.KernelUpIdeal.nD Cert.KernelUpIdeal.τ).loc Cert.KernelUpIdeal.main_arg4))
      (m ((c.tc : Thread Cert.KernelUpIdeal.nD Cert.KernelUpIdeal.τ).loc Cert.KernelUpIdeal.main_arg5))
      (m ((c.tc : Thread Cert.KernelUpIdeal.nD Cert.KernelUpIdeal.τ).loc Cert.KernelUpIdeal.main_arg6)),
    Cert.KernelUpIdeal.Up.run_result m g, ?_⟩
  refine (θ_run Cert.ReferenceUpIdeal.defs _ _).mono (fun r h c => ⟨?_, (h c).2⟩) (Cert.ReferenceUpIdeal.Value.run m' g')
  obtain ⟨h0, h1, h2, h3, h4, h5, h6⟩ := hargs c
  refine (h c).1.trans ((Cert.ReferenceUpIdeal.Up.res_eq m' c).trans ((Cert.ReferenceUpIdeal.Up.value_eq _ _ _ _ _ _ _).trans ?_))
  rw [h0, h1, h2, h3, h4, h5, h6]

/-- Everything the certificate claims. -/
theorem claim : Cert.Claim :=
  ⟨Cert.Kernel.Gen.facts, Cert.KernelIdeal.Gen.facts, Cert.ReferenceIdeal.Gen.facts, Cert.KernelIn.Gen.facts, Cert.KernelInIdeal.Gen.facts,
    Cert.ReferenceInIdeal.Gen.facts, Cert.KernelDown.Gen.facts, Cert.KernelDownIdeal.Gen.facts, Cert.ReferenceDownIdeal.Gen.facts,
    Cert.KernelUp.Gen.facts, Cert.KernelUpIdeal.Gen.facts, Cert.ReferenceUpIdeal.Gen.facts,
    frame_p, frame_pi, frame_ri, frame_p_in, frame_pi_in, frame_ri_in, frame_p_down, frame_pi_down, frame_ri_down,
    frame_p_up, frame_pi_up, frame_ri_up,
    preserves, algebraic, trivial, algebraic_in, trivial, algebraic_down, trivial, algebraic_up⟩

end Cert.Proof

end
